-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_cross [hPre_finite_cross : Cert.Pre_finite_cross.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_cross.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite_cross.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_finite_cross.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_cross [hPre_finite_cross : Cert.Pre_finite_cross.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_cross.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite_cross.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_finite_cross.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_cross [hKernel8Ideal : Cert.Kernel8Ideal.Facts] [hPre_finite_cross : Cert.Pre_finite_cross.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_cross m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_cross [hReference8Ideal : Cert.Reference8Ideal.Facts] [hPre_finite_cross : Cert.Pre_finite_cross.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_cross m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_v59) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_finite_cross [hKernel8Ideal : Cert.Kernel8Ideal.Facts] [hReference8Ideal : Cert.Reference8Ideal.Facts] [hPre_finite_cross : Cert.Pre_finite_cross.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_cross m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v52) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts) (hPre_finite_cross : Cert.Pre_finite_cross.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_cross (hKernel8Ideal := hKernel8Ideal) (hPre_finite_cross := hPre_finite_cross)
    ∧ quiescent_Reference8Ideal (hReference8Ideal := hReference8Ideal)
    ∧ quiescent_Reference8Ideal_pre_finite_cross (hReference8Ideal := hReference8Ideal) (hPre_finite_cross := hPre_finite_cross)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_cross (hKernel8Ideal := hKernel8Ideal) (hReference8Ideal := hReference8Ideal) (hPre_finite_cross := hPre_finite_cross)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_cross.lean ====
abbrev S32768x2048 : Shape := ⟨2, ![32768, 2048]⟩
abbrev S4096x1024 : Shape := ⟨2, ![4096, 1024]⟩
abbrev S2048x512 : Shape := ⟨2, ![2048, 512]⟩
abbrev S512x2048 : Shape := ⟨2, ![512, 2048]⟩
abbrev S2048 : Shape := ⟨1, ![2048]⟩
abbrev S_ : Shape := ⟨0, ![]⟩
abbrev S4096x512 : Shape := ⟨2, ![4096, 512]⟩

class Facts : Prop where
  bcast_S_S32768x2048 : S_.BroadcastsInDim S32768x2048 (![] : Fin 0 → Fin S32768x2048.rank)
  bcast_S_S2048x512 : S_.BroadcastsInDim S2048x512 (![] : Fin 0 → Fin S2048x512.rank)
  slices_S4096x1024_S4096x512_0_0 : S4096x1024.Slices ![0, 0] S4096x512
  bcast_S_S4096x512 : S_.BroadcastsInDim S4096x512 (![] : Fin 0 → Fin S4096x512.rank)

variable [Facts]

def fn {F : FTy → Type} [FloatOps F] (main_arg0 : FVec F S32768x2048 .bf16) (main_arg1 : FVec F S32768x2048 .f32) (main_arg2 : FVec F S4096x1024 .bf16) (main_arg3 : FVec F S2048x512 .bf16) (main_arg4 : FVec F S512x2048 .bf16) (main_arg5 : FVec F S2048 .f32) (main_arg6 : FVec F S2048 .f32) : IVec S32768x2048 1 × IVec S2048x512 1 × IVec S4096x512 1 :=
  let main_v0 : FVec F S32768x2048 .bf16 := Host.absf main_arg0
  let main_cst : FVec F S_ .bf16 := constant S_ .bf16 0x7F80#16
  let main_v1 : FVec F S32768x2048 .bf16 := broadcastInDim S32768x2048 ![] bcast_S_S32768x2048 main_cst
  let main_v2 : IVec S32768x2048 1 := cmpf .olt main_v0 main_v1
  let main_v3 : FVec F S2048x512 .bf16 := Host.absf main_arg3
  let main_cst_0 : FVec F S_ .bf16 := constant S_ .bf16 0x7F80#16
  let main_v4 : FVec F S2048x512 .bf16 := broadcastInDim S2048x512 ![] bcast_S_S2048x512 main_cst_0
  let main_v5 : IVec S2048x512 1 := cmpf .olt main_v3 main_v4
  let main_v6 : FVec F S4096x512 .bf16 := (extractStridedSlice S4096x512 ![0, 0] · slices_S4096x1024_S4096x512_0_0) main_arg2
  let main_v7 : FVec F S4096x512 .bf16 := Host.absf main_v6
  let main_cst_1 : FVec F S_ .bf16 := constant S_ .bf16 0x7F80#16
  let main_v8 : FVec F S4096x512 .bf16 := broadcastInDim S4096x512 ![] bcast_S_S4096x512 main_cst_1
  let main_v9 : IVec S4096x512 1 := cmpf .olt main_v7 main_v8
  (main_v2, main_v5, main_v9)
-- ==== Pre_finite_scores.lean ====
abbrev S32768x3072 : Shape := ⟨2, ![32768, 3072]⟩
abbrev S128x2048x256 : Shape := ⟨3, ![128, 2048, 256]⟩
abbrev S32768x1536 : Shape := ⟨2, ![32768, 1536]⟩
abbrev S_ : Shape := ⟨0, ![]⟩

class Facts : Prop where
  slices_S32768x3072_S32768x1536_0_0 : S32768x3072.Slices ![0, 0] S32768x1536
  bcast_S_S32768x1536 : S_.BroadcastsInDim S32768x1536 (![] : Fin 0 → Fin S32768x1536.rank)

variable [Facts]

def fn {F : FTy → Type} [FloatOps F] (main_arg0 : FVec F S32768x3072 .bf16) (main_arg1 : FVec F S128x2048x256 .bf16) : IVec S32768x1536 1 :=
  let main_v0 : FVec F S32768x1536 .bf16 := (extractStridedSlice S32768x1536 ![0, 0] · slices_S32768x3072_S32768x1536_0_0) main_arg0
  let main_v1 : FVec F S32768x1536 .bf16 := Host.absf main_v0
  let main_cst : FVec F S_ .bf16 := constant S_ .bf16 0x7F80#16
  let main_v2 : FVec F S32768x1536 .bf16 := broadcastInDim S32768x1536 ![] bcast_S_S32768x1536 main_cst
  let main_v3 : IVec S32768x1536 1 := cmpf .olt main_v1 main_v2
  main_v3
-- ==== Kernel.lean ====
abbrev S32768x3072 : Shape := ⟨2, ![32768, 3072]⟩
abbrev S128x2048x256 : Shape := ⟨3, ![128, 2048, 256]⟩
abbrev S32768x768 : Shape := ⟨2, ![32768, 768]⟩
abbrev S2048x768 : Shape := ⟨2, ![2048, 768]⟩
abbrev S8x768x256 : Shape := ⟨3, ![8, 768, 256]⟩
abbrev S6x128x256 : Shape := ⟨3, ![6, 128, 256]⟩
abbrev S6x1x256 : Shape := ⟨3, ![6, 1, 256]⟩
abbrev S6x256x256 : Shape := ⟨3, ![6, 256, 256]⟩
abbrev S256x256 : Shape := ⟨2, ![256, 256]⟩
abbrev S256x128 : Shape := ⟨2, ![256, 128]⟩
abbrev S128x256 : Shape := ⟨2, ![128, 256]⟩
abbrev S1x128x256 : Shape := ⟨3, ![1, 128, 256]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩

abbrev nBuf : Space → Nat
  | .hbm => 3
  | .vmem => 15
  | .smem => 0
  | _ => 0

abbrev bufTy : (tb : Table) → Fin (tcTables nBuf tb) → BufTy
  | .hbm, ⟨0, _⟩ => ⟨S32768x3072, .bf16⟩
  | .hbm, ⟨1, _⟩ => ⟨S128x2048x256, .bf16⟩
  | .hbm, ⟨2, _⟩ => ⟨S32768x768, .bf16⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S8x768x256, .bf16⟩
  | .local _ .vmem, ⟨5, _⟩ => ⟨S8x768x256, .bf16⟩
  | .local _ .vmem, ⟨6, _⟩ => ⟨S2048x768, .bf16⟩
  | .local _ .vmem, ⟨7, _⟩ => ⟨S2048x768, .bf16⟩
  | .local _ .vmem, ⟨8, _⟩ => ⟨S6x128x256, .bf16⟩
  | .local _ .vmem, ⟨9, _⟩ => ⟨S6x1x256, .f32⟩
  | .local _ .vmem, ⟨10, _⟩ => ⟨S6x128x256, .f32⟩
  | .local _ .vmem, ⟨11, _⟩ => ⟨S6x256x256, .f32⟩
  | .local _ .vmem, ⟨12, _⟩ => ⟨S6x256x256, .f32⟩
  | .local _ .vmem, ⟨13, _⟩ => ⟨S6x1x256, .f32⟩
  | .local _ .vmem, ⟨14, _⟩ => ⟨S6x128x256, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v18 : BitVec 32 := Scalar.muli arg12 c256_i32
  v18
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v18 : BitVec 32 := Scalar.muli arg12 c256_i32
  let v19 : BitVec 32 := v18
  let v20 : Index := Scalar.indexCast v19
  let c0_7 : Index := 0#32
  ![v20.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_12 : BitVec 32 := 256#32
  let v30 : BitVec 32 := Scalar.muli arg12 c256_i32_12
  v30
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_21 : BitVec 32 := 256#32
  let v40 : BitVec 32 := Scalar.muli arg12 c256_i32_21
  v40
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_21 : BitVec 32 := 256#32
  let v40 : BitVec 32 := Scalar.muli arg12 c256_i32_21
  let v41 : BitVec 32 := v40
  let v42 : Index := Scalar.indexCast v41
  let c128 : Index := 128#32
  ![v42.toNat, 128]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_25 : BitVec 32 := 256#32
  let v52 : BitVec 32 := Scalar.muli arg12 c256_i32_25
  v52
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_34 : BitVec 32 := 256#32
  let v62 : BitVec 32 := Scalar.muli arg12 c256_i32_34
  v62
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_34 : BitVec 32 := 256#32
  let v62 : BitVec 32 := Scalar.muli arg12 c256_i32_34
  let v63 : BitVec 32 := v62
  let v64 : Index := Scalar.indexCast v63
  let c256 : Index := 256#32
  ![v64.toNat, 256]
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_38 : BitVec 32 := 256#32
  let v74 : BitVec 32 := Scalar.muli arg12 c256_i32_38
  v74
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_62 : BitVec 32 := 256#32
  let v108 : BitVec 32 := Scalar.muli arg12 c256_i32_62
  v108
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_62 : BitVec 32 := 256#32
  let v108 : BitVec 32 := Scalar.muli arg12 c256_i32_62
  let v109 : BitVec 32 := v108
  let v110 : Index := Scalar.indexCast v109
  let c384 : Index := 384#32
  ![v110.toNat, 384]
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_66 : BitVec 32 := 256#32
  let v120 : BitVec 32 := Scalar.muli arg12 c256_i32_66
  v120
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_90 : BitVec 32 := 256#32
  let v154 : BitVec 32 := Scalar.muli arg12 c256_i32_90
  v154
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_90 : BitVec 32 := 256#32
  let v154 : BitVec 32 := Scalar.muli arg12 c256_i32_90
  let v155 : BitVec 32 := v154
  let v156 : Index := Scalar.indexCast v155
  let c512 : Index := 512#32
  ![v156.toNat, 512]
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_94 : BitVec 32 := 256#32
  let v166 : BitVec 32 := Scalar.muli arg12 c256_i32_94
  v166
def k0_off6 (k0_t1 : Fin k0_t1_loop.trips) : Fin 3 → Nat :=
  let c0_i32 : BitVec 32 := 0#32
  let c1_i32 : BitVec 32 := 1#32
  let arg12 : BitVec 32 := Scf.iv c0_i32 c1_i32 k0_t1
  let v212 : Index := Scalar.indexCast arg12
  let c0_128 : Index := 0#32
  let c0_129 : Index := 0#32
  ![v212.toNat, 0, 0]
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_143 : BitVec 32 := 256#32
  let v228 : BitVec 32 := Scalar.muli arg12 c256_i32_143
  v228
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_143 : BitVec 32 := 256#32
  let v228 : BitVec 32 := Scalar.muli arg12 c256_i32_143
  let v229 : BitVec 32 := v228
  let v230 : Index := Scalar.indexCast v229
  let c640 : Index := 640#32
  ![v230.toNat, 640]
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_147 : BitVec 32 := 256#32
  let v240 : BitVec 32 := Scalar.muli arg12 c256_i32_147
  v240
def k0_off8 (k0_t1 : Fin k0_t1_loop.trips) : Fin 3 → Nat :=
  let c0_i32 : BitVec 32 := 0#32
  let c1_i32 : BitVec 32 := 1#32
  let arg12 : BitVec 32 := Scf.iv c0_i32 c1_i32 k0_t1
  let v286 : Index := Scalar.indexCast arg12
  let c128_181 : Index := 128#32
  let c0_182 : Index := 0#32
  ![v286.toNat, 128, 0]
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_198 : BitVec 32 := 256#32
  let v304 : BitVec 32 := Scalar.muli v303 c256_i32_198
  v304
def k0_off9 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_198 : BitVec 32 := 256#32
  let v304 : BitVec 32 := Scalar.muli v303 c256_i32_198
  let v305 : BitVec 32 := v304
  let v306 : Index := Scalar.indexCast v305
  let c0_199 : Index := 0#32
  ![v306.toNat, 0]
def k0_off10 (k0_t1 : Fin k0_t1_loop.trips) : Fin 3 → Nat :=
  let c0_i32 : BitVec 32 := 0#32
  let c1_i32 : BitVec 32 := 1#32
  let arg12 : BitVec 32 := Scf.iv c0_i32 c1_i32 k0_t1
  let v350 : Index := Scalar.indexCast arg12
  let c256_232 : Index := 256#32
  let c0_233 : Index := 0#32
  ![v350.toNat, 256, 0]
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_256 : BitVec 32 := 256#32
  let v374 : BitVec 32 := Scalar.muli v303 c256_i32_256
  v374
def k0_off11 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_256 : BitVec 32 := 256#32
  let v374 : BitVec 32 := Scalar.muli v303 c256_i32_256
  let v375 : BitVec 32 := v374
  let v376 : Index := Scalar.indexCast v375
  let c128_257 : Index := 128#32
  ![v376.toNat, 128]
def k0_off12 (k0_t1 : Fin k0_t1_loop.trips) : Fin 3 → Nat :=
  let c0_i32 : BitVec 32 := 0#32
  let c1_i32 : BitVec 32 := 1#32
  let arg12 : BitVec 32 := Scf.iv c0_i32 c1_i32 k0_t1
  let v420 : Index := Scalar.indexCast arg12
  let c384_290 : Index := 384#32
  let c0_291 : Index := 0#32
  ![v420.toNat, 384, 0]
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_314 : BitVec 32 := 256#32
  let v444 : BitVec 32 := Scalar.muli v303 c256_i32_314
  v444
def k0_off13 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_314 : BitVec 32 := 256#32
  let v444 : BitVec 32 := Scalar.muli v303 c256_i32_314
  let v445 : BitVec 32 := v444
  let v446 : Index := Scalar.indexCast v445
  let c256_315 : Index := 256#32
  ![v446.toNat, 256]
def k0_off14 (k0_t1 : Fin k0_t1_loop.trips) : Fin 3 → Nat :=
  let c0_i32 : BitVec 32 := 0#32
  let c1_i32 : BitVec 32 := 1#32
  let arg12 : BitVec 32 := Scf.iv c0_i32 c1_i32 k0_t1
  let v488 : Index := Scalar.indexCast arg12
  let c512_347 : Index := 512#32
  let c0_348 : Index := 0#32
  ![v488.toNat, 512, 0]
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_371 : BitVec 32 := 256#32
  let v512 : BitVec 32 := Scalar.muli v303 c256_i32_371
  v512
def k0_off15 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_371 : BitVec 32 := 256#32
  let v512 : BitVec 32 := Scalar.muli v303 c256_i32_371
  let v513 : BitVec 32 := v512
  let v514 : Index := Scalar.indexCast v513
  let c384_372 : Index := 384#32
  ![v514.toNat, 384]
def k0_off16 (k0_t1 : Fin k0_t1_loop.trips) : Fin 3 → Nat :=
  let c0_i32 : BitVec 32 := 0#32
  let c1_i32 : BitVec 32 := 1#32
  let arg12 : BitVec 32 := Scf.iv c0_i32 c1_i32 k0_t1
  let v556 : Index := Scalar.indexCast arg12
  let c640_404 : Index := 640#32
  let c0_405 : Index := 0#32
  ![v556.toNat, 640, 0]
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_428 : BitVec 32 := 256#32
  let v580 : BitVec 32 := Scalar.muli v303 c256_i32_428
  v580
def k0_off17 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_428 : BitVec 32 := 256#32
  let v580 : BitVec 32 := Scalar.muli v303 c256_i32_428
  let v581 : BitVec 32 := v580
  let v582 : Index := Scalar.indexCast v581
  let c512_429 : Index := 512#32
  ![v582.toNat, 512]
def k0_off18 (k0_t1 : Fin k0_t1_loop.trips) : Fin 3 → Nat :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let v622 : Index := Scalar.indexCast v303
  let c0_460 : Index := 0#32
  let c0_461 : Index := 0#32
  ![v622.toNat, 0, 0]
def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_484 : BitVec 32 := 256#32
  let v646 : BitVec 32 := Scalar.muli v303 c256_i32_484
  v646
def k0_off19 (k0_t1 : Fin k0_t1_loop.trips) : Fin 2 → Nat :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let c256_i32_484 : BitVec 32 := 256#32
  let v646 : BitVec 32 := Scalar.muli v303 c256_i32_484
  let v647 : BitVec 32 := v646
  let v648 : Index := Scalar.indexCast v647
  let c640_485 : Index := 640#32
  ![v648.toNat, 640]
def k0_off20 (k0_t1 : Fin k0_t1_loop.trips) : Fin 3 → Nat :=
  let c0_i32 : BitVec 32 := 0#32
  let c1_i32 : BitVec 32 := 1#32
  let arg12 : BitVec 32 := Scf.iv c0_i32 c1_i32 k0_t1
  let c1_i32_196 : BitVec 32 := 1#32
  let v302 : BitVec 32 := Scalar.subi arg12 c1_i32_196
  let c0_i32_197 : BitVec 32 := 0#32
  let v303 : BitVec 32 := Scalar.maxsi v302 c0_i32_197
  let v688 : Index := Scalar.indexCast v303
  let c128_516 : Index := 128#32
  let c0_517 : Index := 0#32
  ![v688.toNat, 128, 0]
@[reducible] def k0_t2_loop (k0_t1 : Fin k0_t1_loop.trips) : Scf.Loop 32 :=
  let c1_i32_541 : BitVec 32 := 1#32
  let c0_i32 : BitVec 32 := 0#32
  let c1_i32 : BitVec 32 := 1#32
  let arg12 : BitVec 32 := Scf.iv c0_i32 c1_i32 k0_t1
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_543 : BitVec 32 := 1#32
  ⟨c1_i32_541, v716, c1_i32_543⟩
def k0_mult19 (k0_t1 : Fin k0_t1_loop.trips) (k0_t2 : Fin (k0_t2_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_550 : BitVec 32 := 256#32
  let v725 : BitVec 32 := Scalar.muli v724 c256_i32_550
  v725
def k0_off21 (k0_t1 : Fin k0_t1_loop.trips) (k0_t2 : Fin (k0_t2_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_550 : BitVec 32 := 256#32
  let v725 : BitVec 32 := Scalar.muli v724 c256_i32_550
  let v726 : BitVec 32 := v725
  let v727 : Index := Scalar.indexCast v726
  let c0_551 : Index := 0#32
  ![v727.toNat, 0]
def k0_off22 (k0_t1 : Fin k0_t1_loop.trips) (k0_t2 : Fin (k0_t2_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let v767 : Index := Scalar.indexCast v723
  let c256_582 : Index := 256#32
  let c0_583 : Index := 0#32
  ![v767.toNat, 256, 0]
def k0_mult20 (k0_t1 : Fin k0_t1_loop.trips) (k0_t2 : Fin (k0_t2_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_606 : BitVec 32 := 256#32
  let v791 : BitVec 32 := Scalar.muli v724 c256_i32_606
  v791
def k0_off23 (k0_t1 : Fin k0_t1_loop.trips) (k0_t2 : Fin (k0_t2_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_606 : BitVec 32 := 256#32
  let v791 : BitVec 32 := Scalar.muli v724 c256_i32_606
  let v792 : BitVec 32 := v791
  let v793 : Index := Scalar.indexCast v792
  let c128_607 : Index := 128#32
  ![v793.toNat, 128]
def k0_off24 (k0_t1 : Fin k0_t1_loop.trips) (k0_t2 : Fin (k0_t2_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let v833 : Index := Scalar.indexCast v723
  let c384_638 : Index := 384#32
  let c0_639 : Index := 0#32
  ![v833.toNat, 384, 0]
def k0_mult21 (k0_t1 : Fin k0_t1_loop.trips) (k0_t2 : Fin (k0_t2_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_662 : BitVec 32 := 256#32
  let v857 : BitVec 32 := Scalar.muli v724 c256_i32_662
  v857
def k0_off25 (k0_t1 : Fin k0_t1_loop.trips) (k0_t2 : Fin (k0_t2_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_662 : BitVec 32 := 256#32
  let v857 : BitVec 32 := Scalar.muli v724 c256_i32_662
  let v858 : BitVec 32 := v857
  let v859 : Index := Scalar.indexCast v858
  let c256_663 : Index := 256#32
  ![v859.toNat, 256]
def k0_off26 (k0_t1 : Fin k0_t1_loop.trips) (k0_t2 : Fin (k0_t2_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let v899 : Index := Scalar.indexCast v723
  let c512_694 : Index := 512#32
  let c0_695 : Index := 0#32
  ![v899.toNat, 512, 0]
def k0_mult22 (k0_t1 : Fin k0_t1_loop.trips) (k0_t2 : Fin (k0_t2_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_718 : BitVec 32 := 256#32
  let v923 : BitVec 32 := Scalar.muli v724 c256_i32_718
  v923
def k0_off27 (k0_t1 : Fin k0_t1_loop.trips) (k0_t2 : Fin (k0_t2_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_718 : BitVec 32 := 256#32
  let v923 : BitVec 32 := Scalar.muli v724 c256_i32_718
  let v924 : BitVec 32 := v923
  let v925 : Index := Scalar.indexCast v924
  let c384_719 : Index := 384#32
  ![v925.toNat, 384]
def k0_off28 (k0_t1 : Fin k0_t1_loop.trips) (k0_t2 : Fin (k0_t2_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let v965 : Index := Scalar.indexCast v723
  let c640_750 : Index := 640#32
  let c0_751 : Index := 0#32
  ![v965.toNat, 640, 0]
def k0_mult23 (k0_t1 : Fin k0_t1_loop.trips) (k0_t2 : Fin (k0_t2_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_774 : BitVec 32 := 256#32
  let v989 : BitVec 32 := Scalar.muli v724 c256_i32_774
  v989
def k0_off29 (k0_t1 : Fin k0_t1_loop.trips) (k0_t2 : Fin (k0_t2_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_774 : BitVec 32 := 256#32
  let v989 : BitVec 32 := Scalar.muli v724 c256_i32_774
  let v990 : BitVec 32 := v989
  let v991 : Index := Scalar.indexCast v990
  let c512_775 : Index := 512#32
  ![v991.toNat, 512]
def k0_off30 (k0_t1 : Fin k0_t1_loop.trips) (k0_t2 : Fin (k0_t2_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let v1031 : Index := Scalar.indexCast v724
  let c0_806 : Index := 0#32
  let c0_807 : Index := 0#32
  ![v1031.toNat, 0, 0]
def k0_mult24 (k0_t1 : Fin k0_t1_loop.trips) (k0_t2 : Fin (k0_t2_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_830 : BitVec 32 := 256#32
  let v1055 : BitVec 32 := Scalar.muli v724 c256_i32_830
  v1055
def k0_off31 (k0_t1 : Fin k0_t1_loop.trips) (k0_t2 : Fin (k0_t2_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let c256_i32_830 : BitVec 32 := 256#32
  let v1055 : BitVec 32 := Scalar.muli v724 c256_i32_830
  let v1056 : BitVec 32 := v1055
  let v1057 : Index := Scalar.indexCast v1056
  let c640_831 : Index := 640#32
  ![v1057.toNat, 640]
def k0_off32 (k0_t1 : Fin k0_t1_loop.trips) (k0_t2 : Fin (k0_t2_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let c1_i32_543 : BitVec 32 := 1#32
  let arg13 : BitVec 32 := Scf.iv c1_i32_541 c1_i32_543 k0_t2
  let v723 : BitVec 32 := Scalar.subi arg12 arg13
  let c1_i32_549 : BitVec 32 := 1#32
  let v724 : BitVec 32 := Scalar.subi v723 c1_i32_549
  let v1097 : Index := Scalar.indexCast v724
  let c128_862 : Index := 128#32
  let c0_863 : Index := 0#32
  ![v1097.toNat, 128, 0]
@[reducible] def k0_t3_loop (k0_t1 : Fin k0_t1_loop.trips) : Scf.Loop 32 :=
  let c1_i32_541 : BitVec 32 := 1#32
  let c0_i32 : BitVec 32 := 0#32
  let c1_i32 : BitVec 32 := 1#32
  let arg12 : BitVec 32 := Scf.iv c0_i32 c1_i32 k0_t1
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let v713 : BitVec 32 := Scalar.addi c1_i32_541 v712
  let c1_i32_544 : BitVec 32 := 1#32
  ⟨v716, v713, c1_i32_544⟩
def k0_mult25 (k0_t1 : Fin k0_t1_loop.trips) (k0_t3 : Fin (k0_t3_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_550 : BitVec 32 := 256#32
  let v725 : BitVec 32 := Scalar.muli v724 c256_i32_550
  v725
def k0_off33 (k0_t1 : Fin k0_t1_loop.trips) (k0_t3 : Fin (k0_t3_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_550 : BitVec 32 := 256#32
  let v725 : BitVec 32 := Scalar.muli v724 c256_i32_550
  let v726 : BitVec 32 := v725
  let v727 : Index := Scalar.indexCast v726
  let c0_551 : Index := 0#32
  ![v727.toNat, 0]
def k0_off34 (k0_t1 : Fin k0_t1_loop.trips) (k0_t3 : Fin (k0_t3_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let v767 : Index := Scalar.indexCast v723
  let c256_582 : Index := 256#32
  let c0_583 : Index := 0#32
  ![v767.toNat, 256, 0]
def k0_mult26 (k0_t1 : Fin k0_t1_loop.trips) (k0_t3 : Fin (k0_t3_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_606 : BitVec 32 := 256#32
  let v791 : BitVec 32 := Scalar.muli v724 c256_i32_606
  v791
def k0_off35 (k0_t1 : Fin k0_t1_loop.trips) (k0_t3 : Fin (k0_t3_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_606 : BitVec 32 := 256#32
  let v791 : BitVec 32 := Scalar.muli v724 c256_i32_606
  let v792 : BitVec 32 := v791
  let v793 : Index := Scalar.indexCast v792
  let c128_607 : Index := 128#32
  ![v793.toNat, 128]
def k0_off36 (k0_t1 : Fin k0_t1_loop.trips) (k0_t3 : Fin (k0_t3_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let v833 : Index := Scalar.indexCast v723
  let c384_638 : Index := 384#32
  let c0_639 : Index := 0#32
  ![v833.toNat, 384, 0]
def k0_mult27 (k0_t1 : Fin k0_t1_loop.trips) (k0_t3 : Fin (k0_t3_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_662 : BitVec 32 := 256#32
  let v857 : BitVec 32 := Scalar.muli v724 c256_i32_662
  v857
def k0_off37 (k0_t1 : Fin k0_t1_loop.trips) (k0_t3 : Fin (k0_t3_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_662 : BitVec 32 := 256#32
  let v857 : BitVec 32 := Scalar.muli v724 c256_i32_662
  let v858 : BitVec 32 := v857
  let v859 : Index := Scalar.indexCast v858
  let c256_663 : Index := 256#32
  ![v859.toNat, 256]
def k0_off38 (k0_t1 : Fin k0_t1_loop.trips) (k0_t3 : Fin (k0_t3_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let v899 : Index := Scalar.indexCast v723
  let c512_694 : Index := 512#32
  let c0_695 : Index := 0#32
  ![v899.toNat, 512, 0]
def k0_mult28 (k0_t1 : Fin k0_t1_loop.trips) (k0_t3 : Fin (k0_t3_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_718 : BitVec 32 := 256#32
  let v923 : BitVec 32 := Scalar.muli v724 c256_i32_718
  v923
def k0_off39 (k0_t1 : Fin k0_t1_loop.trips) (k0_t3 : Fin (k0_t3_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_718 : BitVec 32 := 256#32
  let v923 : BitVec 32 := Scalar.muli v724 c256_i32_718
  let v924 : BitVec 32 := v923
  let v925 : Index := Scalar.indexCast v924
  let c384_719 : Index := 384#32
  ![v925.toNat, 384]
def k0_off40 (k0_t1 : Fin k0_t1_loop.trips) (k0_t3 : Fin (k0_t3_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let v965 : Index := Scalar.indexCast v723
  let c640_750 : Index := 640#32
  let c0_751 : Index := 0#32
  ![v965.toNat, 640, 0]
def k0_mult29 (k0_t1 : Fin k0_t1_loop.trips) (k0_t3 : Fin (k0_t3_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_774 : BitVec 32 := 256#32
  let v989 : BitVec 32 := Scalar.muli v724 c256_i32_774
  v989
def k0_off41 (k0_t1 : Fin k0_t1_loop.trips) (k0_t3 : Fin (k0_t3_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_774 : BitVec 32 := 256#32
  let v989 : BitVec 32 := Scalar.muli v724 c256_i32_774
  let v990 : BitVec 32 := v989
  let v991 : Index := Scalar.indexCast v990
  let c512_775 : Index := 512#32
  ![v991.toNat, 512]
def k0_off42 (k0_t1 : Fin k0_t1_loop.trips) (k0_t3 : Fin (k0_t3_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let v1031 : Index := Scalar.indexCast v724
  let c0_806 : Index := 0#32
  let c0_807 : Index := 0#32
  ![v1031.toNat, 0, 0]
def k0_mult30 (k0_t1 : Fin k0_t1_loop.trips) (k0_t3 : Fin (k0_t3_loop k0_t1).trips) : BitVec 32 :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_830 : BitVec 32 := 256#32
  let v1055 : BitVec 32 := Scalar.muli v724 c256_i32_830
  v1055
def k0_off43 (k0_t1 : Fin k0_t1_loop.trips) (k0_t3 : Fin (k0_t3_loop k0_t1).trips) : Fin 2 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let c256_i32_830 : BitVec 32 := 256#32
  let v1055 : BitVec 32 := Scalar.muli v724 c256_i32_830
  let v1056 : BitVec 32 := v1055
  let v1057 : Index := Scalar.indexCast v1056
  let c640_831 : Index := 640#32
  ![v1057.toNat, 640]
def k0_off44 (k0_t1 : Fin k0_t1_loop.trips) (k0_t3 : Fin (k0_t3_loop k0_t1).trips) : Fin 3 → Nat :=
  let c0_i32 : BitVec 32 := 0#32
  let c1_i32 : BitVec 32 := 1#32
  let arg12 : BitVec 32 := Scf.iv c0_i32 c1_i32 k0_t1
  let c1_i32_541 : BitVec 32 := 1#32
  let v712 : BitVec 32 := Scalar.subi arg12 c1_i32_541
  let c1_i32_542 : BitVec 32 := 1#32
  let v714 : BitVec 32 := Scalar.divsi v712 c1_i32_542
  let v715 : BitVec 32 := Scalar.muli v714 c1_i32_542
  let v716 : BitVec 32 := Scalar.addi c1_i32_541 v715
  let c1_i32_544 : BitVec 32 := 1#32
  let arg13 : BitVec 32 := Scf.iv v716 c1_i32_544 k0_t3
  let v723 : BitVec 32 := Scalar.subi arg12 arg13
  let c1_i32_549 : BitVec 32 := 1#32
  let v724 : BitVec 32 := Scalar.subi v723 c1_i32_549
  let v1097 : Index := Scalar.indexCast v724
  let c128_862 : Index := 128#32
  let c0_863 : Index := 0#32
  ![v1097.toNat, 128, 0]
def k0_cond1 (k0_t1 : Fin k0_t1_loop.trips) : BitVec 1 :=
  let c0_i32 : BitVec 32 := 0#32
  let c1_i32 : BitVec 32 := 1#32
  let arg12 : BitVec 32 := Scf.iv c0_i32 c1_i32 k0_t1
  let c0_i32_545 : BitVec 32 := 0#32
  let v717 : BitVec 1 := Scalar.cmpi .sgt arg12 c0_i32_545
  let v718 : BitVec 32 := Scalar.extui v717
  let c0_i32_546 : BitVec 32 := 0#32
  let v719 : BitVec 1 := Scalar.cmpi .ne v718 c0_i32_546
  v719

def k0_mult31 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_600 : BitVec 32 := 256#32
  let v782 : BitVec 32 := Scalar.muli arg12 c256_i32_600
  v782
def k0_off45 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_600 : BitVec 32 := 256#32
  let v782 : BitVec 32 := Scalar.muli arg12 c256_i32_600
  let v783 : BitVec 32 := v782
  let v784 : Index := Scalar.indexCast v783
  let c0_601 : Index := 0#32
  ![v784.toNat, 0]
def k0_mult32 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_653 : BitVec 32 := 256#32
  let v845 : BitVec 32 := Scalar.muli arg12 c256_i32_653
  v845
def k0_off46 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_653 : BitVec 32 := 256#32
  let v845 : BitVec 32 := Scalar.muli arg12 c256_i32_653
  let v846 : BitVec 32 := v845
  let v847 : Index := Scalar.indexCast v846
  let c128_654 : Index := 128#32
  ![v847.toNat, 128]
def k0_mult33 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_692 : BitVec 32 := 256#32
  let v886 : BitVec 32 := Scalar.muli arg12 c256_i32_692
  v886
def k0_off47 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_692 : BitVec 32 := 256#32
  let v886 : BitVec 32 := Scalar.muli arg12 c256_i32_692
  let v887 : BitVec 32 := v886
  let v888 : Index := Scalar.indexCast v887
  let c256_693 : Index := 256#32
  ![v888.toNat, 256]
def k0_mult34 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_731 : BitVec 32 := 256#32
  let v927 : BitVec 32 := Scalar.muli arg12 c256_i32_731
  v927
def k0_off48 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_731 : BitVec 32 := 256#32
  let v927 : BitVec 32 := Scalar.muli arg12 c256_i32_731
  let v928 : BitVec 32 := v927
  let v929 : Index := Scalar.indexCast v928
  let c384_732 : Index := 384#32
  ![v929.toNat, 384]
def k0_mult35 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_745 : BitVec 32 := 256#32
  let v943 : BitVec 32 := Scalar.muli arg12 c256_i32_745
  v943
def k0_off49 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_745 : BitVec 32 := 256#32
  let v943 : BitVec 32 := Scalar.muli arg12 c256_i32_745
  let v944 : BitVec 32 := v943
  let v945 : Index := Scalar.indexCast v944
  let c512_746 : Index := 512#32
  ![v945.toNat, 512]
def k0_mult36 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_759 : BitVec 32 := 256#32
  let v959 : BitVec 32 := Scalar.muli arg12 c256_i32_759
  v959
def k0_off50 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_759 : BitVec 32 := 256#32
  let v959 : BitVec 32 := Scalar.muli arg12 c256_i32_759
  let v960 : BitVec 32 := v959
  let v961 : Index := Scalar.indexCast v960
  let c640_760 : Index := 640#32
  ![v961.toNat, 640]
def k0_cond2 (k0_t1 : Fin k0_t1_loop.trips) : BitVec 1 :=
  let c0_i32 : BitVec 32 := 0#32
  let c1_i32 : BitVec 32 := 1#32
  let arg12 : BitVec 32 := Scf.iv c0_i32 c1_i32 k0_t1
  let c0_i32_547 : BitVec 32 := 0#32
  let v720 : BitVec 1 := Scalar.cmpi .eq arg12 c0_i32_547
  let v721 : BitVec 32 := Scalar.extui v720
  let c0_i32_548 : BitVec 32 := 0#32
  let v722 : BitVec 1 := Scalar.cmpi .ne v721 c0_i32_548
  v722

def k0_mult37 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_552 : BitVec 32 := 256#32
  let v727 : BitVec 32 := Scalar.muli arg12 c256_i32_552
  v727
def k0_off51 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_552 : BitVec 32 := 256#32
  let v727 : BitVec 32 := Scalar.muli arg12 c256_i32_552
  let v728 : BitVec 32 := v727
  let v729 : Index := Scalar.indexCast v728
  let c0_553 : Index := 0#32
  ![v729.toNat, 0]
def k0_mult38 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_557 : BitVec 32 := 256#32
  let v735 : BitVec 32 := Scalar.muli arg12 c256_i32_557
  v735
def k0_off52 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_557 : BitVec 32 := 256#32
  let v735 : BitVec 32 := Scalar.muli arg12 c256_i32_557
  let v736 : BitVec 32 := v735
  let v737 : Index := Scalar.indexCast v736
  let c128_558 : Index := 128#32
  ![v737.toNat, 128]
def k0_mult39 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_562 : BitVec 32 := 256#32
  let v743 : BitVec 32 := Scalar.muli arg12 c256_i32_562
  v743
def k0_off53 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_562 : BitVec 32 := 256#32
  let v743 : BitVec 32 := Scalar.muli arg12 c256_i32_562
  let v744 : BitVec 32 := v743
  let v745 : Index := Scalar.indexCast v744
  let c256_563 : Index := 256#32
  ![v745.toNat, 256]
def k0_mult40 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_567 : BitVec 32 := 256#32
  let v751 : BitVec 32 := Scalar.muli arg12 c256_i32_567
  v751
def k0_off54 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_567 : BitVec 32 := 256#32
  let v751 : BitVec 32 := Scalar.muli arg12 c256_i32_567
  let v752 : BitVec 32 := v751
  let v753 : Index := Scalar.indexCast v752
  let c384_568 : Index := 384#32
  ![v753.toNat, 384]
def k0_mult41 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_572 : BitVec 32 := 256#32
  let v759 : BitVec 32 := Scalar.muli arg12 c256_i32_572
  v759
def k0_off55 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_572 : BitVec 32 := 256#32
  let v759 : BitVec 32 := Scalar.muli arg12 c256_i32_572
  let v760 : BitVec 32 := v759
  let v761 : Index := Scalar.indexCast v760
  let c512_573 : Index := 512#32
  ![v761.toNat, 512]
def k0_mult42 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_577 : BitVec 32 := 256#32
  let v767 : BitVec 32 := Scalar.muli arg12 c256_i32_577
  v767
def k0_off56 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_577 : BitVec 32 := 256#32
  let v767 : BitVec 32 := Scalar.muli arg12 c256_i32_577
  let v768 : BitVec 32 := v767
  let v769 : Index := Scalar.indexCast v768
  let c640_578 : Index := 640#32
  ![v769.toNat, 640]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S32768x3072 : Shape := ⟨2, ![32768, 3072]⟩
abbrev S128x2048x256 : Shape := ⟨3, ![128, 2048, 256]⟩
abbrev S32768x768 : Shape := ⟨2, ![32768, 768]⟩
abbrev S16x2048x768 : Shape := ⟨3, ![16, 2048, 768]⟩
abbrev S16x8x2048x256 : Shape := ⟨4, ![16, 8, 2048, 256]⟩
abbrev S16x8x768x256 : Shape := ⟨4, ![16, 8, 768, 256]⟩
abbrev S16x8x256x768 : Shape := ⟨4, ![16, 8, 256, 768]⟩
abbrev S16x2048x6x128 : Shape := ⟨4, ![16, 2048, 6, 128]⟩
abbrev S16x6x2048x128 : Shape := ⟨4, ![16, 6, 2048, 128]⟩
abbrev S2048 : Shape := ⟨1, ![2048]⟩
abbrev S16x6x2048x2048 : Shape := ⟨4, ![16, 6, 2048, 2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S128x2048x256, .bf16⟩
  | .hbm, ⟨2, _⟩ => ⟨S32768x768, .bf16⟩
  | .hbm, ⟨3, _⟩ => ⟨S16x2048x768, .bf16⟩
  | .hbm, ⟨4, _⟩ => ⟨S32768x768, .bf16⟩
  | .hbm, ⟨5, _⟩ => ⟨S16x2048x768, .bf16⟩
  | .hbm, ⟨6, _⟩ => ⟨S16x8x2048x256, .bf16⟩
  | .hbm, ⟨7, _⟩ => ⟨S16x8x768x256, .bf16⟩
  | .hbm, ⟨8, _⟩ => ⟨S16x8x256x768, .bf16⟩
  | .hbm, ⟨9, _⟩ => ⟨S16x2048x768, .bf16⟩
  | .hbm, ⟨10, _⟩ => ⟨S16x2048x6x128, .bf16⟩
  | .hbm, ⟨11, _⟩ => ⟨S16x6x2048x128, .bf16⟩
  | .hbm, ⟨12, _⟩ => ⟨S16x2048x6x128, .bf16⟩
  | .hbm, ⟨13, _⟩ => ⟨S16x6x2048x128, .bf16⟩
  | .hbm, ⟨14, _⟩ => ⟨S16x2048x6x128, .bf16⟩
  | .hbm, ⟨15, _⟩ => ⟨S16x6x2048x128, .bf16⟩
  | .hbm, ⟨16, _⟩ => ⟨S2048, .i32⟩
  | .hbm, ⟨17, _⟩ => ⟨S16x6x2048x2048, .f32⟩
  | .hbm, ⟨18, _⟩ => ⟨S2048x1, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S16x6x2048x2048, .f32⟩
  | .hbm, ⟨24, _⟩ => ⟨S16x6x2048x2048, .f32⟩
  | .hbm, ⟨25, _⟩ => ⟨S_, .f32⟩
  | .hbm, ⟨26, _⟩ => ⟨S16x6x2048x2048, .f32⟩
  | .hbm, ⟨27, _⟩ => ⟨S16x6x2048x2048, .f32⟩
  | .hbm, ⟨28, _⟩ => ⟨S16x6x2048x2048, .f32⟩
  | .hbm, ⟨29, _⟩ => ⟨S16x6x2048x2048, .f32⟩
  | .hbm, ⟨30, _⟩ => ⟨S16x6x2048x2048, .i1⟩
  | .hbm, ⟨31, _⟩ => ⟨S16x6x2048x2048, .f32⟩
  | .hbm, ⟨32, _⟩ => ⟨S16x6x2048x2048, .f32⟩
  | .hbm, ⟨33, _⟩ => ⟨S16x6x2048x2048, .f32⟩
  | .hbm, ⟨34, _⟩ => ⟨S16x6x2048x2048, .f32⟩
  | .hbm, ⟨35, _⟩ => ⟨S16x6x2048x2048, .f32⟩
  | .hbm, ⟨36, _⟩ => ⟨S16x6x2048x2048, .f32⟩
  | .hbm, ⟨37, _⟩ => ⟨S16x6x2048x2048, .f32⟩
  | .hbm, ⟨38, _⟩ => ⟨S16x6x2048x2048, .f32⟩
  | .hbm, ⟨39, _⟩ => ⟨S16x6x2048x2048, .f32⟩
  | .hbm, ⟨40, _⟩ => ⟨S_, .f32⟩
  | .hbm, ⟨41, _⟩ => ⟨S_, .f32⟩
  | .hbm, ⟨42, _⟩ => ⟨S16x6x2048x2048, .i1⟩
  | .hbm, ⟨43, _⟩ => ⟨S16x6x2048x2048, .f32⟩
  | .hbm, ⟨44, _⟩ => ⟨S16x6x2048x2048, .f32⟩
  | .hbm, ⟨45, _⟩ => ⟨S_, .f32⟩
  | .hbm, ⟨46, _⟩ => ⟨S_, .f32⟩
  | .hbm, ⟨47, _⟩ => ⟨S16x6x2048x2048, .f32⟩
  | .hbm, ⟨48, _⟩ => ⟨S16x6x2048x2048, .f32⟩
  | .hbm, ⟨49, _⟩ => ⟨S16x6x2048x2048, .f32⟩
  | .hbm, ⟨50, _⟩ => ⟨S_, .f32⟩
  | .hbm, ⟨51, _⟩ => ⟨S16x6x2048x2048, .f32⟩
  | .hbm, ⟨52, _⟩ => ⟨S16x6x2048x2048, .f32⟩
  | .hbm, ⟨53, _⟩ => ⟨S16x6x2048x2048, .f32⟩
  | .hbm, ⟨54, _⟩ => ⟨S16x6x2048x2048, .f32⟩
  | .hbm, ⟨55, _⟩ => ⟨S16x6x2048x2048, .i1⟩
  | .hbm, ⟨56, _⟩ => ⟨S16x6x2048x2048, .f32⟩
  | .hbm, ⟨57, _⟩ => ⟨S16x6x2048x2048, .f32⟩
  | .hbm, ⟨58, _⟩ => ⟨S16x6x2048x2048, .f32⟩
  | .hbm, ⟨59, _⟩ => ⟨S16x6x2048x2048, .f32⟩
  | .hbm, ⟨60, _⟩ => ⟨S16x6x2048x2048, .f32⟩
  | .hbm, ⟨61, _⟩ => ⟨S16x6x2048x2048, .f32⟩
  | .hbm, ⟨62, _⟩ => ⟨S16x6x2048x2048, .f32⟩
  | .hbm, ⟨63, _⟩ => ⟨S16x6x2048x2048, .f32⟩
  | .hbm, ⟨64, _⟩ => ⟨S16x6x2048x2048, .f32⟩
  | .hbm, ⟨65, _⟩ => ⟨S16x6x2048x2048, .f32⟩
  | .hbm, ⟨66, _⟩ => ⟨S16x6x2048x2048, .f32⟩
  | .hbm, ⟨67, _⟩ => ⟨S_, .f32⟩
  | .hbm, ⟨68, _⟩ => ⟨S_, .f32⟩
  | .hbm, ⟨69, _⟩ => ⟨S16x6x2048x2048, .i1⟩
  | .hbm, ⟨70, _⟩ => ⟨S16x6x2048x2048, .f32⟩
  | .hbm, ⟨71, _⟩ => ⟨S16x6x2048x2048, .f32⟩
  | .hbm, ⟨72, _⟩ => ⟨S16x6x2048x2048, .bf16⟩
  | .hbm, ⟨73, _⟩ => ⟨S16x6x2048x128, .f32⟩
  | .hbm, ⟨74, _⟩ => ⟨S16x2048x6x128, .f32⟩
  | .hbm, ⟨75, _⟩ => ⟨S16x2048x768, .f32⟩
  | .hbm, ⟨76, _⟩ => ⟨S32768x768, .f32⟩
  | .hbm, ⟨77, _⟩ => ⟨S32768x768, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_0 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩

abbrev nD : Nat := 1
abbrev τ : Topo := Topo.v7x

variable {F : FTy → Type} [FloatOps F]
-- ==== Kernel2.lean ====
abbrev S32768x2048 : Shape := ⟨2, ![32768, 2048]⟩
abbrev S2048x5632 : Shape := ⟨2, ![2048, 5632]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .bf16⟩
  | .hbm, ⟨2, _⟩ => ⟨S2048x5632, .bf16⟩
  | .hbm, ⟨3, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32768x2048 : Shape := ⟨2, ![32768, 2048]⟩
abbrev S2048x5632 : Shape := ⟨2, ![2048, 5632]⟩
abbrev S32768x5632 : Shape := ⟨2, ![32768, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .bf16⟩
  | .hbm, ⟨2, _⟩ => ⟨S2048x5632, .bf16⟩
  | .hbm, ⟨3, _⟩ => ⟨S32768x5632, .f32⟩
  | .hbm, ⟨4, _⟩ => ⟨S32768x5632, .f32⟩
  | .hbm, ⟨5, _⟩ => ⟨S32768x5632, .f32⟩
  | .hbm, ⟨6, _⟩ => ⟨S32768x5632, .f32⟩
  | .hbm, ⟨7, _⟩ => ⟨S_, .f32⟩
  | .hbm, ⟨8, _⟩ => ⟨S32768x5632, .f32⟩
  | .hbm, ⟨9, _⟩ => ⟨S32768x5632, .f32⟩
  | .hbm, ⟨10, _⟩ => ⟨S_, .f32⟩
  | .hbm, ⟨11, _⟩ => ⟨S32768x5632, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S32768x5632, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel3.lean ====
abbrev S32768x2048 : Shape := ⟨2, ![32768, 2048]⟩
abbrev S2048x3072 : Shape := ⟨2, ![2048, 3072]⟩
abbrev S1x3072 : Shape := ⟨2, ![1, 3072]⟩
abbrev S32768x3072 : Shape := ⟨2, ![32768, 3072]⟩
abbrev S2048x2048 : Shape := ⟨2, ![2048, 2048]⟩
abbrev S2048x1024 : Shape := ⟨2, ![2048, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .bf16⟩
  | .hbm, ⟨2, _⟩ => ⟨S1x3072, .f32⟩
  | .hbm, ⟨3, _⟩ => ⟨S32768x3072, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32768x2048 : Shape := ⟨2, ![32768, 2048]⟩
abbrev S2048x3072 : Shape := ⟨2, ![2048, 3072]⟩
abbrev S1x3072 : Shape := ⟨2, ![1, 3072]⟩
abbrev S32768x3072 : Shape := ⟨2, ![32768, 3072]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .bf16⟩
  | .hbm, ⟨2, _⟩ => ⟨S1x3072, .f32⟩
  | .hbm, ⟨3, _⟩ => ⟨S32768x3072, .f32⟩
  | .hbm, ⟨4, _⟩ => ⟨S32768x3072, .f32⟩
  | .hbm, ⟨5, _⟩ => ⟨S32768x3072, .f32⟩
  | .hbm, ⟨6, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S128x2048x256 : Shape := ⟨3, ![128, 2048, 256]⟩
abbrev S1024x2048 : Shape := ⟨2, ![1024, 2048]⟩
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S128x2048x256, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x1024x256, .bf16⟩
  | .local _ .vmem, ⟨5, _⟩ => ⟨S8x1024x256, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S2048x2048 : Shape := ⟨2, ![2048, 2048]⟩
abbrev S128x256x2048 : Shape := ⟨3, ![128, 256, 2048]⟩
abbrev S128x2048x256 : Shape := ⟨3, ![128, 2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S2048x2048, .bf16⟩
  | .hbm, ⟨3, _⟩ => ⟨S32768x2048, .f32⟩
  | .hbm, ⟨4, _⟩ => ⟨S32768x2048, .bf16⟩
  | .hbm, ⟨5, _⟩ => ⟨S128x256x2048, .bf16⟩
  | .hbm, ⟨6, _⟩ => ⟨S128x2048x256, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S1x2048 : Shape := ⟨2, ![1, 2048]⟩
abbrev S512x2816 : Shape := ⟨2, ![512, 2816]⟩
abbrev S2816x2048 : Shape := ⟨2, ![2816, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S32768x2048, .f32⟩
  | .hbm, ⟨8, _⟩ => ⟨S32768x2048, .bf16⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let c1_i32 : BitVec 32 := 1#32
  let v7 : BitVec 1 := Scalar.cmpi .slt arg1 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c1_i32_6 : BitVec 32 := 1#32
  let v11 : BitVec 1 := Scalar.cmpi .eq arg1 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S32768x2048, .bf16⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel6.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S1x2048 : Shape := ⟨2, ![1, 2048]⟩
abbrev S512x2816 : Shape := ⟨2, ![512, 2816]⟩
abbrev S2816x2048 : Shape := ⟨2, ![2816, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .bf16⟩
  | .hbm, ⟨2, _⟩ => ⟨S32768x2048, .f32⟩
  | .hbm, ⟨3, _⟩ => ⟨S2048, .f32⟩
  | .hbm, ⟨4, _⟩ => ⟨S1x2048, .f32⟩
  | .hbm, ⟨5, _⟩ => ⟨S32768x2048, .f32⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let c1_i32 : BitVec 32 := 1#32
  let v7 : BitVec 1 := Scalar.cmpi .slt arg1 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c1_i32_6 : BitVec 32 := 1#32
  let v11 : BitVec 1 := Scalar.cmpi .eq arg1 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .bf16⟩
  | .hbm, ⟨2, _⟩ => ⟨S32768x2048, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel7.lean ====
abbrev S32768x512 : Shape := ⟨2, ![32768, 512]⟩
abbrev S32768x768 : Shape := ⟨2, ![32768, 768]⟩
abbrev S32768x2048 : Shape := ⟨2, ![32768, 2048]⟩
abbrev S2048x2048 : Shape := ⟨2, ![2048, 2048]⟩
abbrev S768 : Shape := ⟨1, ![768]⟩
abbrev S2048 : Shape := ⟨1, ![2048]⟩
abbrev S1x768 : Shape := ⟨2, ![1, 768]⟩
abbrev S1x2048 : Shape := ⟨2, ![1, 2048]⟩
abbrev S512x512 : Shape := ⟨2, ![512, 512]⟩
abbrev S512x768 : Shape := ⟨2, ![512, 768]⟩
abbrev S512x2048 : Shape := ⟨2, ![512, 2048]⟩
abbrev S512 : Shape := ⟨1, ![512]⟩
abbrev S512x1 : Shape := ⟨2, ![512, 1]⟩
abbrev S768x2048 : Shape := ⟨2, ![768, 2048]⟩

abbrev nBuf : Space → Nat
  | .hbm => 15
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S32768x768, .bf16⟩
  | .hbm, ⟨2, _⟩ => ⟨S32768x768, .bf16⟩
  | .hbm, ⟨3, _⟩ => ⟨S32768x2048, .f32⟩
  | .hbm, ⟨4, _⟩ => ⟨S2048x2048, .bf16⟩
  | .hbm, ⟨5, _⟩ => ⟨S768, .f32⟩
  | .hbm, ⟨6, _⟩ => ⟨S768, .f32⟩
  | .hbm, ⟨7, _⟩ => ⟨S2048, .f32⟩
  | .hbm, ⟨8, _⟩ => ⟨S2048, .f32⟩
  | .hbm, ⟨9, _⟩ => ⟨S1x768, .f32⟩
  | .hbm, ⟨10, _⟩ => ⟨S1x768, .f32⟩
  | .hbm, ⟨11, _⟩ => ⟨S1x2048, .f32⟩
  | .hbm, ⟨12, _⟩ => ⟨S1x2048, .f32⟩
  | .hbm, ⟨13, _⟩ => ⟨S32768x2048, .f32⟩
  | .hbm, ⟨14, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x768, .f32⟩
  | .local _ .vmem, ⟨10, _⟩ => ⟨S1x768, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S32768x512 : Shape := ⟨2, ![32768, 512]⟩
abbrev S32768x768 : Shape := ⟨2, ![32768, 768]⟩
abbrev S32768x2048 : Shape := ⟨2, ![32768, 2048]⟩
abbrev S2048x2048 : Shape := ⟨2, ![2048, 2048]⟩
abbrev S768 : Shape := ⟨1, ![768]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x768 : Shape := ⟨2, ![1, 768]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x768, .bf16⟩
  | .hbm, ⟨2, _⟩ => ⟨S32768x768, .bf16⟩
  | .hbm, ⟨3, _⟩ => ⟨S32768x2048, .f32⟩
  | .hbm, ⟨4, _⟩ => ⟨S2048x2048, .bf16⟩
  | .hbm, ⟨5, _⟩ => ⟨S768, .f32⟩
  | .hbm, ⟨6, _⟩ => ⟨S768, .f32⟩
  | .hbm, ⟨7, _⟩ => ⟨S2048, .f32⟩
  | .hbm, ⟨8, _⟩ => ⟨S2048, .f32⟩
  | .hbm, ⟨9, _⟩ => ⟨S32768x768, .f32⟩
  | .hbm, ⟨10, _⟩ => ⟨S32768x768, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x768, .f32⟩
  | .hbm, ⟨22, _⟩ => ⟨S32768x768, .f32⟩
  | .hbm, ⟨23, _⟩ => ⟨S1x768, .f32⟩
  | .hbm, ⟨24, _⟩ => ⟨S32768x768, .f32⟩
  | .hbm, ⟨25, _⟩ => ⟨S32768x768, .f32⟩
  | .hbm, ⟨26, _⟩ => ⟨S32768x768, .bf16⟩
  | .hbm, ⟨27, _⟩ => ⟨S32768x768, .f32⟩
  | .hbm, ⟨28, _⟩ => ⟨S32768x768, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x768, .f32⟩
  | .hbm, ⟨40, _⟩ => ⟨S32768x768, .f32⟩
  | .hbm, ⟨41, _⟩ => ⟨S1x768, .f32⟩
  | .hbm, ⟨42, _⟩ => ⟨S32768x768, .f32⟩
  | .hbm, ⟨43, _⟩ => ⟨S32768x768, .f32⟩
  | .hbm, ⟨44, _⟩ => ⟨S32768x768, .bf16⟩
  | .hbm, ⟨45, _⟩ => ⟨S32768x2048, .bf16⟩
  | .hbm, ⟨46, _⟩ => ⟨S32768x2048, .f32⟩
  | .hbm, ⟨47, _⟩ => ⟨S32768x2048, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x2048, .f32⟩
  | .hbm, ⟨59, _⟩ => ⟨S32768x2048, .f32⟩
  | .hbm, ⟨60, _⟩ => ⟨S1x2048, .f32⟩
  | .hbm, ⟨61, _⟩ => ⟨S32768x2048, .f32⟩
  | .hbm, ⟨62, _⟩ => ⟨S32768x2048, .f32⟩
  | .hbm, ⟨63, _⟩ => ⟨S32768x2048, .f32⟩
  | .hbm, ⟨64, _⟩ => ⟨S32768x2048, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S32768x1, .f32⟩
  | .hbm, ⟨75, _⟩ => ⟨S32768x2048, .f32⟩
  | .hbm, ⟨76, _⟩ => ⟨S32768x2048, .f32⟩
  | .hbm, ⟨77, _⟩ => ⟨S1x2048, .f32⟩
  | .hbm, ⟨78, _⟩ => ⟨S32768x2048, .f32⟩
  | .hbm, ⟨79, _⟩ => ⟨S32768x2048, .f32⟩
  | .hbm, ⟨80, _⟩ => ⟨S32768x2048, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel8.lean ====
abbrev S32768x2048 : Shape := ⟨2, ![32768, 2048]⟩
abbrev S4096x1024 : Shape := ⟨2, ![4096, 1024]⟩
abbrev S2048x512 : Shape := ⟨2, ![2048, 512]⟩
abbrev S512x2048 : Shape := ⟨2, ![512, 2048]⟩
abbrev S2048 : Shape := ⟨1, ![2048]⟩
abbrev S1x2048 : Shape := ⟨2, ![1, 2048]⟩
abbrev S256x1024 : Shape := ⟨2, ![256, 1024]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S4096x1024, .bf16⟩
  | .hbm, ⟨3, _⟩ => ⟨S2048x512, .bf16⟩
  | .hbm, ⟨4, _⟩ => ⟨S512x2048, .bf16⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S256x1024, .bf16⟩
  | .local _ .vmem, ⟨5, _⟩ => ⟨S256x1024, .bf16⟩
  | .local _ .vmem, ⟨6, _⟩ => ⟨S2048x512, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S32768x2048 : Shape := ⟨2, ![32768, 2048]⟩
abbrev S4096x1024 : Shape := ⟨2, ![4096, 1024]⟩
abbrev S2048x512 : Shape := ⟨2, ![2048, 512]⟩
abbrev S512x2048 : Shape := ⟨2, ![512, 2048]⟩
abbrev S2048 : Shape := ⟨1, ![2048]⟩
abbrev S32768x512 : Shape := ⟨2, ![32768, 512]⟩
abbrev S16x2048x4x128 : Shape := ⟨4, ![16, 2048, 4, 128]⟩
abbrev S16x256x8x128 : Shape := ⟨4, ![16, 256, 8, 128]⟩
abbrev S16x256x4x128 : Shape := ⟨4, ![16, 256, 4, 128]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S4096x1024, .bf16⟩
  | .hbm, ⟨3, _⟩ => ⟨S2048x512, .bf16⟩
  | .hbm, ⟨4, _⟩ => ⟨S512x2048, .bf16⟩
  | .hbm, ⟨5, _⟩ => ⟨S2048, .f32⟩
  | .hbm, ⟨6, _⟩ => ⟨S2048, .f32⟩
  | .hbm, ⟨7, _⟩ => ⟨S32768x512, .f32⟩
  | .hbm, ⟨8, _⟩ => ⟨S16x2048x4x128, .f32⟩
  | .hbm, ⟨9, _⟩ => ⟨S16x256x8x128, .bf16⟩
  | .hbm, ⟨10, _⟩ => ⟨S16x256x8x128, .f32⟩
  | .hbm, ⟨11, _⟩ => ⟨S16x256x4x128, .f32⟩
  | .hbm, ⟨12, _⟩ => ⟨S16x256x4x128, .f32⟩
  | .hbm, ⟨13, _⟩ => ⟨S16x4x2048x256, .f32⟩
  | .hbm, ⟨14, _⟩ => ⟨S_, .f32⟩
  | .hbm, ⟨15, _⟩ => ⟨S16x4x2048x256, .f32⟩
  | .hbm, ⟨16, _⟩ => ⟨S16x4x2048x256, .f32⟩
  | .hbm, ⟨17, _⟩ => ⟨S_, .f32⟩
  | .hbm, ⟨18, _⟩ => ⟨S16x4x2048, .f32⟩
  | .hbm, ⟨19, _⟩ => ⟨S_, .f32⟩
  | .hbm, ⟨20, _⟩ => ⟨S16x4x2048, .f32⟩
  | .hbm, ⟨21, _⟩ => ⟨S16x4x2048, .f32⟩
  | .hbm, ⟨22, _⟩ => ⟨S16x4x2048x1, .f32⟩
  | .hbm, ⟨23, _⟩ => ⟨S16x4x2048x256, .f32⟩
  | .hbm, ⟨24, _⟩ => ⟨S16x4x2048x256, .f32⟩
  | .hbm, ⟨25, _⟩ => ⟨S16x4x2048x256, .f32⟩
  | .hbm, ⟨26, _⟩ => ⟨S_, .f32⟩
  | .hbm, ⟨27, _⟩ => ⟨S16x4x2048, .f32⟩
  | .hbm, ⟨28, _⟩ => ⟨S16x4x2048x1, .f32⟩
  | .hbm, ⟨29, _⟩ => ⟨S16x4x2048x256, .f32⟩
  | .hbm, ⟨30, _⟩ => ⟨S16x4x2048x256, .f32⟩
  | .hbm, ⟨31, _⟩ => ⟨S16x4x128x2048, .f32⟩
  | .hbm, ⟨32, _⟩ => ⟨S16x2048x4x128, .f32⟩
  | .hbm, ⟨33, _⟩ => ⟨S32768x512, .f32⟩
  | .hbm, ⟨34, _⟩ => ⟨S32768x512, .bf16⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | .hbm, ⟨52, _⟩ => ⟨S32768x2048, .f32⟩
  | .hbm, ⟨53, _⟩ => ⟨S32768x2048, .f32⟩
  | .hbm, ⟨54, _⟩ => ⟨S_, .f32⟩
  | .hbm, ⟨55, _⟩ => ⟨S32768, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1, .f32⟩
  | .hbm, ⟨64, _⟩ => ⟨S32768x2048, .f32⟩
  | .hbm, ⟨65, _⟩ => ⟨S32768x2048, .f32⟩
  | .hbm, ⟨66, _⟩ => ⟨S1x2048, .f32⟩
  | .hbm, ⟨67, _⟩ => ⟨S32768x2048, .f32⟩
  | .hbm, ⟨68, _⟩ => ⟨S32768x2048, .f32⟩
  | .hbm, ⟨69, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel9.lean ====
abbrev S32768x2048 : Shape := ⟨2, ![32768, 2048]⟩
abbrev S2048x1024 : Shape := ⟨2, ![2048, 1024]⟩
abbrev S1x1024 : Shape := ⟨2, ![1, 1024]⟩
abbrev S32768x128 : Shape := ⟨2, ![32768, 128]⟩
abbrev S32768x1024 : Shape := ⟨2, ![32768, 1024]⟩
abbrev S2048x2048 : Shape := ⟨2, ![2048, 2048]⟩
abbrev S2048x128 : Shape := ⟨2, ![2048, 128]⟩

abbrev nBuf : Space → Nat
  | .hbm => 6
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .bf16⟩
  | .hbm, ⟨2, _⟩ => ⟨S1x1024, .f32⟩
  | .hbm, ⟨3, _⟩ => ⟨S32768x128, .f32⟩
  | .hbm, ⟨4, _⟩ => ⟨S32768x128, .f32⟩
  | .hbm, ⟨5, _⟩ => ⟨S32768x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S1x1024, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x1024, .bf16⟩
  | .local _ .vmem, ⟨9, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S32768x2048 : Shape := ⟨2, ![32768, 2048]⟩
abbrev S2048x1024 : Shape := ⟨2, ![2048, 1024]⟩
abbrev S1x1024 : Shape := ⟨2, ![1, 1024]⟩
abbrev S32768x128 : Shape := ⟨2, ![32768, 128]⟩
abbrev S32768x1024 : Shape := ⟨2, ![32768, 1024]⟩
abbrev S32768x16x64 : Shape := ⟨3, ![32768, 16, 64]⟩
abbrev S32768x16x32 : Shape := ⟨3, ![32768, 16, 32]⟩
abbrev S1x32768x1x128 : Shape := ⟨4, ![1, 32768, 1, 128]⟩
abbrev S1x32768x8x128 : Shape := ⟨4, ![1, 32768, 8, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .bf16⟩
  | .hbm, ⟨2, _⟩ => ⟨S1x1024, .f32⟩
  | .hbm, ⟨3, _⟩ => ⟨S32768x128, .f32⟩
  | .hbm, ⟨4, _⟩ => ⟨S32768x128, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x16x64, .f32⟩
  | .hbm, ⟨9, _⟩ => ⟨S32768x16x32, .f32⟩
  | .hbm, ⟨10, _⟩ => ⟨S32768x16x32, .f32⟩
  | .hbm, ⟨11, _⟩ => ⟨S32768x16x64, .f32⟩
  | .hbm, ⟨12, _⟩ => ⟨S1x32768x1x128, .f32⟩
  | .hbm, ⟨13, _⟩ => ⟨S1x32768x8x128, .f32⟩
  | .hbm, ⟨14, _⟩ => ⟨S32768x1024, .f32⟩
  | .hbm, ⟨15, _⟩ => ⟨S32768x16x64, .f32⟩
  | .hbm, ⟨16, _⟩ => ⟨S1x32768x1x128, .f32⟩
  | .hbm, ⟨17, _⟩ => ⟨S1x32768x8x128, .f32⟩
  | .hbm, ⟨18, _⟩ => ⟨S32768x1024, .f32⟩
  | .hbm, ⟨19, _⟩ => ⟨S32768x16x64, .f32⟩
  | .hbm, ⟨20, _⟩ => ⟨S32768x16x64, .f32⟩
  | .hbm, ⟨21, _⟩ => ⟨S32768x16x64, .f32⟩
  | .hbm, ⟨22, _⟩ => ⟨S32768x16x64, .f32⟩
  | .hbm, ⟨23, _⟩ => ⟨S32768x1024, .f32⟩
  | .hbm, ⟨24, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel10.lean ====
abbrev S4096x2048 : Shape := ⟨2, ![4096, 2048]⟩
abbrev S2048 : Shape := ⟨1, ![2048]⟩
abbrev S2048x1024 : Shape := ⟨2, ![2048, 1024]⟩
abbrev S1x2048 : Shape := ⟨2, ![1, 2048]⟩
abbrev S4096x1024 : Shape := ⟨2, ![4096, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x1024, .bf16⟩
  | .hbm, ⟨3, _⟩ => ⟨S1x2048, .f32⟩
  | .hbm, ⟨4, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4096x2048 : Shape := ⟨2, ![4096, 2048]⟩
abbrev S2048 : Shape := ⟨1, ![2048]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x1024, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x1024, .f32⟩
  | .hbm, ⟨21, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel11.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.KernelIdeal.State.lean ====
module

public import proofs.«01_k».proof.Proof.Gen.KernelIdeal.Loops
public import Idealize.ShloMosaic.Lib.Tactic
public import Idealize.ShloMosaic.Lib.ValueIdxCore
public import Idealize.ShloMosaic.Lib.Pipeline.Kit
public import Idealize.ShloMosaic.Lib.Pipeline.ReadBack

/-!
The running state of the stick-breaking kernel, one query block at a time.

A query block `i` meets the key blocks `i, i - 1, …, 0`. The `n`-th of them is block `i - n`. The definitions below
name what the kernel holds for head `h` when it has met `n` of them, over any float values.
-/

@[expose] public section
set_option maxRecDepth 16384
noncomputable section
namespace Cert.Proof.KernelIdeal
open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Rows `256 b …` and columns `128 h …` of a window of 2048 rows and 768 columns. -/
def rowsOf (x : Vec F S2048x768 .bf16) (b h : ℕ) : Vec F S256x128 .bf16 :=
  fun j => x (ix2 (Fin.ofNat 2048 (256 * b + (j 0).val)) (Fin.ofNat 768 (128 * h + (j 1).val)))

/-- Head `h` of the transposed values of block `b`. -/
def valsOf (x : Vec F S8x768x256 .bf16) (b h : ℕ) : Vec F S1x128x256 .bf16 :=
  fun j => x (ix3 (Fin.ofNat 8 b) (Fin.ofNat 768 (128 * h + (j 1).val)) (j 2))

section
variable (x1 x2 : Vec F S2048x768 .bf16) (x3 : Vec F S8x768x256 .bf16) (i h : ℕ)

/-- The negated, transposed queries of block `i`. -/
def QN : FVec F S1x128x256 .bf16 := k0_pay152 (rowsOf x1 i h)

/-- The negated scores of query block `i` against its `n`-th key block. -/
def Z (n : ℕ) : FVec F S1x256x256 .f32 := k0_pay6 (rowsOf x2 (i - n) h) (QN x1 i h)

/-- Sums of the log-remainders from a key on, inside the `n`-th block (the diagonal one masked). -/
def A : ℕ → FVec F S1x256x256 .f32
  | 0 => k0_pay161 k0_pay150 k0_pay151 (Z x1 x2 i h 0)
  | n + 1 => k0_pay8 k0_pay150 (Z x1 x2 i h (n + 1))

/-- Sum of all log-remainders of the `n`-th block. -/
def C : ℕ → FVec F S1x1x256 .f32
  | 0 => k0_pay176 k0_pay151 (Z x1 x2 i h 0)
  | n + 1 => k0_pay10 (k0_pay9 (Z x1 x2 i h (n + 1)))

/-- Sum of the log-remainders of the first `n` blocks. -/
def R : ℕ → FVec F S1x1x256 .f32
  | 0 => fun _ => Scalar.ofBits .f32 0x00000000#32
  | n + 1 => k0_pay12 (R n) (C x1 x2 i h n)

/-- The `n`-th block's part of the output. -/
def PV : ℕ → FVec F S1x128x256 .f32
  | 0 => k0_pay178 k0_pay151 (k0_pay177 (A x1 x2 i h 0) (R x1 x2 i h 0)) (Z x1 x2 i h 0) (valsOf x3 (i - 0) h)
  | n + 1 => k0_pay11 (A x1 x2 i h (n + 1)) (R x1 x2 i h (n + 1)) (Z x1 x2 i h (n + 1)) (valsOf x3 (i - (n + 1)) h)

/-- The output gathered over the first `n` blocks. -/
def ACC : ℕ → FVec F S1x128x256 .f32
  | 0 => fun _ => Scalar.ofBits .f32 0x00000000#32
  | n + 1 => k0_pay14 (k0_pay13 (ACC n)) (PV x1 x2 x3 i h n)

/-- What is written out for query block `i` and head `h`. -/
def OUT : FVec F S256x128 .bf16 := k0_pay4 (ACC x1 x2 x3 i h (i + 1))

end

/-! ### The buffers -/

abbrev UU (nD : Nat) (τ : Topo) : Type := UR sig nD τ
abbrev 𝒱₀ : Variants := Variants.none

/-- The contents of a memory reference's buffer. -/
abbrev Bf (F : FTy → Type) (c : Dev nD) {sp : Space} {S : Shape} {e : EltTy} (M : Memref sig .tc sp S e) : Type :=
  Buf (Elt F) (M.view.loc (c : Thread nD τ))

/-- A memory reference's buffer, held whole with the given contents. -/
abbrev pt (c : Dev nD) {sp : Space} {S : Shape} {e : EltTy} (M : Memref sig .tc sp S e) (f : Bf F c M) :
    sProp (MT nD τ sig Unit (Elt F) ℕ (UU nD τ) ℕ) :=
  M.view.loc (c : Thread nD τ) ↦{fullShare} f

variable {c : Dev nD} {sp : Space} {S : Shape} {e : EltTy}

/-- A load of the rectangle just written reads what was written. -/
theorem readAt_writes_self [∀ e, Nonempty (Elt F e)] (v : View sig .tc sp S e) (f : v.ty.Contents (Elt F)) (r : Rect S)
    (w : r.shape.Idx → Elt F e) (L : List (View.Piece (Elt F) S e)) :
    v.readAt (Elt F) r.toLoadRect (v.writes (Elt F) f (⟨r, w⟩ :: L)) = w := by
  exact (View.readAt_writes_of_cover v f (⟨r, w⟩ :: L) r.toLoadRect
    fun j => ⟨⟨r, w⟩, List.mem_cons_self, LoadRect.idx_mem r.toLoadRect j⟩).trans (View.readCov_cons_toLoadRect v r w L)

/-- A load apart from the rectangle just written reads what was there before. -/
theorem readAt_writes_skip (v : View sig .tc sp S e) (f : v.ty.Contents (Elt F)) (r : Rect S)
    (w : r.shape.Idx → Elt F e) (L : List (View.Piece (Elt F) S e)) (B : LoadRect S) (h : LoadRect.disj r B = true) :
    v.readAt (Elt F) B (v.writes (Elt F) f (⟨r, w⟩ :: L)) = v.readAt (Elt F) B (v.writes (Elt F) f L) :=
  View.readAt_writes_of_forall_not_mem v (v.writes (Elt F) f L) [⟨r, w⟩] B fun j p hp => by
    rw [List.mem_singleton] at hp
    subst hp
    exact LoadRect.idx_not_mem_of_disj h j

/-- A block of a 2048 × 768 window, loaded at its rows and columns. -/
theorem readAt_rows (v : View sig .tc sp S2048x768 .bf16) (f : v.ty.Contents (Elt F)) (b h : ℕ) (hb : b < 8) (hh : h < 6)
    (off : Fin 2 → ℕ) (hoff : off = ![256 * b, 128 * h]) (inb : ∀ a, off a + S256x128.size a ≤ S2048x768.size a) :
    v.readAt (Elt F) (Rect.unit (s := S2048x768) off S256x128.size inb).toLoadRect f = rowsOf (v.read (Elt F) f) b h := by
  subst hoff
  funext j
  rw [View.readAt_apply]
  unfold rowsOf
  congr 1
  funext a
  have h0 : (j 0).val < 256 := (j 0).isLt
  have h1 : (j 1).val < 128 := (j 1).isLt
  refine Fin.ext ?_
  fin_cases a
  · show 256 * b + 1 * (j 0).val = (256 * b + (j 0).val) % 2048
    omega
  · show 128 * h + 1 * (j 1).val = (128 * h + (j 1).val) % 768
    omega

/-- A head of the transposed values, loaded at its block and rows. -/
theorem readAt_vals (v : View sig .tc sp S8x768x256 .bf16) (f : v.ty.Contents (Elt F)) (b h : ℕ) (hb : b < 8) (hh : h < 6)
    (off : Fin 3 → ℕ) (hoff : off = ![b, 128 * h, 0]) (inb : ∀ a, off a + S1x128x256.size a ≤ S8x768x256.size a) :
    v.readAt (Elt F) (Rect.unit (s := S8x768x256) off S1x128x256.size inb).toLoadRect f = valsOf (v.read (Elt F) f) b h := by
  subst hoff
  funext j
  rw [View.readAt_apply]
  unfold valsOf
  congr 1
  funext a
  have h0 : (j 0).val < 1 := (j 0).isLt
  have h1 : (j 1).val < 128 := (j 1).isLt
  refine Fin.ext ?_
  fin_cases a
  · show b + 1 * (j 0).val = b % 8
    omega
  · show 128 * h + 1 * (j 1).val = (128 * h + (j 1).val) % 768
    omega
  · show 0 + 1 * (j 2).val = (j 2).val
    omega

theorem pay148_apply : (k0_pay148 : FVec F S6x1x256 .f32) = fun _ => Scalar.ofBits .f32 0x00000000#32 := rfl

theorem pay149_apply : (k0_pay149 : FVec F S6x128x256 .f32) = fun _ => Scalar.ofBits .f32 0x00000000#32 := rfl

/-- A load of any rectangle after the whole buffer was filled with one value reads that value. -/
theorem readCov_const [∀ e, Nonempty (Elt F e)] (v : View sig .tc sp S e) {off : Fin S.rank → ℕ} (inb) (a : Elt F e)
    (Z : S.Idx → Elt F e) (hZ : Z = fun _ => a) (L : List (View.Piece (Elt F) S e)) (r : Rect S) (h : ∀ a, off a = 0) :
    v.readCov (⟨Rect.unit off (no_index S.size) inb, Z⟩ :: L) r.toLoadRect = fun _ => a := by
  subst hZ
  exact View.readCov_fill v inb (fun _ => a) L r h

/-- After the running sums are cleared, every head's is zero. -/
theorem readCov_clear_r [∀ e, Nonempty (Elt F e)] (v : View sig .tc sp S6x1x256 .f32) (inb) (L : List (View.Piece (Elt F) S6x1x256 .f32))
    (r : Rect S6x1x256) :
    v.readCov (⟨Rect.unit (s := S6x1x256) ![0, 0, 0] S6x1x256.size inb, k0_pay148⟩ :: L) r.toLoadRect
      = fun _ => Scalar.ofBits (F := F) .f32 0x00000000#32 :=
  readCov_const v inb _ _ pay148_apply L r (by decide)

/-- After the gathered outputs are cleared, every head's is zero. -/
theorem readCov_clear_acc [∀ e, Nonempty (Elt F e)] (v : View sig .tc sp S6x128x256 .f32) (inb) (L : List (View.Piece (Elt F) S6x128x256 .f32))
    (r : Rect S6x128x256) :
    v.readCov (⟨Rect.unit (s := S6x128x256) ![0, 0, 0] S6x128x256.size inb, k0_pay149⟩ :: L) r.toLoadRect
      = fun _ => Scalar.ofBits (F := F) .f32 0x00000000#32 :=
  readCov_const v inb _ _ pay149_apply L r (by decide)

/-- The same with the cleared value written out. -/
theorem readCov_zero_r [∀ e, Nonempty (Elt F e)] (v : View sig .tc sp S6x1x256 .f32) (inb) (h) (L : List (View.Piece (Elt F) S6x1x256 .f32))
    (r : Rect S6x1x256) :
    v.readCov (⟨Rect.unit (s := S6x1x256) ![0, 0, 0] (no_index S6x1x256.size) inb,
      (shapeCast S6x1x256 (broadcast S6x1x256 (FloatOps.ofBits .f32 0x00000000#32 : F .f32)) h : FVec F S6x1x256 .f32)⟩ :: L) r.toLoadRect
      = fun _ => Scalar.ofBits (F := F) .f32 0x00000000#32 :=
  readCov_const v inb _ _ pay148_apply L r (by decide)

/-- The same with the cleared value written out. -/
theorem readCov_zero_acc [∀ e, Nonempty (Elt F e)] (v : View sig .tc sp S6x128x256 .f32) (inb) (h) (L : List (View.Piece (Elt F) S6x128x256 .f32))
    (r : Rect S6x128x256) :
    v.readCov (⟨Rect.unit (s := S6x128x256) ![0, 0, 0] (no_index S6x128x256.size) inb,
      (shapeCast S6x128x256 (broadcast S6x128x256 (FloatOps.ofBits .f32 0x00000000#32 : F .f32)) h : FVec F S6x128x256 .f32)⟩ :: L) r.toLoadRect
      = fun _ => Scalar.ofBits (F := F) .f32 0x00000000#32 :=
  readCov_const v inb _ _ pay149_apply L r (by decide)

/-! ### Where a step of the pipeline starts -/

/-- What the buffers hold when query block `i` is about to meet its `n`-th key block (`n ≥ 1`): the scores against that
block for every head; the sums inside it for the heads that are ahead; the outputs of the blocks before it. -/
structure Inv (c : Dev nD) (x1 x2 : Vec F S2048x768 .bf16) (x3 : Vec F S8x768x256 .bf16) (i n : ℕ)
    {arg5 : Memref sig .tc .vmem S6x128x256 .bf16} {arg6 : Memref sig .tc .vmem S6x1x256 .f32}
    {arg7 : Memref sig .tc .vmem S6x128x256 .f32} {arg8 arg9 : Memref sig .tc .vmem S6x256x256 .f32}
    {arg10 : Memref sig .tc .vmem S6x1x256 .f32} {arg11 : Memref sig .tc .vmem S6x128x256 .f32}
    (f5 : Bf F c arg5) (f6 : Bf F c arg6) (f7 : Bf F c arg7) (f8 : Bf F c arg8) (f9 : Bf F c arg9) (f10 : Bf F c arg10)
    (f11 : Bf F c arg11) : Prop where
  qn : ∀ h < 6, ∀ inb, arg5.view.readAt (Elt F) (Rect.unit (s := S6x128x256) ![h, 0, 0] S1x128x256.size inb).toLoadRect f5 = QN x1 i h
  r : ∀ h < 6, ∀ inb, arg6.view.readAt (Elt F) (Rect.unit (s := S6x1x256) ![h, 0, 0] S1x1x256.size inb).toLoadRect f6
    = R x1 x2 i h (if h < 2 then n + 1 else n)
  acc : ∀ h < 6, ∀ inb, arg7.view.readAt (Elt F) (Rect.unit (s := S6x128x256) ![h, 0, 0] S1x128x256.size inb).toLoadRect f7
    = ACC x1 x2 x3 i h n
  zn : ∀ h < 6, ∀ inb, arg8.view.readAt (Elt F) (Rect.unit (s := S6x256x256) ![h, 0, 0] S1x256x256.size inb).toLoadRect f8
    = Z x1 x2 i h n
  after : ∀ h < 4, ∀ inb, arg9.view.readAt (Elt F) (Rect.unit (s := S6x256x256) ![h, 0, 0] S1x256x256.size inb).toLoadRect f9
    = A x1 x2 i h n
  cs : ∀ h < 4, ∀ inb, arg10.view.readAt (Elt F) (Rect.unit (s := S6x1x256) ![h, 0, 0] S1x1x256.size inb).toLoadRect f10
    = C x1 x2 i h n
  pv : ∀ h < 2, ∀ inb, arg11.view.readAt (Elt F) (Rect.unit (s := S6x128x256) ![h, 0, 0] S1x128x256.size inb).toLoadRect f11
    = PV x1 x2 x3 i h n

/-! ### Where a trip loads from, and how many trips there are -/

/-- The inner loop of query block `i` takes `i - 1` trips. -/
theorem t2_trips (t : Fin k0_t1_loop.trips) : (k0_t2_loop t).trips = t.val - 1 := by
  revert t; decide +kernel

/-- The loop after it takes none. -/
theorem t3_trips (t : Fin k0_t1_loop.trips) : (k0_t3_loop t).trips = 0 := by
  revert t; decide +kernel

end Cert.Proof.KernelIdeal
-- ==== Proof.KernelIdeal.Trip.lean ====
module

public import proofs.«01_k».proof.Proof.KernelIdeal.State

/-!
One trip of the inner loop: the query block meets its `n`-th key block, `1 ≤ n`, while the scores of the next are made.
-/

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Rows and columns of the key block a trip loads for each head. -/
theorem trip_key_offs : ∀ (t1 : Fin k0_t1_loop.trips) (t2 : Fin (k0_t2_loop t1).trips),
    k0_off21 t1 t2 = ![256 * (t1.val - (t2.val + 2)), 128 * 0] ∧ k0_off23 t1 t2 = ![256 * (t1.val - (t2.val + 2)), 128 * 1] ∧
    k0_off25 t1 t2 = ![256 * (t1.val - (t2.val + 2)), 128 * 2] ∧ k0_off27 t1 t2 = ![256 * (t1.val - (t2.val + 2)), 128 * 3] ∧
    k0_off29 t1 t2 = ![256 * (t1.val - (t2.val + 2)), 128 * 4] ∧ k0_off31 t1 t2 = ![256 * (t1.val - (t2.val + 2)), 128 * 5] := by
  decide +kernel

/-- Block and rows of the values a trip loads for each head. -/
theorem trip_val_offs : ∀ (t1 : Fin k0_t1_loop.trips) (t2 : Fin (k0_t2_loop t1).trips),
    k0_off22 t1 t2 = ![t1.val - (t2.val + 1), 128 * 2, 0] ∧ k0_off24 t1 t2 = ![t1.val - (t2.val + 1), 128 * 3, 0] ∧
    k0_off26 t1 t2 = ![t1.val - (t2.val + 1), 128 * 4, 0] ∧ k0_off28 t1 t2 = ![t1.val - (t2.val + 1), 128 * 5, 0] ∧
    k0_off30 t1 t2 = ![t1.val - (t2.val + 2), 128 * 0, 0] ∧ k0_off32 t1 t2 = ![t1.val - (t2.val + 2), 128 * 1, 0] := by
  decide +kernel

variable (c : Dev nD) (i : grid0.Coords)
  (arg1 : Memref sig .tc .vmem S2048x768 .bf16) (harg1 : arg1.IsWhole)
  (arg2 : Memref sig .tc .vmem S2048x768 .bf16) (harg2 : arg2.IsWhole)
  (arg3 : Memref sig .tc .vmem S8x768x256 .bf16) (harg3 : arg3.IsWhole)
  (arg4 : Memref sig .tc .vmem S2048x768 .bf16) (harg4 : arg4.IsWhole)
  (arg5 : Memref sig .tc .vmem S6x128x256 .bf16) (harg5 : arg5.IsWhole)
  (arg6 : Memref sig .tc .vmem S6x1x256 .f32) (harg6 : arg6.IsWhole)
  (arg7 : Memref sig .tc .vmem S6x128x256 .f32) (harg7 : arg7.IsWhole)
  (arg8 : Memref sig .tc .vmem S6x256x256 .f32) (harg8 : arg8.IsWhole)
  (arg9 : Memref sig .tc .vmem S6x256x256 .f32) (harg9 : arg9.IsWhole)
  (arg10 : Memref sig .tc .vmem S6x1x256 .f32) (harg10 : arg10.IsWhole)
  (arg11 : Memref sig .tc .vmem S6x128x256 .f32) (harg11 : arg11.IsWhole)
  (k0_t1 : Fin k0_t1_loop.trips) (arg12 : BitVec 32)

set_option maxHeartbeats 4000000 in
/-- A trip moves the state from the `n`-th key block to the next. -/
theorem trip2
    (k0_t2 : Fin (k0_t2_loop k0_t1).trips) (x1 : Vec F S2048x768 .bf16)
    (f2 : Bf F c arg2) (f3 : Bf F c arg3) (f5 : Bf F c arg5) (f6 : Bf F c arg6) (f7 : Bf F c arg7) (f8 : Bf F c arg8) (f9 : Bf F c arg9) (f10 : Bf F c arg10) (f11 : Bf F c arg11)
    (I : Inv c x1 (arg2.view.read (Elt F) f2) (arg3.view.read (Elt F) f3) k0_t1.val (k0_t2.val + 1) f5 f6 f7 f8 f9 f10 f11) :
    iprop(pt c arg2 f2 ∗ pt c arg3 f3 ∗ pt c arg5 f5 ∗ pt c arg6 f6 ∗ pt c arg7 f7 ∗ pt c arg8 f8 ∗ pt c arg9 f9 ∗ pt c arg10 f10 ∗ pt c arg11 f11)
    ⊢ wp frame (wpE (defs₀ (F := F)) 𝒱₀ (c : Thread nD τ) none) Set.univ
      (k0_t2_body i arg1 harg1 arg2 harg2 arg3 harg3 arg4 harg4 arg5 harg5 arg6 harg6 arg7 harg7 arg8 harg8 arg9 harg9 arg10 harg10 arg11 harg11 k0_t1 arg12 k0_pay150 k0_t2 ())
      (fun _ => iprop(pt c arg2 f2 ∗ pt c arg3 f3 ∗ pt c arg5 f5 ∗ ∃ f6 f7 f8 f9 f10 f11,
        pt c arg6 f6 ∗ pt c arg7 f7 ∗ pt c arg8 f8 ∗ pt c arg9 f9 ∗ pt c arg10 f10 ∗ pt c arg11 f11
        ∗ ⌜Inv c x1 (arg2.view.read (Elt F) f2) (arg3.view.read (Elt F) f3) k0_t1.val (k0_t2.val + 2) f5 f6 f7 f8 f9 f10 f11⌝)) := by
  obtain ⟨ok0, ok1, ok2, ok3, ok4, ok5⟩ := trip_key_offs k0_t1 k0_t2
  obtain ⟨ov2, ov3, ov4, ov5, ov0, ov1⟩ := trip_val_offs k0_t1 k0_t2
  have hi : k0_t1.val < 8 := k0_t1.isLt
  unfold k0_t2_body
  iintro ⟨H2, H3, H5, H6, H7, H8, H9, H10, H11⟩
  sl_exec_parts
  sl_step
  isplitl [H2]; · iexact H2
  isplitl [H3]; · iexact H3
  isplitl [H5]; · iexact H5
  iexists _, _, _, _, _, _
  isplitl [H6]; · iexact H6
  isplitl [H7]; · iexact H7
  isplitl [H8]; · iexact H8
  isplitl [H9]; · iexact H9
  isplitl [H10]; · iexact H10
  isplitl [H11]; · iexact H11
  ipureintro
  have hq := I.qn
  have hr := I.r
  have hacc := I.acc
  have hz := I.zn
  have hA := I.after
  have hC := I.cs
  have hP := I.pv
  have lk0 := fun inb => readAt_rows arg2.view f2 _ 0 (by omega) (by decide) _ ok0 inb
  have lk1 := fun inb => readAt_rows arg2.view f2 _ 1 (by omega) (by decide) _ ok1 inb
  have lk2 := fun inb => readAt_rows arg2.view f2 _ 2 (by omega) (by decide) _ ok2 inb
  have lk3 := fun inb => readAt_rows arg2.view f2 _ 3 (by omega) (by decide) _ ok3 inb
  have lk4 := fun inb => readAt_rows arg2.view f2 _ 4 (by omega) (by decide) _ ok4 inb
  have lk5 := fun inb => readAt_rows arg2.view f2 _ 5 (by omega) (by decide) _ ok5 inb
  have lv0 := fun inb => readAt_vals arg3.view f3 _ 0 (by omega) (by decide) _ ov0 inb
  have lv1 := fun inb => readAt_vals arg3.view f3 _ 1 (by omega) (by decide) _ ov1 inb
  have lv2 := fun inb => readAt_vals arg3.view f3 _ 2 (by omega) (by decide) _ ov2 inb
  have lv3 := fun inb => readAt_vals arg3.view f3 _ 3 (by omega) (by decide) _ ov3 inb
  have lv4 := fun inb => readAt_vals arg3.view f3 _ 4 (by omega) (by decide) _ ov4 inb
  have lv5 := fun inb => readAt_vals arg3.view f3 _ 5 (by omega) (by decide) _ ov5 inb
  refine ⟨I.qn, ?_, ?_, ?_, ?_, ?_, ?_⟩ <;> intro h hh inb <;> interval_cases h <;>
    obtain rfl : (by decide) = inb := rfl
  all_goals
    sl_unfold_run_names
    simp (disch := decide) only [↓readAt_writes_self, ↓readAt_writes_skip, ↓View.readCov_cons_toLoadRect, ↓View.readCov_skip,
      hq, hr, hacc, hz, hA, hC, hP, lk0, lk1, lk2, lk3, lk4, lk5, lv0, lv1, lv2, lv3, lv4, lv5]
    rfl

end Cert.Proof.KernelIdeal
-- ==== Proof.KernelIdeal.Out.lean ====
module

public import proofs.«01_k».proof.Proof.KernelIdeal.State
public import Idealize.ShloMosaic.Lib.WritesUnit

/-!
What the output window holds after some of its blocks are written.
-/

@[expose] public section
set_option maxRecDepth 16384
noncomputable section
namespace Cert.Proof.KernelIdeal
open Cert.KernelIdeal Cert.KernelIdeal.Gen
open Idealize.ShloMosaic Idealize.ShloMosaic.ValueIdx Idealize.ShloMosaic.TcCoe Idealize.ShloMosaic.Tactic

variable {F : FTy → Type} [FloatOps F] [Named F]

/-- The whole output window. -/
def outAt (x1 x2 : Vec F S2048x768 .bf16) (x3 : Vec F S8x768x256 .bf16) : Vec F S2048x768 .bf16 :=
  fun y => OUT x1 x2 x3 ((y 0).val / 256) ((y 1).val / 128) (ix2 (Fin.ofNat 256 (y 0).val) (Fin.ofNat 128 (y 1).val))

/-- The window is written for the query blocks before `t`, and for the heads before `h` of block `t`. -/
def Done (x1 x2 : Vec F S2048x768 .bf16) (x3 : Vec F S8x768x256 .bf16) (t h : ℕ) (w : Vec F S2048x768 .bf16) : Prop :=
  ∀ y : S2048x768.Idx, ((y 0).val < 256 * t ∨ ((y 0).val < 256 * (t + 1) ∧ (y 1).val < 128 * h)) → w y = outAt x1 x2 x3 y

/-- Writing the next head's block. -/
theorem out_step {sp : Space} (v : View sig .tc sp S2048x768 .bf16) (f : v.ty.Contents (Elt F))
    (x1 x2 : Vec F S2048x768 .bf16) (x3 : Vec F S8x768x256 .bf16) (t h : ℕ) (off : Fin 2 → ℕ) (hoff : off = ![256 * t, 128 * h])
    (inb : ∀ a, off a + S256x128.size a ≤ S2048x768.size a) (w : S256x128.Idx → Elt F .bf16) (L : List (View.Piece (Elt F) S2048x768 .bf16))
    (hw : w = OUT x1 x2 x3 t h) (H : Done x1 x2 x3 t h (v.read (Elt F) (v.writes (Elt F) f L))) :
    Done x1 x2 x3 t (h + 1) (v.read (Elt F) (v.writes (Elt F) f
      ((⟨Rect.unit (s := S2048x768) off S256x128.size inb, w⟩ : View.Piece (Elt F) S2048x768 .bf16) :: L))) := by
  intro y hy
  by_cases hin : (256 * t ≤ (y 0).val ∧ (y 0).val < 256 * t + 256) ∧ (128 * h ≤ (y 1).val ∧ (y 1).val < 128 * h + 128)
  · rw [View.read_writes_cons_unit_of_mem v f inb w L y
      (ix2 (Fin.ofNat 256 (y 0).val) (Fin.ofNat 128 (y 1).val)) hoff (by
        intro a
        match a with
        | 0 => show (y 0).val = 256 * t + (y 0).val % 256; omega
        | 1 => show (y 1).val = 128 * h + (y 1).val % 128; omega)]
    have e0 : (y 0).val / 256 = t := by omega
    have e1 : (y 1).val / 128 = h := by omega
    unfold outAt
    rw [hw, e0, e1]
  · by_cases h0 : (y 0).val < 256 * t ∨ 256 * t + 256 ≤ (y 0).val
    · rw [View.read_writes_cons_unit_of_not_mem v f inb w L y hoff 0 h0]
      exact H y (by omega)
    · rw [View.read_writes_cons_unit_of_not_mem v f inb w L y hoff 1 (by
        show (y 1).val < 128 * h ∨ 128 * h + 128 ≤ (y 1).val; omega)]
      exact H y (by omega)

/-- After the sixth head the block is done. -/
theorem done_next (x1 x2 : Vec F S2048x768 .bf16) (x3 : Vec F S8x768x256 .bf16) (t : ℕ) (w : Vec F S2048x768 .bf16)
    (H : Done x1 x2 x3 t 6 w) : Done x1 x2 x3 (t + 1) 0 w := by
  intro y hy
  have h1 : (y 1).val < 768 := (y 1).isLt
  exact H y (by omega)

/-- After the eighth query block the window is the whole output. -/
theorem done_all (x1 x2 : Vec F S2048x768 .bf16) (x3 : Vec F S8x768x256 .bf16) (w : Vec F S2048x768 .bf16)
    (H : Done x1 x2 x3 8 0 w) : w = outAt x1 x2 x3 := by
  funext y
  have h0 : (y 0).val < 2048 := (y 0).isLt
  exact H y (by omega)

/-- Where the rows and columns of the blocks written are. -/
theorem out_offs : ∀ t : Fin k0_t1_loop.trips,
    k0_off45 t = ![256 * t.val, 128 * 0] ∧ k0_off46 t = ![256 * t.val, 128 * 1] ∧ k0_off47 t = ![256 * t.val, 128 * 2] ∧
    k0_off48 t = ![256 * t.val, 128 * 3] ∧ k0_off49 t = ![256 * t.val, 128 * 4] ∧ k0_off50 t = ![256 * t.val, 128 * 5] ∧
    k0_off51 t = ![256 * t.val, 128 * 0] ∧ k0_off52 t = ![256 * t.val, 128 * 1] ∧ k0_off53 t = ![256 * t.val, 128 * 2] ∧
    k0_off54 t = ![256 * t.val, 128 * 3] ∧ k0_off55 t = ![256 * t.val, 128 * 4] ∧ k0_off56 t = ![256 * t.val, 128 * 5] := by
  decide +kernel

end Cert.Proof.KernelIdeal
-- ==== Proof.KernelIdeal.Outer.lean ====
module

public import proofs.«01_k».proof.Proof.KernelIdeal.Trip
public import proofs.«01_k».proof.Proof.KernelIdeal.Out

/-!
One query block: its queries are taken, the diagonal block is met, then the earlier key blocks, and the block is written.
-/

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Rows and columns of the queries and keys of the diagonal block. -/
theorem diag_row_offs : ∀ t : Fin k0_t1_loop.trips,
    k0_off1 t = ![256 * t.val, 128 * 0] ∧ k0_off2 t = ![256 * t.val, 128 * 1] ∧ k0_off3 t = ![256 * t.val, 128 * 2] ∧
    k0_off4 t = ![256 * t.val, 128 * 3] ∧ k0_off5 t = ![256 * t.val, 128 * 4] ∧ k0_off7 t = ![256 * t.val, 128 * 5] := by
  decide +kernel

/-- Rows and columns of the keys of the block before it. -/
theorem next_row_offs : ∀ t : Fin k0_t1_loop.trips,
    k0_off9 t = ![256 * (t.val - 1), 128 * 0] ∧ k0_off11 t = ![256 * (t.val - 1), 128 * 1] ∧
    k0_off13 t = ![256 * (t.val - 1), 128 * 2] ∧ k0_off15 t = ![256 * (t.val - 1), 128 * 3] ∧
    k0_off17 t = ![256 * (t.val - 1), 128 * 4] ∧ k0_off19 t = ![256 * (t.val - 1), 128 * 5] := by
  decide +kernel

/-- Block and rows of the values taken before the inner loop. -/
theorem diag_val_offs : ∀ t : Fin k0_t1_loop.trips,
    k0_off6 t = ![t.val, 128 * 0, 0] ∧ k0_off8 t = ![t.val, 128 * 1, 0] ∧ k0_off10 t = ![t.val, 128 * 2, 0] ∧
    k0_off12 t = ![t.val, 128 * 3, 0] ∧ k0_off14 t = ![t.val, 128 * 4, 0] ∧ k0_off16 t = ![t.val, 128 * 5, 0] ∧
    k0_off18 t = ![t.val - 1, 128 * 0, 0] ∧ k0_off20 t = ![t.val - 1, 128 * 1, 0] := by
  decide +kernel

/-- The inner loops run only their counted trips, and the two ends of a query block are told apart by its number. -/
theorem conds : ∀ t : Fin k0_t1_loop.trips, (k0_cond1 t = 1#1 ↔ 0 < t.val) ∧ (k0_cond2 t = 1#1 ↔ t.val = 0) := by
  decide +kernel

variable (c : Dev nD) (i : grid0.Coords)
  (arg1 : Memref sig .tc .vmem S2048x768 .bf16) (harg1 : arg1.IsWhole)
  (arg2 : Memref sig .tc .vmem S2048x768 .bf16) (harg2 : arg2.IsWhole)
  (arg3 : Memref sig .tc .vmem S8x768x256 .bf16) (harg3 : arg3.IsWhole)
  (arg4 : Memref sig .tc .vmem S2048x768 .bf16) (harg4 : arg4.IsWhole)
  (arg5 : Memref sig .tc .vmem S6x128x256 .bf16) (harg5 : arg5.IsWhole)
  (arg6 : Memref sig .tc .vmem S6x1x256 .f32) (harg6 : arg6.IsWhole)
  (arg7 : Memref sig .tc .vmem S6x128x256 .f32) (harg7 : arg7.IsWhole)
  (arg8 : Memref sig .tc .vmem S6x256x256 .f32) (harg8 : arg8.IsWhole)
  (arg9 : Memref sig .tc .vmem S6x256x256 .f32) (harg9 : arg9.IsWhole)
  (arg10 : Memref sig .tc .vmem S6x1x256 .f32) (harg10 : arg10.IsWhole)
  (arg11 : Memref sig .tc .vmem S6x128x256 .f32) (harg11 : arg11.IsWhole)
  (k0_t1 : Fin k0_t1_loop.trips)

/-- A trip of the inner loop keeps the running state. -/
theorem trip2_step (arg12 : BitVec 32) (k : Fin (k0_t2_loop k0_t1).trips) (acc : Unit) (x1 : Vec F S2048x768 .bf16) (f2 : Bf F c arg2) (f3 : Bf F c arg3) :
    iprop(pt c arg2 f2 ∗ pt c arg3 f3 ∗ ∃ f5 f6 f7 f8 f9 f10 f11,
    pt c arg5 f5 ∗ pt c arg6 f6 ∗ pt c arg7 f7 ∗ pt c arg8 f8 ∗ pt c arg9 f9 ∗ pt c arg10 f10 ∗ pt c arg11 f11
    ∗ ⌜Inv c x1 (arg2.view.read (Elt F) f2) (arg3.view.read (Elt F) f3) k0_t1.val (k.val + 1) f5 f6 f7 f8 f9 f10 f11⌝)
    ⊢ wp frame (wpE (defs₀ (F := F)) 𝒱₀ (c : Thread nD τ) none) Set.univ
      (k0_t2_body i arg1 harg1 arg2 harg2 arg3 harg3 arg4 harg4 arg5 harg5 arg6 harg6 arg7 harg7 arg8 harg8 arg9 harg9 arg10 harg10 arg11 harg11 k0_t1 arg12 k0_pay150 k acc)
      (fun _ => iprop(pt c arg2 f2 ∗ pt c arg3 f3 ∗ ∃ f5 f6 f7 f8 f9 f10 f11,
    pt c arg5 f5 ∗ pt c arg6 f6 ∗ pt c arg7 f7 ∗ pt c arg8 f8 ∗ pt c arg9 f9 ∗ pt c arg10 f10 ∗ pt c arg11 f11
    ∗ ⌜Inv c x1 (arg2.view.read (Elt F) f2) (arg3.view.read (Elt F) f3) k0_t1.val (k.val + 1 + 1) f5 f6 f7 f8 f9 f10 f11⌝)) := by
  iintro ⟨H2, H3, %g5, %g6, %g7, %g8, %g9, %g10, %g11, H5, H6, H7, H8, H9, H10, H11, %I⟩
  have post : iprop(pt c arg2 f2 ∗ pt c arg3 f3 ∗ pt c arg5 g5 ∗ ∃ f6 f7 f8 f9 f10 f11,
      pt c arg6 f6 ∗ pt c arg7 f7 ∗ pt c arg8 f8 ∗ pt c arg9 f9 ∗ pt c arg10 f10 ∗ pt c arg11 f11
      ∗ ⌜Inv c x1 (arg2.view.read (Elt F) f2) (arg3.view.read (Elt F) f3) k0_t1.val (k.val + 2) g5 f6 f7 f8 f9 f10 f11⌝)
      ⊢ iprop(pt c arg2 f2 ∗ pt c arg3 f3 ∗ ∃ f5 f6 f7 f8 f9 f10 f11,
      pt c arg5 f5 ∗ pt c arg6 f6 ∗ pt c arg7 f7 ∗ pt c arg8 f8 ∗ pt c arg9 f9 ∗ pt c arg10 f10 ∗ pt c arg11 f11
      ∗ ⌜Inv c x1 (arg2.view.read (Elt F) f2) (arg3.view.read (Elt F) f3) k0_t1.val (k.val + 1 + 1) f5 f6 f7 f8 f9 f10 f11⌝) := by
    iintro ⟨H2, H3, H5, %g6, %g7, %g8, %g9, %g10, %g11, H6, H7, H8, H9, H10, H11, %J⟩
    isplitl [H2]; · iexact H2
    isplitl [H3]; · iexact H3
    iexists _, _, _, _, _, _, _
    isplitl [H5]; · iexact H5
    isplitl [H6]; · iexact H6
    isplitl [H7]; · iexact H7
    isplitl [H8]; · iexact H8
    isplitl [H9]; · iexact H9
    isplitl [H10]; · iexact H10
    isplitl [H11]; · iexact H11
    ipureintro
    exact J
  have T := (trip2 c i arg1 harg1 arg2 harg2 arg3 harg3 arg4 harg4 arg5 harg5 arg6 harg6 arg7 harg7 arg8 harg8 arg9 harg9 arg10 harg10 arg11 harg11 k0_t1 arg12 k x1 f2 f3 g5 g6 g7 g8 g9 g10 g11 I).trans (wp_mono _ _ _ fun _ => post)
  iapply T $$ [H2 H3 H5 H6 H7 H8 H9 H10 H11]
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
theorem trip1 (f1 : Bf F c arg1) (f2 : Bf F c arg2) (f3 : Bf F c arg3) (f4 : Bf F c arg4) (f5 : Bf F c arg5) (f6 : Bf F c arg6) (f7 : Bf F c arg7) (f8 : Bf F c arg8) (f9 : Bf F c arg9) (f10 : Bf F c arg10) (f11 : Bf F c arg11)
    (D : Done (arg1.view.read (Elt F) f1) (arg2.view.read (Elt F) f2) (arg3.view.read (Elt F) f3) k0_t1.val 0 (arg4.view.read (Elt F) f4)) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11)
    ⊢ wp frame (wpE (defs₀ (F := F)) 𝒱₀ (c : Thread nD τ) none) Set.univ
      (k0_t1_body i arg1 harg1 arg2 harg2 arg3 harg3 arg4 harg4 arg5 harg5 arg6 harg6 arg7 harg7 arg8 harg8 arg9 harg9 arg10 harg10 arg11 harg11 k0_t1 ())
      (fun _ => iprop(pt c arg1 f1 ∗ pt c arg2 f2 ∗ pt c arg3 f3 ∗ ∃ f4 f5 f6 f7 f8 f9 f10 f11,
        pt c arg4 f4 ∗ pt c arg5 f5 ∗ pt c arg6 f6 ∗ pt c arg7 f7 ∗ pt c arg8 f8 ∗ pt c arg9 f9 ∗ pt c arg10 f10 ∗ pt c arg11 f11
        ∗ ⌜Done (arg1.view.read (Elt F) f1) (arg2.view.read (Elt F) f2) (arg3.view.read (Elt F) f3) (k0_t1.val + 1) 0 (arg4.view.read (Elt F) f4)⌝)) := by
  obtain ⟨oq0, oq1, oq2, oq3, oq4, oq5⟩ := diag_row_offs k0_t1
  obtain ⟨ok0, ok1, ok2, ok3, ok4, ok5⟩ := next_row_offs k0_t1
  obtain ⟨ov0, ov1, ov2, ov3, ov4, ov5, ow0, ow1⟩ := diag_val_offs k0_t1
  obtain ⟨hc1, hc2⟩ := conds k0_t1
  have hi : k0_t1.val < 8 := k0_t1.isLt
  unfold k0_t1_body
  iintro ⟨H1, H2, H3, H4, H5, H6, H7, H8, H9, H10, H11⟩
  sl_exec_parts
  sl_for (fun k _ => iprop(pt c arg2 f2 ∗ pt c arg3 f3 ∗ ∃ f5 f6 f7 f8 f9 f10 f11,
    pt c arg5 f5 ∗ pt c arg6 f6 ∗ pt c arg7 f7 ∗ pt c arg8 f8 ∗ pt c arg9 f9 ∗ pt c arg10 f10 ∗ pt c arg11 f11
    ∗ ⌜Inv c (arg1.view.read (Elt F) f1) (arg2.view.read (Elt F) f2) (arg3.view.read (Elt F) f3) k0_t1.val (k + 1) f5 f6 f7 f8 f9 f10 f11⌝))
    $$ [H2 H3 H5 H6 H7 H8 H9 H10 H11]
  · intro k acc

    exact trip2_step c i arg1 harg1 arg2 harg2 arg3 harg3 arg4 harg4 arg5 harg5 arg6 harg6 arg7 harg7 arg8 harg8 arg9 harg9 arg10 harg10 arg11 harg11 k0_t1 _ k acc _ f2 f3
  · isplitl [H2]; · iexact H2
    isplitl [H3]; · iexact H3
    iexists _, _, _, _, _, _, _
    isplitl [H5]; · iexact H5
    isplitl [H6]; · iexact H6
    isplitl [H7]; · iexact H7
    isplitl [H8]; · iexact H8
    isplitl [H9]; · iexact H9
    isplitl [H10]; · iexact H10
    isplitl [H11]; · iexact H11
    ipureintro
    have lq0 := fun inb => readAt_rows arg1.view f1 _ 0 hi (by decide) _ oq0 inb
    have lq1 := fun inb => readAt_rows arg1.view f1 _ 1 hi (by decide) _ oq1 inb
    have lq2 := fun inb => readAt_rows arg1.view f1 _ 2 hi (by decide) _ oq2 inb
    have lq3 := fun inb => readAt_rows arg1.view f1 _ 3 hi (by decide) _ oq3 inb
    have lq4 := fun inb => readAt_rows arg1.view f1 _ 4 hi (by decide) _ oq4 inb
    have lq5 := fun inb => readAt_rows arg1.view f1 _ 5 hi (by decide) _ oq5 inb
    have ld0 := fun inb => readAt_rows arg2.view f2 _ 0 hi (by decide) _ oq0 inb
    have ld1 := fun inb => readAt_rows arg2.view f2 _ 1 hi (by decide) _ oq1 inb
    have ld2 := fun inb => readAt_rows arg2.view f2 _ 2 hi (by decide) _ oq2 inb
    have ld3 := fun inb => readAt_rows arg2.view f2 _ 3 hi (by decide) _ oq3 inb
    have ld4 := fun inb => readAt_rows arg2.view f2 _ 4 hi (by decide) _ oq4 inb
    have ld5 := fun inb => readAt_rows arg2.view f2 _ 5 hi (by decide) _ oq5 inb
    have lk0 := fun inb => readAt_rows arg2.view f2 _ 0 (by omega) (by decide) _ ok0 inb
    have lk1 := fun inb => readAt_rows arg2.view f2 _ 1 (by omega) (by decide) _ ok1 inb
    have lk2 := fun inb => readAt_rows arg2.view f2 _ 2 (by omega) (by decide) _ ok2 inb
    have lk3 := fun inb => readAt_rows arg2.view f2 _ 3 (by omega) (by decide) _ ok3 inb
    have lk4 := fun inb => readAt_rows arg2.view f2 _ 4 (by omega) (by decide) _ ok4 inb
    have lk5 := fun inb => readAt_rows arg2.view f2 _ 5 (by omega) (by decide) _ ok5 inb
    have lv0 := fun inb => readAt_vals arg3.view f3 _ 0 hi (by decide) _ ov0 inb
    have lv1 := fun inb => readAt_vals arg3.view f3 _ 1 hi (by decide) _ ov1 inb
    have lv2 := fun inb => readAt_vals arg3.view f3 _ 2 hi (by decide) _ ov2 inb
    have lv3 := fun inb => readAt_vals arg3.view f3 _ 3 hi (by decide) _ ov3 inb
    have lv4 := fun inb => readAt_vals arg3.view f3 _ 4 hi (by decide) _ ov4 inb
    have lv5 := fun inb => readAt_vals arg3.view f3 _ 5 hi (by decide) _ ov5 inb
    have lw0 := fun inb => readAt_vals arg3.view f3 _ 0 (by omega) (by decide) _ ow0 inb
    have lw1 := fun inb => readAt_vals arg3.view f3 _ 1 (by omega) (by decide) _ ow1 inb
    refine ⟨?_, ?_, ?_, ?_, ?_, ?_, ?_⟩ <;> intro h hh inb <;> interval_cases h <;>
      obtain rfl : (by decide) = inb := rfl
    all_goals
      sl_unfold_run_names
      simp (disch := decide) only [↓readAt_writes_self, ↓readAt_writes_skip, ↓View.readCov_cons_toLoadRect, ↓View.readCov_skip,
        ↓readCov_clear_r, ↓readCov_clear_acc, ↓readCov_zero_r, ↓readCov_zero_acc,
        lq0, lq1, lq2, lq3, lq4, lq5, ld0, ld1, ld2, ld3, ld4, ld5, lk0, lk1, lk2, lk3, lk4, lk5, lv0, lv1, lv2, lv3, lv4, lv5, lw0, lw1]
      rfl
  iintro %acc HI
  icases HI with ⟨H2, H3, %g5, %g6, %g7, %g8, %g9, %g10, %g11, H5, H6, H7, H8, H9, H10, H11, %I⟩
  sl_exec_parts
  sl_for (fun (k : ℕ) (_ : Unit) => iprop(pt c arg2 f2)) $$ [H2]
  · intro k acc
    have e : Scf.trips (k0_t3_loop k0_t1).lb (k0_t3_loop k0_t1).ub (k0_t3_loop k0_t1).st = 0 := t3_trips k0_t1
    have := k.isLt
    omega
  · iexact H2
  iintro %acc2 H2
  have hn : Scf.trips (k0_t2_loop k0_t1).lb (k0_t2_loop k0_t1).ub (k0_t2_loop k0_t1).st = k0_t1.val - 1 := t2_trips k0_t1
  rw [hn] at I
  obtain ⟨p0, p1, p2, p3, p4, p5, q0, q1, q2, q3, q4, q5⟩ := out_offs k0_t1
  have hq := I.qn
  have hr := I.r
  have hacc := I.acc
  have hz := I.zn
  have hA := I.after
  have hC := I.cs
  have hP := I.pv
  rcases Nat.eq_zero_or_pos k0_t1.val with h0 | h0
  · have n1 : ¬ k0_cond1 k0_t1 = 1#1 := fun h => by have := hc1.mp h; omega
    have n2 : k0_cond2 k0_t1 = 1#1 := hc2.mpr h0
    sl_exec_parts
    sl_step
    isplitl [H1]; · iexact H1
    isplitl [H2]; · iexact H2
    isplitl [H3]; · iexact H3
    iexists _, _, _, _, _, _, _, _
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    ipureintro
    refine done_next _ _ _ _ _ ?_
    sl_unfold_run_names
    refine out_step _ _ _ _ _ _ 5 _ q5 _ _ _ ?_ (out_step _ _ _ _ _ _ 4 _ q4 _ _ _ ?_ (out_step _ _ _ _ _ _ 3 _ q3 _ _ _ ?_
      (out_step _ _ _ _ _ _ 2 _ q2 _ _ _ ?_ (out_step _ _ _ _ _ _ 1 _ q1 _ _ _ ?_ (out_step _ _ _ _ _ _ 0 _ q0 _ _ [] ?_ D)))))
    all_goals
      try simp (disch := decide) only [↓readAt_writes_self, ↓readAt_writes_skip, ↓View.readCov_cons_toLoadRect, ↓View.readCov_skip, hacc]
      unfold OUT
      rw [show k0_t1.val + 1 = k0_t1.val - 1 + 1 by omega]
      try rfl
  · have n1 : k0_cond1 k0_t1 = 1#1 := hc1.mpr h0
    have n2 : ¬ k0_cond2 k0_t1 = 1#1 := fun h => by have := hc2.mp h; omega
    sl_exec_parts
    sl_step
    isplitl [H1]; · iexact H1
    isplitl [H2]; · iexact H2
    isplitl [H3]; · iexact H3
    iexists _, _, _, _, _, _, _, _
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    ipureintro
    obtain ⟨m, hm⟩ : ∃ m, k0_t1.val = m + 1 := ⟨k0_t1.val - 1, by omega⟩
    have lv2 := fun inb => readAt_vals arg3.view f3 (m + 1 - (m + 1)) 2 (by omega) (by decide) ![0, 256, 0] (by rw [Nat.sub_self]) inb
    have lv3 := fun inb => readAt_vals arg3.view f3 (m + 1 - (m + 1)) 3 (by omega) (by decide) ![0, 384, 0] (by rw [Nat.sub_self]) inb
    have lv4 := fun inb => readAt_vals arg3.view f3 (m + 1 - (m + 1)) 4 (by omega) (by decide) ![0, 512, 0] (by rw [Nat.sub_self]) inb
    have lv5 := fun inb => readAt_vals arg3.view f3 (m + 1 - (m + 1)) 5 (by omega) (by decide) ![0, 640, 0] (by rw [Nat.sub_self]) inb
    refine done_next _ _ _ _ _ ?_
    sl_unfold_run_names
    refine out_step _ _ _ _ _ _ 5 _ p5 _ _ _ ?_ (out_step _ _ _ _ _ _ 4 _ p4 _ _ _ ?_ (out_step _ _ _ _ _ _ 3 _ p3 _ _ _ ?_
      (out_step _ _ _ _ _ _ 2 _ p2 _ _ _ ?_ (out_step _ _ _ _ _ _ 1 _ p1 _ _ _ ?_ (out_step _ _ _ _ _ _ 0 _ p0 _ _ [] ?_ D)))))
    all_goals
      simp (disch := decide) only [↓readAt_writes_self, ↓readAt_writes_skip, ↓View.readCov_cons_toLoadRect, ↓View.readCov_skip,
        hq, hr, hacc, hz, hA, hC, hP, lv2, lv3, lv4, lv5]
      unfold OUT
      try simp only [hm, Nat.add_sub_cancel]
      rfl

end Cert.Proof.KernelIdeal
-- ==== Proof.KernelIdeal.Run.lean ====
module

public import proofs.«01_k».proof.Proof.KernelIdeal.Outer
public import proofs.«01_k».proof.Proof.Gen.KernelIdeal.Frame
public import Idealize.ShloMosaic.Lib.Pipeline.Value

/-!
The whole run: a grid point writes its window in full, and the result array is the windows side by side.
-/

@[expose] public section
set_option maxRecDepth 16384
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Point
variable (c : Dev nD) (i : grid0.Coords)
  (arg1 : Memref sig .tc .vmem S2048x768 .bf16) (harg1 : arg1.IsWhole)
  (arg2 : Memref sig .tc .vmem S2048x768 .bf16) (harg2 : arg2.IsWhole)
  (arg3 : Memref sig .tc .vmem S8x768x256 .bf16) (harg3 : arg3.IsWhole)
  (arg4 : Memref sig .tc .vmem S2048x768 .bf16) (harg4 : arg4.IsWhole)
  (arg5 : Memref sig .tc .vmem S6x128x256 .bf16) (harg5 : arg5.IsWhole)
  (arg6 : Memref sig .tc .vmem S6x1x256 .f32) (harg6 : arg6.IsWhole)
  (arg7 : Memref sig .tc .vmem S6x128x256 .f32) (harg7 : arg7.IsWhole)
  (arg8 : Memref sig .tc .vmem S6x256x256 .f32) (harg8 : arg8.IsWhole)
  (arg9 : Memref sig .tc .vmem S6x256x256 .f32) (harg9 : arg9.IsWhole)
  (arg10 : Memref sig .tc .vmem S6x1x256 .f32) (harg10 : arg10.IsWhole)
  (arg11 : Memref sig .tc .vmem S6x128x256 .f32) (harg11 : arg11.IsWhole)

/-- The memory during the query blocks: the inputs unchanged, and the first `k` query blocks written. -/
abbrev Held (f1 : Bf F c arg1) (f2 : Bf F c arg2) (f3 : Bf F c arg3) (k : ℕ) :
    sProp (MT nD τ sig Unit (Elt F) ℕ (UU nD τ) ℕ) :=
  iprop(pt c arg1 f1 ∗ pt c arg2 f2 ∗ pt c arg3 f3 ∗ ∃ f4 f5 f6 f7 f8 f9 f10 f11, pt c arg4 f4 ∗ pt c arg5 f5 ∗ pt c arg6 f6 ∗ pt c arg7 f7 ∗ pt c arg8 f8 ∗ pt c arg9 f9 ∗ pt c arg10 f10 ∗ pt c arg11 f11
    ∗ ⌜Done (arg1.view.read (Elt F) f1) (arg2.view.read (Elt F) f2) (arg3.view.read (Elt F) f3) k 0 (arg4.view.read (Elt F) f4)⌝)

/-- One query block writes one more. -/
theorem held_step (f1 : Bf F c arg1) (f2 : Bf F c arg2) (f3 : Bf F c arg3) (k : Fin k0_t1_loop.trips) (acc : Unit) :
    Held c arg1 arg2 arg3 arg4 arg5 arg6 arg7 arg8 arg9 arg10 arg11 f1 f2 f3 k.val
    ⊢ wp frame (wpE (defs₀ (F := F)) 𝒱₀ (c : Thread nD τ) none) Set.univ
      (k0_t1_body i arg1 harg1 arg2 harg2 arg3 harg3 arg4 harg4 arg5 harg5 arg6 harg6 arg7 harg7 arg8 harg8 arg9 harg9 arg10 harg10 arg11 harg11 k acc)
      (fun _ => Held c arg1 arg2 arg3 arg4 arg5 arg6 arg7 arg8 arg9 arg10 arg11 f1 f2 f3 (k.val + 1)) := by
  iintro ⟨H1, H2, H3, %f4, %f5, %f6, %f7, %f8, %f9, %f10, %f11, H4, H5, H6, H7, H8, H9, H10, H11, %D⟩
  iapply (trip1 c i arg1 harg1 arg2 harg2 arg3 harg3 arg4 harg4 arg5 harg5 arg6 harg6 arg7 harg7 arg8 harg8 arg9 harg9 arg10 harg10 arg11 harg11 k f1 f2 f3 f4 f5 f6 f7 f8 f9 f10 f11 D)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- A grid point: from its three input windows the kernel writes the whole output window. -/
theorem kernelRun (x1 x2 : Vec F S2048x768 .bf16) (x3 : Vec F S8x768x256 .bf16) (y4 : Vec F S2048x768 .bf16)
    (Q : PUnit → sProp (MT nD τ sig Unit (Elt F) ℕ (UU nD τ) ℕ)) :
    iprop(owns (c : Thread nD τ) arg1 fullShare x1 ∗ owns (c : Thread nD τ) arg2 fullShare x2
      ∗ owns (c : Thread nD τ) arg3 fullShare x3 ∗ owns (c : Thread nD τ) arg4 fullShare y4 ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f)
      ∗ (owns (c : Thread nD τ) arg1 fullShare x1 ∗ owns (c : Thread nD τ) arg2 fullShare x2
        ∗ owns (c : Thread nD τ) arg3 fullShare x3 ∗ owns (c : Thread nD τ) arg4 fullShare (outAt x1 x2 x3) ∗ (∃ f, pt c arg5 f) ∗ (∃ f, pt c arg6 f) ∗ (∃ f, pt c arg7 f) ∗ (∃ f, pt c arg8 f) ∗ (∃ f, pt c arg9 f) ∗ (∃ f, pt c arg10 f) ∗ (∃ f, pt c arg11 f) -∗ Q ⟨⟩))
    ⊢ wp frame (wpE (defs₀ (F := F)) 𝒱₀ (c : Thread nD τ) none) Set.univ (cc0_stick_breaking_attention i arg1 harg1 arg2 harg2 arg3 harg3 arg4 harg4 arg5 harg5 arg6 harg6 arg7 harg7 arg8 harg8 arg9 harg9 arg10 harg10 arg11 harg11) Q := by
  rw [cc0_stick_breaking_attention_eq_skeleton]
  unfold owns cc0_stick_breaking_attention_skel
  rw [harg1.set_eq_univ, harg2.set_eq_univ, harg3.set_eq_univ, harg4.set_eq_univ]
  iintro ⟨⟨%f1, %e1, H1⟩, ⟨%f2, %e2, H2⟩, ⟨%f3, %e3, H3⟩, ⟨%f4, %e4, H4⟩, ⟨%f5, H5⟩, ⟨%f6, H6⟩, ⟨%f7, H7⟩, ⟨%f8, H8⟩, ⟨%f9, H9⟩, ⟨%f10, H10⟩, ⟨%f11, H11⟩, HQ⟩
  subst e1 e2 e3
  sl_for (fun k _ => Held c arg1 arg2 arg3 arg4 arg5 arg6 arg7 arg8 arg9 arg10 arg11 f1 f2 f3 k)
    $$ [H1 H2 H3 H4 H5 H6 H7 H8 H9 H10 H11]
  · intro k acc
    exact held_step c i arg1 harg1 arg2 harg2 arg3 harg3 arg4 harg4 arg5 harg5 arg6 harg6 arg7 harg7 arg8 harg8 arg9 harg9 arg10 harg10 arg11 harg11 f1 f2 f3 k acc
  · isplitl [H1]; · iexact H1
    isplitl [H2]; · iexact H2
    isplitl [H3]; · iexact H3
    iexists _, _, _, _, _, _, _, _
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    ipureintro
    intro y hy
    omega
  iintro %acc HI
  icases HI with ⟨H1, H2, H3, %g4, %g5, %g6, %g7, %g8, %g9, %g10, %g11, H4, H5, H6, H7, H8, H9, H10, H11, %D⟩
  have D := done_all _ _ _ _ (show Done _ _ _ 8 0 _ from D)
  sl_exec_parts
  sl_step
  iapply HQ
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists g4; isplitr; · ipureintro; exact D
    iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11
end Point

variable (m : (ℓ : Loc nD τ sig) → Buf (Elt F) ℓ) (ρ : Dev nD → PrngReg)

/-- What a grid point writes: its window of the result, from its windows of the arguments. -/
def written (c : Dev nD) (t : Fin cfg0.N) : Vec F S2048x768 .bf16 := outAt (iblk m c 0 t) (iblk m c 1 t) (X0_2 m c t)

/-- The staging buffers after each grid point: the inputs as fetched, the output as written. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => written m c t
  Φ _ := Pipeline.ΦA spec0 c
  q w := Pipeline.shareOf spec0 w
  owed _ := 0

theorem bef0 (c : Dev nD) (t : Fin cfg0.N) (d) : (dats m 0 c).before 0 t d = iblk m c 0 t :=
  before0_0_of m (dats m 0 c) rfl (fun _ => rfl) t d
theorem bef1 (c : Dev nD) (t : Fin cfg0.N) (d) : (dats m 0 c).before 1 t d = iblk m c 1 t :=
  before0_1_of m (dats m 0 c) rfl (fun _ => rfl) t d
theorem bef2 (c : Dev nD) (t : Fin cfg0.N) (d) : (dats m 0 c).before 2 t d = X0_2 m c t :=
  before0_2_of m (dats m 0 c) rfl (fun _ => rfl) t d

/-- Every grid point does what `dats` says. -/
theorem body_obligation (c : Dev nD) : BodyObligation (dats m 0 c) (defs₀ (F := F)) 𝒱₀ () Set.univ := fun t => by
  rw [bigSep_W0, bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  simp only [bef0, bef1, bef2]
  iintro ⟨⟨⟨H5, H6, H7, H8, H9, H10, H11⟩, HP⟩, HO, ⟨%d0, H0⟩, ⟨%d1, H1⟩, ⟨%d2, H2⟩, ⟨%d3, H3⟩⟩
  iapply (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    (iblk m c 0 t) (iblk m c 1 t) (X0_2 m c t) ((dats m 0 c).before 3 t d3))
  isplitl [H0]; · iexact H0
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H5, H6, H7, H8, H9, H10, H11⟩
  isplitl [H5 H6 H7 H8 H9 H10 H11 HP]
  · isplitl [H5 H6 H7 H8 H9 H10 H11]
    · isplitl [H5]; · iexact H5
      isplitl [H6]; · iexact H6
      isplitl [H7]; · iexact H7
      isplitl [H8]; · iexact H8
      isplitl [H9]; · iexact H9
      isplitl [H10]; · iexact H10
      iexact H11
    iexact HP
  isplitl [HO]; · iexact HO
  isplitl [H0]; · iexact H0
  isplitl [H1]; · iexact H1
  isplitl [H2]; · iexact H2
  iexact H3

/-- The whole program's run. -/
theorem run_main : θ_run defs (onTc (τ := τ) (main (F := F))) (s₀ m ρ)
      (fun r => Pipeline.FramePost cfgs (dats m) 0 (V m) r ∧ r.2.sem = fun _ => 0) :=
  Pipeline.θ_run_frame_shared cfgs (dats m) 0 launch₀0 defs₀ 𝒱₀ m ρ main (fun c => (body_obligation m c).loose)
    (fun _ _ _ => rfl) (fun _ _ => rfl) (V m) (hmain m 𝒱₀) (fun _ _ => rfl) (fun _ _ => rfl) _ (fun _ h => h)

/-- The run ends, leaves both arguments as they were, and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans ((dats m 0 c).arrAt_in 0 rfl _),
    ((h.1 c).1 2).trans ((dats m 0 c).arrAt_in 2 rfl _)⟩, h.2⟩) (run_main m ρ)

end Cert.Proof.KernelIdeal
-- ==== Proof.Math.lean ====
module

public import Idealize.ShloMosaic.PureOps.Ideal.Laws
public import Idealize.ShloMosaic.Lib.ValueIdxCore
public import Mathlib.Analysis.SpecialFunctions.Log.Basic
public import Mathlib.Analysis.SpecialFunctions.Pow.Real
public import Mathlib.Algebra.BigOperators.Intervals

/-!
The stick-breaking weights as real numbers.

Positions are natural numbers. `z j` is the score of key `j` for one fixed query at position `t`.
-/

@[expose] public section
noncomputable section
namespace Cert.Proof.Math
open Idealize.ShloMosaic Idealize.ShloMosaic.ValueIdx
open scoped BigOperators

/-- The logarithm of `1 - sigmoid x`. -/
def logRest (x : ℝ) : ℝ := min (-x) 0 - Real.log (1 + Real.exp (-|x|))

/-- The log-remainder left by key `j`: keys from the query on leave everything. -/
def rest (z : ℕ → ℝ) (t j : ℕ) : ℝ := if j < t then logRest (z j) else 0

/-- The weight of key `s`, the log-remainders counted up to position `n`. -/
def weight (z : ℕ → ℝ) (t n s : ℕ) : ℝ :=
  if s < t then Real.exp (z s + ∑ j ∈ Finset.Ico s n, rest z t j) else 0

/-- Keys from the query on have no weight. -/
theorem weight_eq_zero (z : ℕ → ℝ) {t n s : ℕ} (h : t ≤ s) : weight z t n s = 0 := if_neg (by omega)

/-- Counting further than the query changes nothing. -/
theorem weight_extend (z : ℕ → ℝ) {t n n' : ℕ} (h : t ≤ n) (h' : n ≤ n') (s : ℕ) : weight z t n' s = weight z t n s := by
  unfold weight
  by_cases hs : s < t
  · rw [if_pos hs, if_pos hs, ← Finset.sum_Ico_consecutive _ (show s ≤ n by omega) h',
      Finset.sum_eq_zero (s := Finset.Ico n n') (f := rest z t) (fun j hj => if_neg (by have := Finset.mem_Ico.1 hj; omega)), add_zero]
  · rw [if_neg hs, if_neg hs]

/-- `log (sigmoid x)` is `x` more than `log (1 - sigmoid x)`. -/
theorem logRest_neg (x : ℝ) : logRest (-x) = x + logRest x := by
  unfold logRest
  rw [neg_neg, abs_neg]
  rcases le_total x 0 with h | h
  · rw [min_eq_left h, min_eq_right (by linarith : (0:ℝ) ≤ -x)]; ring
  · rw [min_eq_right h, min_eq_left (by linarith : -x ≤ (0:ℝ))]; ring

/-- A real sum read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The absolute value of a real, taken among the extended reals. -/
theorem max_neg_coe (r : ℝ) : max (r : EReal) (-(r : EReal)) = ((|r| : ℝ) : EReal) := by
  rw [← EReal.coe_neg, ← coe_max]; rfl

/-- The logarithm of a positive real. -/
theorem log_coe {r : ℝ} (h : 0 < r) : Ideal.log (r : EReal) = (Real.log r : EReal) :=
  show (if r ≤ 0 then (⊥ : EReal) else (Real.log r : EReal)) = _ from if_neg (not_le.2 h)

theorem exp_coe (r : ℝ) : Ideal.exp (r : EReal) = (Real.exp r : EReal) := rfl

/-- A power of two with its exponent divided by `log 2` is a power of `e`. -/
theorem exp2_coe (r : ℝ) : Ideal.exp2 ((r : EReal) * ((-((Real.log 2)⁻¹) : ℝ) : EReal)) = (Real.exp (-r) : EReal) := by
  rw [← EReal.coe_mul]
  show ((Real.rpow 2 (r * -((Real.log 2)⁻¹)) : ℝ) : EReal) = _
  have h : Real.rpow 2 (r * -((Real.log 2)⁻¹)) = Real.exp (Real.log 2 * (r * -((Real.log 2)⁻¹))) :=
    Real.rpow_def_of_pos (by norm_num) _
  have h2 : Real.log 2 ≠ 0 := (Real.log_pos (by norm_num)).ne'
  rw [h]; congr 2; field_simp

/-- The log-remainder as the kernel computes it, from the negated score. -/
theorem logRest_two (x : ℝ) :
    min ((-x : ℝ) : EReal) 0 - Ideal.log (1 + Ideal.exp2 (max ((-x : ℝ) : EReal) (-((-x : ℝ) : EReal)) * ((-((Real.log 2)⁻¹) : ℝ) : EReal)))
      = (logRest x : EReal) := by
  rw [max_neg_coe, exp2_coe, abs_neg, ← EReal.coe_one, ← EReal.coe_add, log_coe (by positivity), ← EReal.coe_zero, ← coe_min,
    ← EReal.coe_sub]
  rfl

/-- The logarithm of the sigmoid as the reference computes it, minus the softplus of the negated argument. -/
theorem logRest_softplus (x : ℝ) :
    -(max (x : EReal) 0 + Ideal.log1p (Ideal.exp (-(max ((x : EReal) - 0) (-((x : EReal) - 0)))))) = (logRest x : EReal) := by
  rw [sub_zero, max_neg_coe, ← EReal.coe_neg, exp_coe, Ideal.log1p, ← EReal.coe_one, ← EReal.coe_add, log_coe (by positivity),
    ← EReal.coe_zero, ← coe_max, ← EReal.coe_add, ← EReal.coe_neg]
  congr 1
  unfold logRest
  rcases le_total x 0 with h | h
  · rw [max_eq_right h, min_eq_right (by linarith : (0:ℝ) ≤ -x)]; ring
  · rw [max_eq_left h, min_eq_left (by linarith : -x ≤ (0:ℝ))]; ring

/-- The score of key `s` for the query at position `t` in head `h`: their 128 features multiplied and summed. -/
def score (q k : ℕ → ℕ → ℝ) (h t s : ℕ) : ℝ := ∑ d : Fin 128, q t (128 * h + d.val) * k s (128 * h + d.val)

/-- The score with one factor negated. -/
theorem score_neg (q k : ℕ → ℕ → ℝ) (h t s : ℕ) :
    ∑ d : Fin 128, (k s (128 * h + d.val) : EReal) * (0 - (q t (128 * h + d.val) : EReal)) = ((-(score q k h t s) : ℝ) : EReal) := by
  unfold score
  rw [← Finset.sum_neg_distrib, coe_sum]
  refine Finset.sum_congr rfl fun d _ => ?_
  rw [zero_sub, ← EReal.coe_neg, ← EReal.coe_mul]
  congr 1; ring

/-- The score with both factors as they are. -/
theorem score_coe (q k : ℕ → ℕ → ℝ) (h t s : ℕ) :
    ∑ d : Fin 128, (q t (128 * h + d.val) : EReal) * (k s (128 * h + d.val) : EReal) = (score q k h t s : EReal) := by
  unfold score
  rw [coe_sum]
  exact Finset.sum_congr rfl fun d _ => (EReal.coe_mul _ _).symm

/-- A sum over a block of keys, counted from its first. -/
theorem sum_block {M : Type*} [AddCommMonoid M] (f : ℕ → M) (lo n : ℕ) :
    ∑ k : Fin n, f (lo + k.val) = ∑ j ∈ Finset.Ico lo (lo + n), f j := by
  rw [Finset.sum_Ico_eq_sum_range, Nat.add_sub_cancel_left, Fin.sum_univ_eq_sum_range (fun k => f (lo + k))]

/-- A sum over the rows of a block from row `r` on, the others masked by a factor of zero. -/
theorem sum_tri (f : ℕ → ℝ) (lo n r : ℕ) :
    ∑ k : Fin n, (if r ≤ k.val then (1 : ℝ) else 0) * f (lo + k.val) = ∑ j ∈ Finset.Ico (lo + r) (lo + n), f j := by
  rw [Fin.sum_univ_eq_sum_range (fun k => (if r ≤ k then (1 : ℝ) else 0) * f (lo + k))]
  rw [Finset.sum_Ico_eq_sum_range, Finset.range_eq_Ico]
  by_cases h : r ≤ n
  · rw [← Finset.sum_Ico_consecutive _ (Nat.zero_le r) h, Finset.sum_eq_zero (s := Finset.Ico 0 r) (fun k hk => by
      rw [if_neg (by have := Finset.mem_Ico.1 hk; omega), zero_mul]), zero_add, Finset.sum_Ico_eq_sum_range]
    rw [show lo + n - (lo + r) = n - r by omega]
    refine Finset.sum_congr (by rw [Finset.range_eq_Ico]) fun k _ => ?_
    rw [if_pos (by omega), one_mul, add_assoc]
  · rw [Finset.sum_eq_zero, show lo + n - (lo + r) = 0 by omega]
    · simp
    · intro k hk
      rw [if_neg (by have := Finset.mem_Ico.1 hk; omega), zero_mul]

/-- A window of `n` positions from `s` on, cut off at `n`. -/
theorem sum_window {M : Type*} [AddCommMonoid M] (f : ℕ → M) (n s : ℕ) :
    ∑ k : Fin n, (if s + k.val < n then f (s + k.val) else 0) = ∑ j ∈ Finset.Ico s n, f j := by
  rw [Fin.sum_univ_eq_sum_range (fun k => if s + k < n then f (s + k) else 0), Finset.sum_Ico_eq_sum_range]
  refine (Finset.sum_subset (Finset.range_subset_range.2 (Nat.sub_le n s)) fun k _ hk => if_neg ?_).symm.trans
    (Finset.sum_congr rfl fun k hk => if_pos ?_)
  · have := mt Finset.mem_range.2 hk; omega
  · have := Finset.mem_range.1 hk; omega

/-! ## The attention of the two argument arrays -/

/-- An entry of the array of queries and keys, as a real number. -/
def entry (x : (⟨2, ![32768, 3072]⟩ : Shape).Idx → EReal) (r c : ℕ) : ℝ := (x (ix2 (Fin.ofNat 32768 r) (Fin.ofNat 3072 c))).toReal

/-- The queries of batch `b`, by position and feature. -/
def query (x : (⟨2, ![32768, 3072]⟩ : Shape).Idx → EReal) (b t f : ℕ) : ℝ := entry x (2048 * b + t) f

/-- The keys of batch `b`, by position and feature. -/
def key (x : (⟨2, ![32768, 3072]⟩ : Shape).Idx → EReal) (b s f : ℕ) : ℝ := entry x (2048 * b + s) (768 + f)

/-- The values of batch `b`, by feature and position. -/
def valAt (x : (⟨3, ![128, 2048, 256]⟩ : Shape).Idx → EReal) (b f s : ℕ) : EReal :=
  x (ix3 (Fin.ofNat 128 (8 * b + s / 256)) (Fin.ofNat 2048 f) (Fin.ofNat 256 s))

/-- Every query and key entry is a real number. -/
def Finite (x : (⟨2, ![32768, 3072]⟩ : Shape).Idx → EReal) : Prop :=
  ∀ (r : Fin 32768) (c : Fin 3072), c.val < 1536 → x (ix2 r c) = (entry x r.val c.val : EReal)

/-- The stick-breaking attention of the two arrays. -/
def attn (x : (⟨2, ![32768, 3072]⟩ : Shape).Idx → EReal) (v : (⟨3, ![128, 2048, 256]⟩ : Shape).Idx → EReal)
    (y : (⟨2, ![32768, 768]⟩ : Shape).Idx) : EReal :=
  ∑ j ∈ Finset.range 2048, valAt v ((y 0).val / 2048) (y 1).val j
    * (weight (score (query x ((y 0).val / 2048)) (key x ((y 0).val / 2048)) ((y 1).val / 128) ((y 0).val % 2048)) ((y 0).val % 2048) 2048 j : EReal)

end Cert.Proof.Math
-- ==== Proof.KernelIdeal.Payload.lean ====
module

public import proofs.«01_k».proof.Proof.KernelIdeal.State
public import proofs.«01_k».proof.Proof.Math
public import Idealize.ShloMosaic.Lib.ValueIdx
public import Idealize.ShloMosaic.Lib.MatmulPlain
public import Idealize.ShloMosaic.Lib.Pipeline.Value

/-!
The values the kernel computes, read at an index over the extended reals.
-/

@[expose] public section
set_option maxRecDepth 16384
noncomputable section
namespace Cert.Proof.KernelIdeal
open Cert.KernelIdeal Cert.KernelIdeal.Gen Cert.Proof.Math
open Idealize.ShloMosaic Idealize.ShloMosaic.ValueIdx
open scoped BigOperators

/-- Dropping a leading axis of size one. -/
theorem drop_apply {α : Type} {a b : ℕ} (v : (⟨3, ![1, a, b]⟩ : Shape).Idx → α)
    (h : (⟨3, ![1, a, b]⟩ : Shape).ShapeCasts ⟨2, ![a, b]⟩) (r : Fin a) (c : Fin b) :
    shapeCast ⟨2, ![a, b]⟩ v h (ix2 r c) = v (ix3 0 r c) :=
  shapeCast_apply v h _ _ (by
    rw [Shape.rowMajor_val_two, Shape.rowMajor_val_three]
    show (0 * a + r.val) * b + c.val = r.val * b + c.val
    rw [Nat.zero_mul, Nat.zero_add])

/-- Adding a leading axis of size one. -/
theorem add_apply {α : Type} {a b : ℕ} (v : (⟨2, ![a, b]⟩ : Shape).Idx → α)
    (h : (⟨2, ![a, b]⟩ : Shape).ShapeCasts ⟨3, ![1, a, b]⟩) (u : Fin 1) (r : Fin a) (c : Fin b) :
    shapeCast ⟨3, ![1, a, b]⟩ v h (ix3 u r c) = v (ix2 r c) :=
  shapeCast_apply v h _ _ (by
    rw [Shape.rowMajor_val_two, Shape.rowMajor_val_three]
    show r.val * b + c.val = (u.val * a + r.val) * b + c.val
    rw [show u.val = 0 by omega, Nat.zero_mul, Nat.zero_add])

/-- A row vector seen as a matrix of one row. -/
theorem addRow_apply {α : Type} {b : ℕ} (v : (⟨1, ![b]⟩ : Shape).Idx → α)
    (h : (⟨1, ![b]⟩ : Shape).ShapeCasts ⟨2, ![1, b]⟩) (u : Fin 1) (c : Fin b) :
    shapeCast ⟨2, ![1, b]⟩ v h (ix2 u c) = v (ix1 c) :=
  shapeCast_apply v h _ _ (by
    rw [Shape.rowMajor_val_two, Shape.rowMajor_val_one]
    show c.val = u.val * b + c.val
    rw [show u.val = 0 by omega, Nat.zero_mul, Nat.zero_add])

/-- One row repeated. -/
theorem rows_apply {α : Type} (v : S1x256.Idx → α) (h : S1x256.Broadcasts S256x256) (r c : Fin 256) :
    broadcastTo S256x256 v h (ix2 r c) = v (ix2 0 c) :=
  broadcastTo_apply v h _ _ fun a => match a with
    | ⟨0, _⟩ => rfl
    | ⟨1, _⟩ => rfl

theorem zero_f32 : (Scalar.ofBits .f32 0x00000000#32 : Ideal .f32) = 0 := Ideal.ofBits_zero_f32

theorem one_f32 : (Scalar.ofBits .f32 0x3F800000#32 : Ideal .f32) = 1 := by
  show Ideal.ofBits .f32 0x3F800000#32 = 1
  simp [Ideal.ofBits, Ideal.ieee]
  rw [← EReal.coe_mul]
  norm_num

/-- The kernel's named constant is minus the inverse of `log 2`. -/
theorem neg_log2e : Named.named (F := Ideal) Cert.KernelIdeal.κ "neg_log2e" (φ := .f32) 0xBFB8AA3B#32
    = ((-((Real.log 2)⁻¹) : ℝ) : EReal) :=
  IdealRules.named_const.ideal_named_scalar _ _ _ _ rfl

theorem pay152_apply (x : Vec Ideal S256x128 .bf16) (u : Fin 1) (d : Fin 128) (c : Fin 256) :
    k0_pay152 (F := Ideal) x (ix3 u d c) = 0 - x (ix2 c d) := by
  unfold k0_pay152
  rw [add_apply, truncf_apply]
  refine (transpose_apply [1, 0] _ _ (ix2 d c) (ix2 c d) (fun b => match b with | ⟨0, _⟩ => rfl | ⟨1, _⟩ => rfl)).trans ?_
  rw [subf_apply, broadcast_apply, zero_f32, extf_apply]

theorem pay6_apply (k : Vec Ideal S256x128 .bf16) (q : Vec Ideal S1x128x256 .bf16) (u : Fin 1) (r c : Fin 256) :
    k0_pay6 (F := Ideal) k q (ix3 u r c) = ∑ d : Fin 128, k (ix2 r d) * q (ix3 0 d c) := by
  unfold k0_pay6
  rw [add_apply]
  refine (Ideal.matmul_plain_apply (M := 256) (K := 128) (N := 256) none _ _ _ r c).trans ?_
  rw [constant_apply, Ideal.ofBits_zero_f32, zero_add]
  exact Finset.sum_congr rfl fun d _ => by rw [drop_apply]

/-- The log-remainder of the score whose negation is `-x`. -/
theorem pay7_apply (z : Vec Ideal S1x256x256 .f32) (r c : Fin 256) (x : ℝ) (h : z (ix3 0 r c) = ((-x : ℝ) : EReal)) :
    k0_pay7 (F := Ideal) z (ix2 r c) = (logRest x : EReal) := by
  unfold k0_pay7
  rw [subf_apply, minimumf_apply, drop_apply, h, broadcast_apply, zero_f32, ← logRest_two x]
  congr 1
  show Ideal.log (addf (F := Ideal) (φ := .f32) _ _ (ix2 r c)) = _
  rw [addf_apply, broadcast_apply, one_f32]
  show Ideal.log (1 + Ideal.exp2 (mulf (F := Ideal) (φ := .f32) _ _ (ix2 r c))) = _
  rw [mulf_apply, broadcast_apply, neg_log2e]
  show Ideal.log (1 + Ideal.exp2 (max (shapeCast S256x256 z _ (ix2 r c)) (-(shapeCast S256x256 z _ (ix2 r c))) * _)) = _
  rw [drop_apply, h]

/-- A small number is itself as a signed word. -/
theorem toInt_small (n : ℕ) (h : n < 4096) : (BitVec.ofNat 32 n).toInt = (n : ℤ) := by
  rw [BitVec.toInt_eq_toNat_of_lt (by rw [BitVec.toNat_ofNat]; omega), BitVec.toNat_ofNat, Nat.mod_eq_of_lt (by omega)]

/-- Which entries are strictly below the diagonal: the key's row before the query's column. -/
theorem pay151_apply (r c : Fin 256) : k0_pay151 (ix2 r c) = BitVec.ofBool (decide (r.val < c.val)) := by
  unfold k0_pay151
  show BitVec.ofBool (BitVec.slt (iota .tc S256x256 32 [0] _ (ix2 r c)) (iota .tc S256x256 32 [1] _ (ix2 r c))) = _
  rw [iota_single_apply, iota_single_apply]
  show BitVec.ofBool (BitVec.slt (BitVec.ofNat 32 r.val) (BitVec.ofNat 32 c.val)) = _
  congr 1
  rw [BitVec.slt, toInt_small _ (by omega), toInt_small _ (by omega)]
  exact decide_eq_decide.2 Int.ofNat_lt

/-- Ones on and above the diagonal. -/
theorem pay150_apply (r c : Fin 256) : k0_pay150 (F := Ideal) (ix2 r c) = ((if r.val ≤ c.val then (1 : ℝ) else 0 : ℝ) : EReal) := by
  unfold k0_pay150
  rw [truncf_apply, sitofp_apply, extui_apply]
  show (((BitVec.setWidth 32 (BitVec.ofBool (BitVec.sle (iota .tc S256x256 32 [0] _ (ix2 r c)) (iota .tc S256x256 32 [1] _ (ix2 r c))))).toInt : ℝ) : EReal) = _
  rw [iota_single_apply, iota_single_apply]
  show (((BitVec.setWidth 32 (BitVec.ofBool (BitVec.sle (BitVec.ofNat 32 r.val) (BitVec.ofNat 32 c.val)))).toInt : ℝ) : EReal) = _
  rw [BitVec.sle, toInt_small _ (by omega), toInt_small _ (by omega)]
  by_cases h : r.val ≤ c.val
  · rw [if_pos h, decide_eq_true (Int.ofNat_le.2 h),
      show (BitVec.setWidth 32 (BitVec.ofBool true)).toInt = 1 from by decide]; norm_num
  · rw [if_neg h, decide_eq_false (fun h' => h (Int.ofNat_le.1 h')),
      show (BitVec.setWidth 32 (BitVec.ofBool false)).toInt = 0 from by decide]; norm_num

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The masked log-remainder of the diagonal block. -/
theorem pay160_apply (z : Vec Ideal S1x256x256 .f32) (r c : Fin 256) (x : ℝ) (h : z (ix3 0 r c) = ((-x : ℝ) : EReal)) :
    k0_pay160 (F := Ideal) k0_pay151 z (ix2 r c) = ((if r.val < c.val then logRest x else 0 : ℝ) : EReal) := by
  have e : k0_pay160 (F := Ideal) k0_pay151 z (ix2 r c)
      = Scalar.select (k0_pay151 (ix2 r c)) (k0_pay7 (F := Ideal) z (ix2 r c)) (Scalar.ofBits .f32 0x00000000#32) := rfl
  rw [e, pay151_apply, select_ofBool, pay7_apply z r c x h, zero_f32]
  split <;> simp

theorem pay174_apply (z : Vec Ideal S1x256x256 .f32) (r c : Fin 256) (x : ℝ) (h : z (ix3 0 r c) = ((-x : ℝ) : EReal)) :
    k0_pay174 (F := Ideal) k0_pay151 z (ix2 r c) = ((if r.val < c.val then logRest x else 0 : ℝ) : EReal) :=
  (show k0_pay174 (F := Ideal) k0_pay151 z (ix2 r c) = k0_pay160 (F := Ideal) k0_pay151 z (ix2 r c) from rfl).trans
    (pay160_apply z r c x h)

theorem pay161_apply (z : Vec Ideal S1x256x256 .f32) (u : Fin 1) (r c : Fin 256) :
    k0_pay161 (F := Ideal) k0_pay150 k0_pay151 z (ix3 u r c)
      = ∑ k : Fin 256, k0_pay150 (F := Ideal) (ix2 r k) * k0_pay160 (F := Ideal) k0_pay151 z (ix2 k c) := by
  unfold k0_pay161
  rw [add_apply]
  refine (Ideal.matmul_plain_apply (M := 256) (K := 256) (N := 256) none _ _ _ r c).trans ?_
  rw [constant_apply, Ideal.ofBits_zero_f32, zero_add]
  rfl

theorem pay8_apply (z : Vec Ideal S1x256x256 .f32) (u : Fin 1) (r c : Fin 256) :
    k0_pay8 (F := Ideal) k0_pay150 z (ix3 u r c)
      = ∑ k : Fin 256, k0_pay150 (F := Ideal) (ix2 r k) * k0_pay7 (F := Ideal) z (ix2 k c) := by
  unfold k0_pay8
  rw [add_apply]
  refine (Ideal.matmul_plain_apply (M := 256) (K := 256) (N := 256) none _ _ _ r c).trans ?_
  rw [constant_apply, Ideal.ofBits_zero_f32, zero_add]
  rfl

/-- A column's sum. -/
theorem colsum_apply (x : FVec Ideal S256x256 .f32) (c : Fin 256) :
    multiReduction .add [0] S256 x 0x00000000#32 reduces_S256x256_S256 (.inl rfl) rfl (ix1 c) = ∑ k : Fin 256, x (ix2 k c) := by
  refine (Ideal.multiReduction_add_single x _ reduces_S256x256_S256 (.inl rfl) rfl (ix1 c)).trans ?_
  refine Finset.sum_congr rfl fun k _ => congrArg x ?_
  refine Shape.idx_ext₂ ?_ ?_ <;> rfl

theorem pay176_apply (z : Vec Ideal S1x256x256 .f32) (u v : Fin 1) (c : Fin 256) :
    k0_pay176 (F := Ideal) k0_pay151 z (ix3 u v c) = ∑ k : Fin 256, k0_pay174 (F := Ideal) k0_pay151 z (ix2 k c) := by
  unfold k0_pay176
  rw [add_apply, addRow_apply, colsum_apply]

theorem pay9_apply (z : Vec Ideal S1x256x256 .f32) (u v : Fin 1) (c : Fin 256) :
    k0_pay10 (F := Ideal) (k0_pay9 z) (ix3 u v c) = ∑ k : Fin 256, k0_pay7 (F := Ideal) z (ix2 k c) := by
  unfold k0_pay10 k0_pay9
  rw [add_apply, addRow_apply, colsum_apply]

theorem pay12_apply (a b : Vec Ideal S1x1x256 .f32) (u v : Fin 1) (c : Fin 256) :
    k0_pay12 (F := Ideal) a b (ix3 u v c) = a (ix3 0 v c) + b (ix3 0 v c) := by
  unfold k0_pay12
  rw [add_apply, addf_apply, drop_apply, drop_apply]

theorem pay14_apply (a b : Vec Ideal S1x128x256 .f32) (u : Fin 1) (d : Fin 128) (c : Fin 256) :
    k0_pay14 (F := Ideal) (k0_pay13 a) b (ix3 u d c) = a (ix3 0 d c) + b (ix3 0 d c) := by
  unfold k0_pay14 k0_pay13
  rw [add_apply, addf_apply, drop_apply, drop_apply]

theorem pay4_apply (a : Vec Ideal S1x128x256 .f32) (c : Fin 256) (d : Fin 128) :
    k0_pay4 (F := Ideal) a (ix2 c d) = a (ix3 0 d c) := by
  unfold k0_pay4
  rw [truncf_apply]
  refine (transpose_apply [1, 0] _ _ (ix2 c d) (ix2 d c) (fun b => match b with | ⟨0, _⟩ => rfl | ⟨1, _⟩ => rfl)).trans ?_
  rw [drop_apply]

theorem pay11_apply (a : Vec Ideal S1x256x256 .f32) (b : Vec Ideal S1x1x256 .f32) (z : Vec Ideal S1x256x256 .f32)
    (v : Vec Ideal S1x128x256 .bf16) (u : Fin 1) (d : Fin 128) (c : Fin 256) :
    k0_pay11 (F := Ideal) a b z v (ix3 u d c)
      = ∑ r : Fin 256, v (ix3 0 d r) * Ideal.exp (a (ix3 0 r c) + b (ix3 0 0 c) - z (ix3 0 r c)) := by
  unfold k0_pay11
  rw [add_apply]
  refine (Ideal.matmul_plain_apply (M := 128) (K := 256) (N := 256) none _ _ _ d c).trans ?_
  rw [constant_apply, Ideal.ofBits_zero_f32, zero_add]
  refine Finset.sum_congr rfl fun r _ => ?_
  rw [drop_apply, truncf_apply]
  congr 1
  show Ideal.exp (subf (F := Ideal) (φ := .f32) _ _ (ix2 r c)) = _
  rw [subf_apply, addf_apply, drop_apply, drop_apply, rows_apply, drop_apply]

theorem pay178_apply (a : Vec Ideal S1x256x256 .f32) (b : Vec Ideal S1x1x256 .f32) (z : Vec Ideal S1x256x256 .f32)
    (v : Vec Ideal S1x128x256 .bf16) (u : Fin 1) (d : Fin 128) (c : Fin 256) :
    k0_pay178 (F := Ideal) k0_pay151 (k0_pay177 a b) z v (ix3 u d c)
      = ∑ r : Fin 256, v (ix3 0 d r) * (if r.val < c.val then Ideal.exp (a (ix3 0 r c) + b (ix3 0 0 c) - z (ix3 0 r c)) else 0) := by
  unfold k0_pay178 k0_pay177
  rw [add_apply]
  refine (Ideal.matmul_plain_apply (M := 128) (K := 256) (N := 256) none _ _ _ d c).trans ?_
  rw [constant_apply, Ideal.ofBits_zero_f32, zero_add]
  refine Finset.sum_congr rfl fun r _ => ?_
  rw [drop_apply, truncf_apply, select_apply, pay151_apply, select_ofBool, broadcast_apply, zero_f32]
  congr 1
  by_cases h : r.val < c.val
  · rw [if_pos h, if_pos h]
    show Ideal.exp (subf (F := Ideal) (φ := .f32) _ _ (ix2 r c)) = _
    rw [subf_apply, addf_apply, drop_apply, drop_apply, rows_apply, drop_apply]
  · rw [if_neg h, if_neg h]

end Cert.Proof.KernelIdeal
-- ==== Proof.KernelIdeal.Value.lean ====
module

public import proofs.«01_k».proof.Proof.KernelIdeal.Payload
public import proofs.«01_k».proof.Proof.KernelIdeal.Out

/-!
What the kernel writes, over the extended reals, when every query and key entry is a real number.

`q` and `k` are the real entries by position and feature, `v` the values by feature and position.
-/

@[expose] public section
set_option maxRecDepth 16384
noncomputable section
namespace Cert.Proof.KernelIdeal
open Cert.KernelIdeal Cert.KernelIdeal.Gen Cert.Proof.Math
open Idealize.ShloMosaic Idealize.ShloMosaic.ValueIdx
open scoped BigOperators

/-- A block of the window, entry by entry. -/
theorem rowsOf_apply (x : Vec Ideal S2048x768 .bf16) (q : ℕ → ℕ → ℝ)
    (hq : ∀ (a : Fin 2048) (b : Fin 768), x (ix2 a b) = (q a.val b.val : EReal)) {b h : ℕ} (hb : b < 8) (hh : h < 6)
    (r : Fin 256) (d : Fin 128) : rowsOf x b h (ix2 r d) = (q (256 * b + r.val) (128 * h + d.val) : EReal) := by
  have hr := r.isLt; have hd := d.isLt
  refine (hq _ _).trans ?_
  show (q ((256 * b + r.val) % 2048) ((128 * h + d.val) % 768) : EReal) = _
  rw [Nat.mod_eq_of_lt (by omega), Nat.mod_eq_of_lt (by omega)]

/-- A block of the values, entry by entry. -/
theorem valsOf_apply (x : Vec Ideal S8x768x256 .bf16) (v : ℕ → ℕ → EReal)
    (hv : ∀ (a : Fin 8) (b : Fin 768) (c : Fin 256), x (ix3 a b c) = v b.val (256 * a.val + c.val)) {b h : ℕ} (hb : b < 8) (hh : h < 6)
    (d : Fin 128) (r : Fin 256) : valsOf x b h (ix3 0 d r) = v (128 * h + d.val) (256 * b + r.val) := by
  have hr := r.isLt; have hd := d.isLt
  refine (hv _ _ _).trans ?_
  show v ((128 * h + d.val) % 768) (256 * (b % 8) + r.val) = _
  rw [Nat.mod_eq_of_lt (by omega), Nat.mod_eq_of_lt (by omega)]

section
variable (x1 x2 : Vec Ideal S2048x768 .bf16) (x3 : Vec Ideal S8x768x256 .bf16) (q k : ℕ → ℕ → ℝ) (v : ℕ → ℕ → EReal)
  (hq : ∀ (a : Fin 2048) (b : Fin 768), x1 (ix2 a b) = (q a.val b.val : EReal))
  (hk : ∀ (a : Fin 2048) (b : Fin 768), x2 (ix2 a b) = (k a.val b.val : EReal))
  (hv : ∀ (a : Fin 8) (b : Fin 768) (c : Fin 256), x3 (ix3 a b c) = v b.val (256 * a.val + c.val))
  {i h : ℕ} (hi : i < 8) (hh : h < 6)

include hq hk hi hh

theorem Z_apply (n : ℕ) (u : Fin 1) (r c : Fin 256) :
    Z x1 x2 i h n (ix3 u r c) = ((-(score q k h (256 * i + c.val) (256 * (i - n) + r.val)) : ℝ) : EReal) := by
  unfold Z QN
  rw [pay6_apply, ← score_neg]
  refine Finset.sum_congr rfl fun d _ => ?_
  rw [rowsOf_apply x2 k hk (by omega) hh, pay152_apply, rowsOf_apply x1 q hq hi hh]

/-- The log-remainders of a block before the diagonal one, none masked. -/
theorem rest_apply {n : ℕ} (hn : n + 1 ≤ i) (r c : Fin 256) :
    k0_pay7 (F := Ideal) (Z x1 x2 i h (n + 1)) (ix2 r c)
      = (rest (score q k h (256 * i + c.val)) (256 * i + c.val) (256 * (i - (n + 1)) + r.val) : EReal) := by
  have hr := r.isLt
  rw [pay7_apply _ r c _ (Z_apply x1 x2 q k hq hk hi hh (n + 1) 0 r c), rest, if_pos (by omega)]

/-- The log-remainders of the diagonal block. -/
theorem rest_diag_apply (r c : Fin 256) :
    k0_pay160 (F := Ideal) k0_pay151 (Z x1 x2 i h 0) (ix2 r c)
      = (rest (score q k h (256 * i + c.val)) (256 * i + c.val) (256 * (i - 0) + r.val) : EReal) := by
  rw [pay160_apply _ r c _ (Z_apply x1 x2 q k hq hk hi hh 0 0 r c), rest]
  by_cases h : r.val < c.val
  · rw [if_pos h, if_pos (by omega)]
  · rw [if_neg h, if_neg (by omega)]

theorem A_apply : ∀ {n : ℕ} (_ : n ≤ i) (u : Fin 1) (r c : Fin 256), A x1 x2 i h n (ix3 u r c)
    = ((∑ j ∈ Finset.Ico (256 * (i - n) + r.val) (256 * (i - n) + 256),
        rest (score q k h (256 * i + c.val)) (256 * i + c.val) j : ℝ) : EReal)
  | 0, _, u, r, c => by
    rw [A, pay161_apply, ← sum_tri, coe_sum]
    refine Finset.sum_congr rfl fun j _ => ?_
    rw [pay150_apply, rest_diag_apply x1 x2 q k hq hk hi hh, ← EReal.coe_mul]
  | n + 1, hn, u, r, c => by
    rw [A, pay8_apply, ← sum_tri, coe_sum]
    refine Finset.sum_congr rfl fun j _ => ?_
    rw [pay150_apply, rest_apply x1 x2 q k hq hk hi hh hn, ← EReal.coe_mul]

theorem C_apply : ∀ {n : ℕ} (_ : n ≤ i) (u w : Fin 1) (c : Fin 256), C x1 x2 i h n (ix3 u w c)
    = ((∑ j ∈ Finset.Ico (256 * (i - n)) (256 * (i - n) + 256),
        rest (score q k h (256 * i + c.val)) (256 * i + c.val) j : ℝ) : EReal)
  | 0, _, u, w, c => by
    rw [C, pay176_apply, ← sum_block, coe_sum]
    exact Finset.sum_congr rfl fun j _ => rest_diag_apply x1 x2 q k hq hk hi hh j c
  | n + 1, hn, u, w, c => by
    rw [C, pay9_apply, ← sum_block, coe_sum]
    exact Finset.sum_congr rfl fun j _ => rest_apply x1 x2 q k hq hk hi hh hn j c

theorem R_apply : ∀ {n : ℕ} (_ : n ≤ i) (u : Fin 1) (c : Fin 256), R x1 x2 i h n (ix3 0 u c)
    = ((∑ j ∈ Finset.Ico (256 * (i - n) + 256) (256 * i + 256),
        rest (score q k h (256 * i + c.val)) (256 * i + c.val) j : ℝ) : EReal)
  | 0, _, u, c => by
    rw [Nat.sub_zero, Finset.Ico_self, Finset.sum_empty, EReal.coe_zero]
    exact zero_f32
  | n + 1, hn, u, c => by
    rw [R, pay12_apply, R_apply (n := n) (by omega), C_apply x1 x2 q k hq hk hi hh (n := n) (by omega), ← EReal.coe_add, add_comm,
      Finset.sum_Ico_consecutive _ (by omega) (by omega), show 256 * (i - (n + 1)) + 256 = 256 * (i - n) by omega]

/-- The exponent of a weight. -/
theorem exponent_apply {n : ℕ} (hn : n ≤ i) (r c : Fin 256) :
    Ideal.exp (A x1 x2 i h n (ix3 0 r c) + R x1 x2 i h n (ix3 0 0 c) - Z x1 x2 i h n (ix3 0 r c))
      = (Real.exp (score q k h (256 * i + c.val) (256 * (i - n) + r.val)
          + ∑ j ∈ Finset.Ico (256 * (i - n) + r.val) (256 * i + 256), rest (score q k h (256 * i + c.val)) (256 * i + c.val) j) : EReal) := by
  have hr := r.isLt
  rw [A_apply x1 x2 q k hq hk hi hh hn, R_apply x1 x2 q k hq hk hi hh hn, Z_apply x1 x2 q k hq hk hi hh n, ← EReal.coe_add,
    ← EReal.coe_sub, exp_coe, Finset.sum_Ico_consecutive _ (by omega) (by omega), sub_neg_eq_add, add_comm]

include hv

theorem PV_apply : ∀ {n : ℕ} (_ : n ≤ i) (u : Fin 1) (d : Fin 128) (c : Fin 256), PV x1 x2 x3 i h n (ix3 u d c)
    = ∑ j ∈ Finset.Ico (256 * (i - n)) (256 * (i - n) + 256), v (128 * h + d.val) j
        * (weight (score q k h (256 * i + c.val)) (256 * i + c.val) (256 * i + 256) j : EReal)
  | 0, hn, u, d, c => by
    rw [PV, pay178_apply, ← sum_block]
    refine Finset.sum_congr rfl fun r _ => ?_
    rw [valsOf_apply x3 v hv (by omega) hh, exponent_apply x1 x2 q k hq hk hi hh hn, weight]
    congr 1
    by_cases h : r.val < c.val
    · rw [if_pos h, if_pos (by omega)]
    · rw [if_neg h, if_neg (by omega), EReal.coe_zero]
  | n + 1, hn, u, d, c => by
    rw [PV, pay11_apply, ← sum_block]
    refine Finset.sum_congr rfl fun r _ => ?_
    have hr := r.isLt
    rw [valsOf_apply x3 v hv (by omega) hh, exponent_apply x1 x2 q k hq hk hi hh hn, weight, if_pos (by omega)]

theorem ACC_apply : ∀ {n : ℕ} (_ : n ≤ i + 1) (u : Fin 1) (d : Fin 128) (c : Fin 256), ACC x1 x2 x3 i h n (ix3 u d c)
    = ∑ j ∈ Finset.Ico (256 * (i + 1 - n)) (256 * i + 256), v (128 * h + d.val) j
        * (weight (score q k h (256 * i + c.val)) (256 * i + c.val) (256 * i + 256) j : EReal)
  | 0, _, u, d, c => by
    rw [Finset.Ico_eq_empty (by omega), Finset.sum_empty]
    exact zero_f32
  | n + 1, hn, u, d, c => by
    rw [ACC, pay14_apply, ACC_apply (n := n) (by omega), PV_apply x1 x2 x3 q k v hq hk hv hi hh (n := n) (by omega), add_comm,
      show i + 1 - (n + 1) = i - n by omega, show 256 * (i + 1 - n) = 256 * (i - n) + 256 by omega,
      Finset.sum_Ico_consecutive _ (by omega) (by omega)]

/-- What is written for query block `i` and head `h`: the weighted values of the keys up to the block's end. -/
theorem OUT_apply (c : Fin 256) (d : Fin 128) : OUT x1 x2 x3 i h (ix2 c d)
    = ∑ j ∈ Finset.range (256 * i + 256), v (128 * h + d.val) j
        * (weight (score q k h (256 * i + c.val)) (256 * i + c.val) (256 * i + 256) j : EReal) := by
  unfold OUT
  rw [pay4_apply, ACC_apply x1 x2 x3 q k v hq hk hv hi hh (le_refl _), Nat.sub_self, Nat.mul_zero, Finset.range_eq_Ico]

end

/-- The output window, entry by entry: all 2048 keys may be counted, those from the query on having no weight. -/
theorem outAt_apply (x1 x2 : Vec Ideal S2048x768 .bf16) (x3 : Vec Ideal S8x768x256 .bf16) (q k : ℕ → ℕ → ℝ) (v : ℕ → ℕ → EReal)
    (hq : ∀ (a : Fin 2048) (b : Fin 768), x1 (ix2 a b) = (q a.val b.val : EReal))
    (hk : ∀ (a : Fin 2048) (b : Fin 768), x2 (ix2 a b) = (k a.val b.val : EReal))
    (hv : ∀ (a : Fin 8) (b : Fin 768) (c : Fin 256), x3 (ix3 a b c) = v b.val (256 * a.val + c.val)) (y : S2048x768.Idx) :
    outAt x1 x2 x3 y = ∑ j ∈ Finset.range 2048,
      v (y 1).val j * (weight (score q k ((y 1).val / 128) (y 0).val) (y 0).val 2048 j : EReal) := by
  have h0 : (y 0).val < 2048 := (y 0).isLt
  have h1 : (y 1).val < 768 := (y 1).isLt
  unfold outAt
  rw [OUT_apply x1 x2 x3 q k v hq hk hv (by omega) (by omega)]
  have e0 : 256 * ((y 0).val / 256) + (Fin.ofNat 256 (y 0).val).val = (y 0).val := by
    show 256 * ((y 0).val / 256) + (y 0).val % 256 = _
    omega
  have e1 : 128 * ((y 1).val / 128) + (Fin.ofNat 128 (y 1).val).val = (y 1).val := by
    show 128 * ((y 1).val / 128) + (y 1).val % 128 = _
    omega
  rw [e0, e1, Finset.range_eq_Ico, Finset.range_eq_Ico,
    ← Finset.sum_Ico_consecutive _ (Nat.zero_le (256 * ((y 0).val / 256) + 256)) (show 256 * ((y 0).val / 256) + 256 ≤ 2048 by omega)]
  rw [Finset.sum_eq_zero (s := Finset.Ico (256 * ((y 0).val / 256) + 256) 2048) (fun j hj => by
    rw [weight_eq_zero _ (by have := Finset.mem_Ico.1 hj; omega), EReal.coe_zero, mul_zero]), add_zero]
  refine Finset.sum_congr rfl fun j _ => ?_
  rw [weight_extend _ (show (y 0).val ≤ 256 * ((y 0).val / 256) + 256 by omega) (show 256 * ((y 0).val / 256) + 256 ≤ 2048 by omega)]

end Cert.Proof.KernelIdeal
-- ==== Proof.KernelIdeal.Result.lean ====
module

public import proofs.«01_k».proof.Proof.KernelIdeal.Run
public import proofs.«01_k».proof.Proof.KernelIdeal.Value
public import proofs.«01_k».proof.Proof.Math
public import proofs.«01_k».proof.Proof.Gen.KernelIdeal.Points

/-!
The result array after the idealized kernel's run: the stick-breaking attention of the two arguments, when every query and
key entry is a real number.
-/

@[expose] public section
set_option maxRecDepth 16384
noncomputable section
namespace Cert.Proof.KernelIdeal
open Cert.KernelIdeal Cert.KernelIdeal.Gen Cert.Proof.Math
open Idealize.ShloMosaic Idealize.ShloMosaic.TcCoe Idealize.ShloMosaic.ValueIdx Idealize.SL Idealize.SL.Sem
open Idealize.ShloMosaic.Pipeline (Dat)
open scoped BigOperators

variable (m : (ℓ : Loc nD τ sig) → Buf (Elt Ideal) ℓ) (ρ : Dev nD → PrngReg)

/-! ## Where the windows lie -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 1 :=
  (by decide +kernel : ∀ t : Fin grid0.N, _)
theorem at2 : ∀ t : Fin cfg0.N, win0_2.index t (0 : Fin 3) = t.val ∧ win0_2.index t (1 : Fin 3) = 0 ∧ win0_2.index t (2 : Fin 3) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)

theorem lt16 (t : Fin cfg0.N) : t.val < 16 := by
  have h := t.isLt
  have e : cfg0.N = 16 := N_0
  omega

/-- The queries a grid point reads: those of its batch. -/
theorem block0 (c : Dev nD) (hx : Finite (m ((c.tc : Thread nD τ).loc main_arg0))) (t : Fin cfg0.N) (a : Fin 2048) (b : Fin 768) :
    (iblk m c 0 t : Vec Ideal S2048x768 .bf16) (ix2 a b) = (query (m ((c.tc : Thread nD τ).loc main_arg0)) t.val a.val b.val : EReal) := by
  obtain ⟨e0, e1⟩ := at0 t
  have ht := lt16 t
  have ha := a.isLt; have hb := b.isLt
  show m ((c.tc : Thread nD τ).loc main_arg0) (((cfg0.win 0).blk t).view.emb (ix2 a b)) = _
  have e : ((cfg0.win 0).blk t).view.emb (ix2 a b) = (ix2 (⟨2048 * t.val + a.val, by omega⟩ : Fin 32768) (⟨b.val, by omega⟩ : Fin 3072)) := by
    funext i; apply Fin.ext
    match i with
    | ⟨0, _⟩ => show win0_0.index t (0 : Fin 2) * 2048 + 1 * a.val = 2048 * t.val + a.val; omega
    | ⟨1, _⟩ => show win0_0.index t (1 : Fin 2) * 768 + 1 * b.val = b.val; omega
  rw [e]
  exact hx _ _ (by show b.val < 1536; omega)

/-- The keys a grid point reads: those of its batch. -/
theorem block1 (c : Dev nD) (hx : Finite (m ((c.tc : Thread nD τ).loc main_arg0))) (t : Fin cfg0.N) (a : Fin 2048) (b : Fin 768) :
    (iblk m c 1 t : Vec Ideal S2048x768 .bf16) (ix2 a b) = (key (m ((c.tc : Thread nD τ).loc main_arg0)) t.val a.val b.val : EReal) := by
  obtain ⟨e0, e1⟩ := at1 t
  have ht := lt16 t
  have ha := a.isLt; have hb := b.isLt
  show m ((c.tc : Thread nD τ).loc main_arg0) (((cfg0.win 1).blk t).view.emb (ix2 a b)) = _
  have e : ((cfg0.win 1).blk t).view.emb (ix2 a b)
      = (ix2 (⟨2048 * t.val + a.val, by omega⟩ : Fin 32768) (⟨768 + b.val, by omega⟩ : Fin 3072)) := by
    funext i; apply Fin.ext
    match i with
    | ⟨0, _⟩ => show win0_1.index t (0 : Fin 2) * 2048 + 1 * a.val = 2048 * t.val + a.val; omega
    | ⟨1, _⟩ => show win0_1.index t (1 : Fin 2) * 768 + 1 * b.val = 768 + b.val; omega
  rw [e]
  exact hx _ _ (by show 768 + b.val < 1536; omega)

/-- The values a grid point reads: those of its batch, by block of keys, feature, and key within the block. -/
theorem block2 (c : Dev nD) (t : Fin cfg0.N) (a : Fin 8) (b : Fin 768) (d : Fin 256) :
    (X0_2 m c t : Vec Ideal S8x768x256 .bf16) (ix3 a b d) = valAt (m ((c.tc : Thread nD τ).loc main_arg1)) t.val b.val (256 * a.val + d.val) := by
  obtain ⟨e0, e1, e2⟩ := at2 t
  have ht := lt16 t
  have ha := a.isLt; have hb := b.isLt; have hd := d.isLt
  unfold X0_2 Pipeline.Window.fill
  rw [dif_pos (moved0_2 t (ix3 a b d))]
  unfold valAt
  refine congrArg (m ((c.tc : Thread nD τ).loc main_arg1)) ?_
  funext i; apply Fin.ext
  match i with
  | ⟨0, _⟩ => show win0_2.index t (0 : Fin 3) * 8 + 1 * a.val = (8 * t.val + (256 * a.val + d.val) / 256) % 128; omega
  | ⟨1, _⟩ => show win0_2.index t (1 : Fin 3) * 768 + 1 * b.val = b.val % 2048; omega
  | ⟨2, _⟩ => show win0_2.index t (2 : Fin 3) * 256 + 1 * d.val = (256 * a.val + d.val) % 256; omega

/-! ## The result array -/

/-- The stick-breaking attention of the arguments as launched, as contents of the result array. -/
abbrev result (c : Dev nD) : Buf (Elt Ideal) ((c.tc : Thread nD τ).loc main_v0) :=
  attn (m ((c.tc : Thread nD τ).loc main_arg0)) (m ((c.tc : Thread nD τ).loc main_arg1))

/-- What a grid point writes back is its batch of the attention. -/
theorem flushed (c : Dev nD) (hx : Finite (m ((c.tc : Thread nD τ).loc main_arg0))) (t : Fin cfg0.N) :
    (dats m 0 c).flushed 3 t = ((cfg0.win 3).blk t).view.read (Elt Ideal) (result m c) := by
  obtain ⟨e0, e1⟩ := at3 t
  have ht := lt16 t
  funext y
  show written m c t y = result m c (((cfg0.win 3).blk t).view.emb y)
  have h0 : (y 0).val < 2048 := (y 0).isLt
  have h1 : (y 1).val < 768 := (y 1).isLt
  unfold written
  rw [outAt_apply (iblk m c 0 t) (iblk m c 1 t) (X0_2 m c t) _ _ _ (block0 m c hx t) (block1 m c hx t) (block2 m c t) y]
  have e : ((cfg0.win 3).blk t).view.emb y = (ix2 (⟨2048 * t.val + (y 0).val, by omega⟩ : Fin 32768) (⟨(y 1).val, h1⟩ : Fin 768)) := by
    funext i; apply Fin.ext
    match i with
    | ⟨0, _⟩ => show win0_3.index t (0 : Fin 2) * 2048 + 1 * (y 0).val = 2048 * t.val + (y 0).val; omega
    | ⟨1, _⟩ => show win0_3.index t (1 : Fin 2) * 768 + 1 * (y 1).val = (y 1).val; omega
  rw [e]
  show _ = ∑ j ∈ Finset.range 2048, valAt _ ((2048 * t.val + (y 0).val) / 2048) (y 1).val j
    * (weight (score (query _ ((2048 * t.val + (y 0).val) / 2048)) (key _ ((2048 * t.val + (y 0).val) / 2048)) ((y 1).val / 128)
      ((2048 * t.val + (y 0).val) % 2048)) ((2048 * t.val + (y 0).val) % 2048) 2048 j : EReal)
  rw [show (2048 * t.val + (y 0).val) / 2048 = t.val by omega, show (2048 * t.val + (y 0).val) % 2048 = (y 0).val by omega]

/-- Every entry of the result is written by some grid point. -/
theorem covered (i : S32768x768.Idx) : ∃ t : Fin cfg0.N, (cfg0.win 3).flush t = true ∧ i ∈ ((cfg0.win 3).blk t).view.set := by
  have h0 : (i 0).val < 32768 := (i 0).isLt
  have h1 : (i 1).val < 768 := (i 1).isLt
  have hN : cfg0.N = 16 := N_0
  obtain ⟨t, ht⟩ : ∃ t : Fin cfg0.N, t.val = (i 0).val / 2048 := ⟨⟨(i 0).val / 2048, by omega⟩, rfl⟩
  refine ⟨t, flush0_3 t, ?_⟩
  obtain ⟨e0, e1⟩ := at3 t
  show i ∈ ((View.whole main_v0).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 768 ≤ (i 1).val ∧ (i 1).val < win0_3.index t (1 : Fin 2) * 768 + 768
    omega

/-- The result array after the run. -/
theorem final (c : Dev nD) (hx : Finite (m ((c.tc : Thread nD τ).loc main_arg0))) : (dats m 0 c).arrAt 3 cfg0.N = result m c :=
  (dats m 0 c).arrAt_eq_of_cover 3 (result m c) (fun t _ => flushed m c hx t) covered

/-- The run with the result array at the attention of the arguments. -/
theorem run (hx : ∀ c : Dev nD, Finite (m ((c.tc : Thread nD τ).loc main_arg0))) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 3).trans (final m c (hx c)), ((h.1 c).1 0).trans ((dats m 0 c).arrAt_in 0 rfl _),
    ((h.1 c).1 2).trans ((dats m 0 c).arrAt_in 2 rfl _)⟩) (run_main m ρ)

end Cert.Proof.KernelIdeal
-- ==== Proof.Reference.lean ====
module

public import proofs.«01_k».proof.Proof.Gen.ReferenceIdeal.Read
public import proofs.«01_k».proof.Proof.Math
public import Idealize.ShloMosaic.Lib.ValueIdx

/-!
What the reference computes, over the extended reals, when every query and key entry is a real number.
-/

@[expose] public section
set_option maxRecDepth 16384
noncomputable section
namespace Cert.Proof.Reference
open Cert.ReferenceIdeal Cert.ReferenceIdeal.Gen Cert.ReferenceIdeal.Read Cert.Proof.Math
open Idealize.ShloMosaic Idealize.ShloMosaic.ValueIdx
open scoped BigOperators

/-! ## The running sum -/

theorem foldl_add {α : Type} (g : α → EReal) : ∀ (l : List α) (v : EReal), l.foldl (fun r n => r + g n) v = v + (l.map g).sum
  | [], v => by simp
  | a :: l, v => by rw [List.foldl_cons, foldl_add g l, List.map_cons, List.sum_cons, add_assoc]

/-- The positions of a window along the last axis. -/
def winEquiv : (⟨4, ![1, 1, 1, 2048]⟩ : Shape).Idx ≃ Fin 2048 where
  toFun w := w 3
  invFun k := ix4 0 0 0 k
  left_inv w := by
    funext a
    apply Fin.ext
    match a with
    | ⟨0, _⟩ => have h : (w 0).val < 1 := (w 0).isLt; show 0 = (w 0).val; omega
    | ⟨1, _⟩ => have h : (w 1).val < 1 := (w 1).isLt; show 0 = (w 1).val; omega
    | ⟨2, _⟩ => have h : (w 2).val < 1 := (w 2).isLt; show 0 = (w 2).val; omega
    | ⟨3, _⟩ => rfl
  right_inv _ := rfl

/-- The position in the window that a number names. -/
def offset (n : Fin (⟨4, ![1, 1, 1, 2048]⟩ : Shape).numel) : (⟨4, ![1, 1, 1, 2048]⟩ : Shape).Idx :=
  (⟨4, ![1, 1, 1, 2048]⟩ : Shape).rowMajor.symm n

/-- The reversed running sum along the last axis: each entry is the sum from its position on. -/
theorem window_apply (x : FVec Ideal S16x6x2048x2048 .f32) (init : S_.Idx → Ideal .f32) (h0 : init (Shape.Idx.first h_S_) = 0)
    (f : ℕ → EReal) (b : Fin 16) (h : Fin 6) (t s : Fin 2048) (hf : ∀ j : Fin 2048, x (ix4 b h t j) = f j.val) :
    Host.reduceWindowAdd (F := Ideal) ![1, 1, 1, 2048] ![1, 1, 1, 1] ![0, 0, 0, 0] ![0, 0, 0, 2047] x init
      reduceWindows_S16x6x2048x2048_S16x6x2048x2048_w1s1p0_0_w1s1p0_0_w1s1p0_0_w2048s1p0_2047 h_S_ (ix4 b h t s)
      = ∑ j ∈ Finset.Ico s.val 2048, f j := by
  unfold Host.reduceWindowAdd
  rw [Ideal.hostReduceWindowAdd_def, h0]
  unfold Ideal.hostReduceWindowAdd Host.reduceWindow
  refine (foldl_add _ _ _).trans ?_
  rw [zero_add, ← Fin.sum_univ_def]
  rw [← sum_window]
  refine Fintype.sum_equiv ((⟨4, ![1, 1, 1, 2048]⟩ : Shape).rowMajor.symm.trans winEquiv) _
    (fun k : Fin 2048 => if s.val + k.val < 2048 then f (s.val + k.val) else 0) fun n => ?_
  show _ = if s.val + (offset n 3).val < 2048
    then f (s.val + (offset n 3).val) else 0
  have w0 : (offset n 0).val < 1 := (offset n 0).isLt
  have w1 : (offset n 1).val < 1 := (offset n 1).isLt
  have w2 : (offset n 2).val < 1 := (offset n 2).isLt
  have hb := b.isLt; have hh := h.isLt; have ht := t.isLt
  by_cases hs : s.val + (offset n 3).val < 2048
  · rw [if_pos hs, dif_pos (fun a => match a with
      | ⟨0, _⟩ => ⟨Nat.zero_le _, by show b.val * 1 + (offset n 0).val - 0 < 16; omega⟩
      | ⟨1, _⟩ => ⟨Nat.zero_le _, by show h.val * 1 + (offset n 1).val - 0 < 6; omega⟩
      | ⟨2, _⟩ => ⟨Nat.zero_le _, by show t.val * 1 + (offset n 2).val - 0 < 2048; omega⟩
      | ⟨3, _⟩ => ⟨Nat.zero_le _, by show s.val * 1 + (offset n 3).val - 0 < 2048; omega⟩)]
    refine Eq.trans (congrArg x ?_) (hf ⟨s.val + (offset n 3).val, hs⟩)
    funext a
    apply Fin.ext
    match a with
    | ⟨0, _⟩ => show b.val * 1 + (offset n 0).val - 0 = b.val; omega
    | ⟨1, _⟩ => show h.val * 1 + (offset n 1).val - 0 = h.val; omega
    | ⟨2, _⟩ => show t.val * 1 + (offset n 2).val - 0 = t.val; omega
    | ⟨3, _⟩ => show s.val * 1 + (offset n 3).val - 0 = s.val + (offset n 3).val; omega
  · rw [if_neg hs, dif_neg (fun hin => hs (by
      have h3 : s.val * 1 + (offset n 3).val - 0 < 2048 := (hin (⟨3, Nat.lt_succ_self 3⟩ : Fin 4)).2
      omega))]

/-! ## The operands -/

variable (x0 : (⟨S32768x3072, .bf16⟩ : BufTy).Contents (Elt Ideal)) (x1 : (⟨S128x2048x256, .bf16⟩ : BufTy).Contents (Elt Ideal))

theorem v9_apply (b : Fin 16) (h : Fin 6) (t : Fin 2048) (d : Fin 128) :
    val_main_v9 (F := Ideal) x0 (ix4 b h t d) = x0 (ix2 (Fin.ofNat 32768 (2048 * b.val + t.val)) (Fin.ofNat 3072 (128 * h.val + d.val))) := by
  have hb := b.isLt; have hh := h.isLt; have ht := t.isLt; have hd := d.isLt
  rw [val_main_v9_apply, val_main_v8_apply, val_main_v1_apply, val_main_v0_apply]
  refine congrArg x0 (Shape.idx_ext₂ ?_ ?_)
  · show (((((b.val * 2048 + t.val) * 6 + h.val) * 128 + d.val) / 1572864 * 2048
      + (((b.val * 2048 + t.val) * 6 + h.val) * 128 + d.val) / 768 % 2048) * 768
      + (((b.val * 2048 + t.val) * 6 + h.val) * 128 + d.val) % 768) / 768 = (2048 * b.val + t.val) % 32768
    omega
  · show (((((b.val * 2048 + t.val) * 6 + h.val) * 128 + d.val) / 1572864 * 2048
      + (((b.val * 2048 + t.val) * 6 + h.val) * 128 + d.val) / 768 % 2048) * 768
      + (((b.val * 2048 + t.val) * 6 + h.val) * 128 + d.val) % 768) % 768 = (128 * h.val + d.val) % 3072
    omega

theorem v11_apply (b : Fin 16) (h : Fin 6) (t : Fin 2048) (d : Fin 128) :
    val_main_v11 (F := Ideal) x0 (ix4 b h t d)
      = x0 (ix2 (Fin.ofNat 32768 (2048 * b.val + t.val)) (Fin.ofNat 3072 (768 + (128 * h.val + d.val)))) := by
  have hb := b.isLt; have hh := h.isLt; have ht := t.isLt; have hd := d.isLt
  rw [val_main_v11_apply, val_main_v10_apply, val_main_v3_apply, val_main_v2_apply]
  refine congrArg x0 (Shape.idx_ext₂ ?_ ?_)
  · show (((((b.val * 2048 + t.val) * 6 + h.val) * 128 + d.val) / 1572864 * 2048
      + (((b.val * 2048 + t.val) * 6 + h.val) * 128 + d.val) / 768 % 2048) * 768
      + (((b.val * 2048 + t.val) * 6 + h.val) * 128 + d.val) % 768) / 768 = (2048 * b.val + t.val) % 32768
    omega
  · show 768 + (((((b.val * 2048 + t.val) * 6 + h.val) * 128 + d.val) / 1572864 * 2048
      + (((b.val * 2048 + t.val) * 6 + h.val) * 128 + d.val) / 768 % 2048) * 768
      + (((b.val * 2048 + t.val) * 6 + h.val) * 128 + d.val) % 768) % 768 = (768 + (128 * h.val + d.val)) % 3072
    omega

theorem v13_apply (b : Fin 16) (h : Fin 6) (s : Fin 2048) (d : Fin 128) :
    val_main_v13 (F := Ideal) x1 (ix4 b h s d) = valAt x1 b.val (128 * h.val + d.val) s.val := by
  have hb := b.isLt; have hh := h.isLt; have hs := s.isLt; have hd := d.isLt
  have e12 : idx_main_v12 (idx_main_v13 (ix4 b h s d)) = ix3 b s (⟨128 * h.val + d.val, by omega⟩ : Fin 768) := by
    funext a
    apply Fin.ext
    match a with
    | ⟨0, _⟩ => show (((b.val * 2048 + s.val) * 6 + h.val) * 128 + d.val) / 1572864 = b.val; omega
    | ⟨1, _⟩ => show (((b.val * 2048 + s.val) * 6 + h.val) * 128 + d.val) / 768 % 2048 = s.val; omega
    | ⟨2, _⟩ => show (((b.val * 2048 + s.val) * 6 + h.val) * 128 + d.val) % 768 = 128 * h.val + d.val; omega
  have e7 : idx_main_v7 (ix3 b s (⟨128 * h.val + d.val, by omega⟩ : Fin 768))
      = ix4 b (⟨s.val / 256, by omega⟩ : Fin 8) (⟨s.val % 256, by omega⟩ : Fin 256) (⟨128 * h.val + d.val, by omega⟩ : Fin 768) := by
    funext a
    apply Fin.ext
    match a with
    | ⟨0, _⟩ => show ((b.val * 2048 + s.val) * 768 + (128 * h.val + d.val)) / 1572864 = b.val; omega
    | ⟨1, _⟩ => show ((b.val * 2048 + s.val) * 768 + (128 * h.val + d.val)) / 196608 % 8 = s.val / 256; omega
    | ⟨2, _⟩ => show ((b.val * 2048 + s.val) * 768 + (128 * h.val + d.val)) / 768 % 256 = s.val % 256; omega
    | ⟨3, _⟩ => show ((b.val * 2048 + s.val) * 768 + (128 * h.val + d.val)) % 768 = 128 * h.val + d.val; omega
  rw [val_main_v13_apply, val_main_v12_apply, e12, val_main_v7_apply, e7, val_main_v6_apply, val_main_v5_apply, val_main_v4_apply]
  refine congrArg x1 ?_
  funext a
  apply Fin.ext
  match a with
  | ⟨0, _⟩ =>
    show (((b.val * 8 + s.val / 256) * 2048 + (128 * h.val + d.val)) * 256 + s.val % 256) / 524288 = (8 * b.val + s.val / 256) % 128
    rw [Nat.mod_eq_of_lt (show 8 * b.val + s.val / 256 < 128 by omega)]
    have h1 : s.val / 256 < 8 := by omega
    have h2 : s.val % 256 < 256 := by omega
    clear e7 e12
    generalize s.val / 256 = i at *
    generalize s.val % 256 = j at *
    omega
  | ⟨1, _⟩ =>
    show (((b.val * 8 + s.val / 256) * 2048 + (128 * h.val + d.val)) * 256 + s.val % 256) / 256 % 2048 = (128 * h.val + d.val) % 2048
    omega
  | ⟨2, _⟩ =>
    show (((b.val * 8 + s.val / 256) * 2048 + (128 * h.val + d.val)) * 256 + s.val % 256) % 256 = s.val % 256
    omega

/-! ## The scores and the mask -/

theorem v15_apply (hx : Finite x0) (b : Fin 16) (h : Fin 6) (t s : Fin 2048) :
    val_main_v15 (F := Ideal) x0 (ix4 b h t s) = (score (query x0 b.val) (key x0 b.val) h.val t.val s.val : EReal) := by
  have hb := b.isLt; have hh := h.isLt; have ht := t.isLt; have hs := s.isLt
  rw [val_main_v15_apply]
  unfold score
  rw [coe_sum]
  refine Finset.sum_congr rfl fun d _ => ?_
  have hd := d.isLt
  have el : lidx_main_v15 (ix4 b h t s) d = ix4 b h t d := by
    funext a; match a with | ⟨0, _⟩ => rfl | ⟨1, _⟩ => rfl | ⟨2, _⟩ => rfl | ⟨3, _⟩ => rfl
  have er : ridx_main_v15 (ix4 b h t s) d = ix4 b h s d := by
    funext a; match a with | ⟨0, _⟩ => rfl | ⟨1, _⟩ => rfl | ⟨2, _⟩ => rfl | ⟨3, _⟩ => rfl
  rw [el, er, v9_apply, v11_apply, hx _ _ (by show (128 * h.val + d.val) % 3072 < 1536; omega),
    hx _ _ (by show (768 + (128 * h.val + d.val)) % 3072 < 1536; omega), ← EReal.coe_mul]
  unfold query key
  congr 3
  · show (2048 * b.val + t.val) % 32768 = _; omega
  · show (128 * h.val + d.val) % 3072 = _; omega
  · show (2048 * b.val + s.val) % 32768 = _; omega
  · show (768 + (128 * h.val + d.val)) % 3072 = _; omega

theorem toInt_small (n : ℕ) (h : n < 4096) : (BitVec.ofNat 32 n).toInt = (n : ℤ) := by
  rw [BitVec.toInt_eq_toNat_of_lt (by rw [BitVec.toNat_ofNat]; omega), BitVec.toNat_ofNat, Nat.mod_eq_of_lt (by omega)]

/-- Which keys a query sees: those strictly before it. -/
theorem v20_apply (t s : Fin 2048) : val_main_v20 (F := Ideal) (ix2 t s) = BitVec.ofBool (decide (s.val < t.val)) := by
  rw [val_main_v20_apply, val_main_v18_apply, val_main_v19_apply, val_main_v16_apply, val_main_v17_apply, val_main_v14_apply, val_main_v14_apply]
  show BitVec.ofBool (BitVec.slt (BitVec.ofNat 32 s.val) (BitVec.ofNat 32 t.val)) = _
  congr 1
  rw [BitVec.slt, toInt_small _ (by omega), toInt_small _ (by omega)]
  exact decide_eq_decide.2 Int.ofNat_lt

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem zero_f32 : (FloatOps.ofBits .f32 0x00000000#32 : Ideal .f32) = 0 := Ideal.ofBits_zero_f32

theorem mask1_apply (b : Fin 16) (h : Fin 6) (t s : Fin 2048) :
    val_main_call1_v1 (F := Ideal) (ix4 b h t s) = BitVec.ofBool (decide (s.val < t.val)) := by
  rw [val_main_call1_v1_apply, ← v20_apply]
  refine congrArg _ ?_
  funext a; match a with | ⟨0, _⟩ => rfl | ⟨1, _⟩ => rfl

theorem mask4_apply (b : Fin 16) (h : Fin 6) (t s : Fin 2048) :
    val_main_call4_v1 (F := Ideal) (ix4 b h t s) = BitVec.ofBool (decide (s.val < t.val)) := by
  rw [val_main_call4_v1_apply, ← v20_apply]
  refine congrArg _ ?_
  funext a; match a with | ⟨0, _⟩ => rfl | ⟨1, _⟩ => rfl

/-! ## The logarithms of the sigmoids -/

/-- Minus the softplus of a real number, as the reference spells it. -/
theorem softplus_apply (y z w : Ideal .f32) (x : ℝ) (hy : y = (x : EReal)) (hz : z = 0) :
    FloatOps.hostNegf (Scalar.select (FloatOps.cmpf .une (FloatOps.subf y z) (FloatOps.subf y z)) w
      (FloatOps.addf (FloatOps.maximumf y z)
        (FloatOps.hostUnary .log1p (FloatOps.hostUnary .exp (FloatOps.hostNegf (FloatOps.hostAbsf (FloatOps.subf y z)))))))
      = (logRest x : EReal) := by
  subst hy hz
  have e : (FloatOps.cmpf .une (FloatOps.subf (x : EReal) 0 : Ideal .f32) (FloatOps.subf (x : EReal) 0 : Ideal .f32) : BitVec 1) = 0#1 := by
    rw [Ideal.cmpf_def]; simp [Ideal.cmp]
  rw [e]
  exact logRest_softplus x

theorem neg_neg_f32 (x : ℝ) : (FloatOps.hostNegf (FloatOps.hostNegf (x : EReal) : Ideal .f32) : Ideal .f32) = (x : EReal) := by
  show (-(-(x : EReal))) = (x : EReal)
  rw [neg_neg]

theorem v22_apply (i : S16x6x2048x2048.Idx) (z : ℝ) (h : val_main_v15 (F := Ideal) x0 i = (z : EReal)) :
    val_main_v22 (F := Ideal) x0 i = (logRest z : EReal) := by
  rw [val_main_v22_apply, val_main_call0_v1_apply, val_main_call0_call0_v4_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_cst_apply]
  refine softplus_apply _ _ _ z ?_ zero_f32
  rw [val_main_call0_v0_apply, val_main_v21_apply, h]
  exact neg_neg_f32 z

theorem v26_apply (i : S16x6x2048x2048.Idx) (z : ℝ) (h : val_main_v15 (F := Ideal) x0 i = (z : EReal)) :
    val_main_v26 (F := Ideal) x0 i = ((z + logRest z : ℝ) : EReal) := by
  rw [val_main_v26_apply, val_main_call3_v1_apply, val_main_call3_call0_v4_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_cst_apply, ← logRest_neg]
  refine softplus_apply _ _ _ (-z) ?_ zero_f32
  rw [val_main_call3_v0_apply, h, EReal.coe_neg]
  rfl

/-! ## The weights -/

theorem v23_apply (hx : Finite x0) (b : Fin 16) (h : Fin 6) (t s : Fin 2048) :
    val_main_v23 (F := Ideal) x0 (ix4 b h t s) = (rest (score (query x0 b.val) (key x0 b.val) h.val t.val) t.val s.val : EReal) := by
  rw [val_main_v23_apply, mask1_apply, select_ofBool, v22_apply x0 _ _ (v15_apply x0 hx b h t s), val_main_call1_v2_apply,
    val_main_call1_v0_apply, val_main_cst_apply, zero_f32]
  unfold rest
  split <;> simp

theorem v24_apply (hx : Finite x0) (b : Fin 16) (h : Fin 6) (t s : Fin 2048) :
    val_main_v24 (F := Ideal) x0 (ix4 b h t s)
      = ((∑ j ∈ Finset.Ico s.val 2048, rest (score (query x0 b.val) (key x0 b.val) h.val t.val) t.val j : ℝ) : EReal) := by
  unfold val_main_v24
  rw [coe_sum]
  refine window_apply _ _ ?_ (fun j => (rest (score (query x0 b.val) (key x0 b.val) h.val t.val) t.val j : EReal)) b h t s
    fun j => v23_apply x0 hx b h t j
  rw [val_main_call2_v0_apply, val_main_call2_cst_apply, zero_f32]

theorem v29_apply (hx : Finite x0) (b : Fin 16) (h : Fin 6) (t s : Fin 2048) :
    val_main_v29 (F := Ideal) x0 (ix4 b h t s)
      = (weight (score (query x0 b.val) (key x0 b.val) h.val t.val) t.val 2048 s.val : EReal) := by
  rw [val_main_v29_apply, mask4_apply, select_ofBool, val_main_v28_apply, val_main_v27_apply, val_main_v25_apply,
    v26_apply x0 _ _ (v15_apply x0 hx b h t s), v24_apply x0 hx, v23_apply x0 hx, val_main_call4_v2_apply,
    val_main_call4_v0_apply, val_main_cst_0_apply, zero_f32]
  unfold weight
  by_cases hst : s.val < t.val
  · rw [if_pos hst, if_pos hst]
    show Ideal.exp ((_ : ℝ) + (((_ : ℝ) : EReal) - ((_ : ℝ) : EReal))) = _
    rw [← EReal.coe_sub, ← EReal.coe_add, exp_coe]
    congr 2
    unfold rest
    rw [if_pos hst]
    ring
  · rw [if_neg hst, if_neg hst]; rfl

/-! ## The result -/

theorem v31_apply (hx : Finite x0) (b : Fin 16) (h : Fin 6) (t : Fin 2048) (d : Fin 128) :
    val_main_v31 (F := Ideal) x0 x1 (ix4 b h t d)
      = ∑ j ∈ Finset.range 2048, valAt x1 b.val (128 * h.val + d.val) j
        * (weight (score (query x0 b.val) (key x0 b.val) h.val t.val) t.val 2048 j : EReal) := by
  rw [val_main_v31_apply, ← Fin.sum_univ_eq_sum_range (fun j => valAt x1 b.val (128 * h.val + d.val) j
    * (weight (score (query x0 b.val) (key x0 b.val) h.val t.val) t.val 2048 j : EReal))]
  refine Finset.sum_congr rfl fun s _ => ?_
  have el : lidx_main_v31 (ix4 b h t d) s = ix4 b h t s := by
    funext a; match a with | ⟨0, _⟩ => rfl | ⟨1, _⟩ => rfl | ⟨2, _⟩ => rfl | ⟨3, _⟩ => rfl
  have er : ridx_main_v31 (ix4 b h t d) s = ix4 b h s d := by
    funext a; match a with | ⟨0, _⟩ => rfl | ⟨1, _⟩ => rfl | ⟨2, _⟩ => rfl | ⟨3, _⟩ => rfl
  rw [el, er, v13_apply, val_main_v30_apply, v29_apply x0 hx, mul_comm]
  rfl

/-- The reference computes the stick-breaking attention of its two arguments. -/
theorem result (hx : Finite x0) (y : S32768x768.Idx) : val_main_v35 (F := Ideal) x0 x1 y = attn x0 x1 y := by
  have h0 : (y 0).val < 32768 := (y 0).isLt
  have h1 : (y 1).val < 768 := (y 1).isLt
  have e34 : idx_main_v34 y = ix3 (⟨(y 0).val / 2048, by omega⟩ : Fin 16) (⟨(y 0).val % 2048, by omega⟩ : Fin 2048) (⟨(y 1).val, h1⟩ : Fin 768) := by
    funext a
    apply Fin.ext
    match a with
    | ⟨0, _⟩ => show ((y 0).val * 768 + (y 1).val) / 1572864 = (y 0).val / 2048; omega
    | ⟨1, _⟩ => show ((y 0).val * 768 + (y 1).val) / 768 % 2048 = (y 0).val % 2048; omega
    | ⟨2, _⟩ => show ((y 0).val * 768 + (y 1).val) % 768 = (y 1).val; omega
  have e32 : idx_main_v32 (idx_main_v33 (ix3 (⟨(y 0).val / 2048, by omega⟩ : Fin 16) (⟨(y 0).val % 2048, by omega⟩ : Fin 2048) (⟨(y 1).val, h1⟩ : Fin 768)))
      = ix4 (⟨(y 0).val / 2048, by omega⟩ : Fin 16) (⟨(y 1).val / 128, by omega⟩ : Fin 6) (⟨(y 0).val % 2048, by omega⟩ : Fin 2048)
        (⟨(y 1).val % 128, by omega⟩ : Fin 128) := by
    funext a
    apply Fin.ext
    match a with
    | ⟨0, _⟩ => show (((y 0).val / 2048 * 2048 + (y 0).val % 2048) * 768 + (y 1).val) / 1572864 = (y 0).val / 2048; omega
    | ⟨1, _⟩ => show (((y 0).val / 2048 * 2048 + (y 0).val % 2048) * 768 + (y 1).val) / 128 % 6 = (y 1).val / 128; omega
    | ⟨2, _⟩ => show (((y 0).val / 2048 * 2048 + (y 0).val % 2048) * 768 + (y 1).val) / 768 % 2048 = (y 0).val % 2048; omega
    | ⟨3, _⟩ => show (((y 0).val / 2048 * 2048 + (y 0).val % 2048) * 768 + (y 1).val) % 128 = (y 1).val % 128; omega
  rw [val_main_v35_apply, val_main_v34_apply, e34, val_main_v33_apply, val_main_v32_apply, e32, v31_apply x0 x1 hx]
  unfold attn
  have e : 128 * ((y 1).val / 128) + (y 1).val % 128 = (y 1).val := by omega
  rw [show 128 * (⟨(y 1).val / 128, by omega⟩ : Fin 6).val + (⟨(y 1).val % 128, by omega⟩ : Fin 128).val = (y 1).val from e]
  rfl

end Cert.Proof.Reference
-- ==== Proof.Layer.lean ====
module

public import Idealize.ShloMosaic.PureOps.Ideal.Laws
public import Idealize.ShloMosaic.Lib.ValueIdx

/-!
The layer's plain parts, over the extended reals, as functions of an index: the matrix product and the gated linear unit.
-/

@[expose] public section
noncomputable section
namespace Cert.Proof.Layer
open Idealize.ShloMosaic Idealize.ShloMosaic.ValueIdx
open scoped BigOperators

/-- Entry `(r, c)` of the product of two matrices. -/
def dot {M K N : ℕ} (a : (⟨2, ![M, K]⟩ : Shape).Idx → EReal) (b : (⟨2, ![K, N]⟩ : Shape).Idx → EReal) (r : Fin M) (c : Fin N) : EReal :=
  ∑ k : Fin K, a (ix2 r k) * b (ix2 k c)

/-- The gated linear unit: `silu gate * up`. -/
def gated (g u : EReal) : EReal := g * Ideal.logistic g * u

/-- Entry `c` of a row scaled to unit root mean square (over its 2048 entries), times the gain `g`. -/
def rms (y : Fin 2048 → EReal) (g : EReal) (c : Fin 2048) : EReal :=
  y c * Ideal.rsqrt (Ideal.div (∑ k, y k * y k) (Ideal.ofBits .f32 0x45000000#32) + Ideal.ofBits .f32 0x358637BD#32) * g

theorem one_f32 : Ideal.ofBits .f32 0x3F800000#32 = 1 := by
  simp [Ideal.ofBits, Ideal.ieee]
  rw [← EReal.coe_mul]
  norm_num

end Cert.Proof.Layer
-- ==== Proof.FfnUp.lean ====
module

public import proofs.«01_k».proof.Proof.Layer
public import proofs.«01_k».proof.Proof.Gen.Kernel2Ideal.Value
public import proofs.«01_k».proof.Proof.Gen.Kernel2Ideal.Points
public import proofs.«01_k».proof.Proof.Gen.Reference2Ideal.Run
public import proofs.«01_k».proof.Proof.Gen.Reference2Ideal.Read
public import Idealize.ShloMosaic.Lib.MatmulPlain
public import Idealize.ShloMosaic.Lib.Pipeline.Value

/-!
The gated up projection: the array the kernel leaves, and the reference's, are both `silu (h Wg) * (h Wu)`.
-/

@[expose] public section
set_option maxRecDepth 16384
noncomputable section
namespace Cert.Proof.FfnUp
open Cert.Proof.Layer
open Idealize.ShloMosaic Idealize.ShloMosaic.TcCoe Idealize.ShloMosaic.ValueIdx Idealize.SL Idealize.SL.Sem
open Idealize.ShloMosaic.Pipeline (Dat)
open scoped BigOperators

/-- The result as a function of the three arguments. -/
def up (h : (⟨2, ![32768, 2048]⟩ : Shape).Idx → EReal) (wg wu : (⟨2, ![2048, 5632]⟩ : Shape).Idx → EReal) :
    (⟨2, ![32768, 5632]⟩ : Shape).Idx → EReal :=
  fun i => gated (dot h wg (i 0) (i 1)) (dot h wu (i 0) (i 1))

section Kernel
open Cert.Kernel2Ideal Cert.Kernel2Ideal.Gen

variable (m : (ℓ : Loc nD τ sig) → Buf (Elt Ideal) ℓ) (ρ : Dev nD → PrngReg)

theorem at0 : ∀ t : Fin cfg0.N, win0_0.index t (0 : Fin 2) = t.val / 11 ∧ win0_0.index t (1 : Fin 2) = 0 :=
  (by decide +kernel : ∀ t : Fin grid0.N, _)
theorem at1 : ∀ t : Fin cfg0.N, win0_1.index t (0 : Fin 2) = 0 ∧ win0_1.index t (1 : Fin 2) = t.val % 11 :=
  (by decide +kernel : ∀ t : Fin grid0.N, _)
theorem at2 : ∀ t : Fin cfg0.N, win0_2.index t (0 : Fin 2) = 0 ∧ win0_2.index t (1 : Fin 2) = t.val % 11 :=
  (by decide +kernel : ∀ t : Fin grid0.N, _)
theorem at3 : ∀ t : Fin cfg0.N, win0_3.index t (0 : Fin 2) = t.val / 11 ∧ win0_3.index t (1 : Fin 2) = t.val % 11 :=
  (by decide +kernel : ∀ t : Fin grid0.N, _)
theorem count : cfg0.N = 352 := by decide +kernel

/-- What the body computes of its blocks, at an index. -/
theorem pay_apply (x : Vec Ideal S1024x2048 .bf16) (g u : Vec Ideal S2048x512 .bf16) (r : Fin 1024) (c : Fin 512) :
    k0_pay1 (F := Ideal) x g u (ix2 r c) = gated (dot x g r c) (dot x u r c) := by
  have e : ∀ w : Vec Ideal S2048x512 .bf16, matmul (F := Ideal) (φ₁ := .bf16) (φ₂ := .bf16) dot_S1024x2048_S2048x512_S1024x512_1_0_0_1_n_n none x w
      (constant S1024x512 .f32 0x00000000#32) (ix2 r c) = dot x w r c := fun w => by
    refine (Ideal.matmul_plain_apply (M := 1024) (K := 2048) (N := 512) none _ _ _ r c).trans ?_
    rw [constant_apply, Ideal.ofBits_zero_f32, zero_add]
    rfl
  unfold k0_pay1
  rw [truncf_apply, mulf_apply, mulf_apply]
  show _ * Ideal.logistic _ * _ = _
  rw [e, e]
  rfl

/-- What a grid point writes back is its block of the result. -/
theorem flushed (c : Dev nD) (t : Fin cfg0.N) :
    (dats m 0 c).flushed 3 t = ((cfg0.win 3).blk t).view.read (Elt Ideal)
      (up (m ((c.tc : Thread nD τ).loc main_arg0)) (m ((c.tc : Thread nD τ).loc main_arg1)) (m ((c.tc : Thread nD τ).loc main_arg2))
        : Buf (Elt Ideal) ((c.tc : Thread nD τ).loc main_v0)) := by
  obtain ⟨a0, a1⟩ := at0 t
  obtain ⟨b0, b1⟩ := at1 t
  obtain ⟨c0, c1⟩ := at2 t
  obtain ⟨d0, d1⟩ := at3 t
  have ht : t.val < 352 := count ▸ t.isLt
  rw [Value.flushed3]
  have z : (![0, 0] : Fin 2 → ℕ) = fun _ => 0 := by funext a; fin_cases a <;> rfl
  unfold out0_3
  rw [View.canon_unit_zero z, View.ld_unit_zero (S := S1024x2048) z, View.ld_unit_zero (S := S2048x512) z, View.ld_unit_zero (S := S2048x512) z]
  refine funext fun (y : S1024x512.Idx) => ?_
  obtain ⟨r, q, rfl⟩ : ∃ (r : Fin 1024) (q : Fin 512), y = ix2 r q := ⟨y 0, y 1, Shape.idx_ext₂ rfl rfl⟩
  have h0 := r.isLt
  have h1 := q.isLt
  show k0_pay1 (F := Ideal) (iblk m c 0 t) (iblk m c 1 t) (iblk m c 2 t) (ix2 r q) = up _ _ _ (((cfg0.win 3).blk t).view.emb (ix2 r q))
  rw [pay_apply]
  have e : ((cfg0.win 3).blk t).view.emb (ix2 r q)
      = (ix2 (⟨1024 * (t.val / 11) + r.val, by omega⟩ : Fin 32768) (⟨512 * (t.val % 11) + q.val, by omega⟩ : Fin 5632)) := by
    funext i; apply Fin.ext
    match i with
    | ⟨0, _⟩ => show win0_3.index t (0 : Fin 2) * 1024 + 1 * r.val = 1024 * (t.val / 11) + r.val; omega
    | ⟨1, _⟩ => show win0_3.index t (1 : Fin 2) * 512 + 1 * q.val = 512 * (t.val % 11) + q.val; omega
  rw [e]
  have ex : ∀ k : Fin 2048, (iblk m c 0 t : Vec Ideal S1024x2048 .bf16) (ix2 r k)
      = m ((c.tc : Thread nD τ).loc main_arg0) (ix2 (⟨1024 * (t.val / 11) + r.val, by omega⟩ : Fin 32768) k) := fun k => by
    show m ((c.tc : Thread nD τ).loc main_arg0) (((cfg0.win 0).blk t).view.emb (ix2 r k)) = _
    refine congrArg _ (funext fun i => Fin.ext ?_)
    match i with
    | ⟨0, _⟩ => show win0_0.index t (0 : Fin 2) * 1024 + 1 * r.val = 1024 * (t.val / 11) + r.val; omega
    | ⟨1, _⟩ => show win0_0.index t (1 : Fin 2) * 2048 + 1 * k.val = k.val; omega
  have eg : ∀ k : Fin 2048, (iblk m c 1 t : Vec Ideal S2048x512 .bf16) (ix2 k q)
      = m ((c.tc : Thread nD τ).loc main_arg1) (ix2 k (⟨512 * (t.val % 11) + q.val, by omega⟩ : Fin 5632)) := fun k => by
    show m ((c.tc : Thread nD τ).loc main_arg1) (((cfg0.win 1).blk t).view.emb (ix2 k q)) = _
    refine congrArg _ (funext fun i => Fin.ext ?_)
    match i with
    | ⟨0, _⟩ => show win0_1.index t (0 : Fin 2) * 2048 + 1 * k.val = k.val; omega
    | ⟨1, _⟩ => show win0_1.index t (1 : Fin 2) * 512 + 1 * q.val = 512 * (t.val % 11) + q.val; omega
  have eu : ∀ k : Fin 2048, (iblk m c 2 t : Vec Ideal S2048x512 .bf16) (ix2 k q)
      = m ((c.tc : Thread nD τ).loc main_arg2) (ix2 k (⟨512 * (t.val % 11) + q.val, by omega⟩ : Fin 5632)) := fun k => by
    show m ((c.tc : Thread nD τ).loc main_arg2) (((cfg0.win 2).blk t).view.emb (ix2 k q)) = _
    refine congrArg _ (funext fun i => Fin.ext ?_)
    match i with
    | ⟨0, _⟩ => show win0_2.index t (0 : Fin 2) * 2048 + 1 * k.val = k.val; omega
    | ⟨1, _⟩ => show win0_2.index t (1 : Fin 2) * 512 + 1 * q.val = 512 * (t.val % 11) + q.val; omega
  show gated _ _ = gated _ _
  congr 1
  · exact Finset.sum_congr rfl fun k _ => by rw [ex k, eg k]
  · exact Finset.sum_congr rfl fun k _ => by rw [ex k, eu k]

/-- Every entry of the result is written by some grid point. -/
theorem covered (i : S32768x5632.Idx) : ∃ t : Fin cfg0.N, (cfg0.win 3).flush t = true ∧ i ∈ ((cfg0.win 3).blk t).view.set := by
  have h0 : (i 0).val < 32768 := (i 0).isLt
  have h1 : (i 1).val < 5632 := (i 1).isLt
  have hN := count
  obtain ⟨t, ht⟩ : ∃ t : Fin cfg0.N, t.val = 11 * ((i 0).val / 1024) + (i 1).val / 512 :=
    ⟨⟨11 * ((i 0).val / 1024) + (i 1).val / 512, by omega⟩, rfl⟩
  refine ⟨t, flush0_3 t, ?_⟩
  obtain ⟨e0, e1⟩ := at3 t
  show i ∈ ((View.whole main_v0).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- The result array after the run. -/
theorem final (c : Dev nD) : (dats m 0 c).arrAt 3 cfg0.N
    = up (m ((c.tc : Thread nD τ).loc main_arg0)) (m ((c.tc : Thread nD τ).loc main_arg1)) (m ((c.tc : Thread nD τ).loc main_arg2)) :=
  (dats m 0 c).arrAt_eq_of_cover 3 _ (fun t _ => flushed m c t) covered

end Kernel

section Reference
open Cert.Reference2Ideal Cert.Reference2Ideal.Read

/-- The reference's result. -/
theorem reference (h : (⟨S32768x2048, .bf16⟩ : BufTy).Contents (Elt Ideal)) (wg wu : (⟨S2048x5632, .bf16⟩ : BufTy).Contents (Elt Ideal)) :
    val_main_v4 (F := Ideal) h wg wu = up h wg wu := by
  funext i
  have d0 : val_main_v0 (F := Ideal) h wg i = dot h wg (i 0) (i 1) := by
    rw [val_main_v0_apply]
    exact Finset.sum_congr rfl fun k _ => congrArg₂ (· * ·) (congrArg h (Shape.idx_ext₂ rfl rfl)) (congrArg wg (Shape.idx_ext₂ rfl rfl))
  have d1 : val_main_v1 (F := Ideal) h wu i = dot h wu (i 0) (i 1) := by
    rw [val_main_v1_apply]
    exact Finset.sum_congr rfl fun k _ => congrArg₂ (· * ·) (congrArg h (Shape.idx_ext₂ rfl rfl)) (congrArg wu (Shape.idx_ext₂ rfl rfl))
  rw [val_main_v4_apply, val_main_v3_apply, val_main_v2_apply, val_main_call0_v5_apply, val_main_call0_v4_apply,
    val_main_call0_cst_0_apply, val_main_call0_v3_apply, val_main_call0_v2_apply, val_main_call0_cst_apply, val_main_call0_v1_apply,
    val_main_call0_v0_apply, d0, d1]
  show _ * Ideal.div (Ideal.ofBits .f32 0x3F800000#32) (Ideal.ofBits .f32 0x3F800000#32 + Ideal.exp (-_)) * _ = _
  rw [one_f32]
  rfl

end Reference

end Cert.Proof.FfnUp
-- ==== Proof.InProj.lean ====
module

public import proofs.«01_k».proof.Proof.Layer
public import proofs.«01_k».proof.Proof.Gen.Kernel3Ideal.Value
public import proofs.«01_k».proof.Proof.Gen.Kernel3Ideal.Points
public import proofs.«01_k».proof.Proof.Gen.Reference3Ideal.Run
public import proofs.«01_k».proof.Proof.Gen.Reference3Ideal.Read
public import Idealize.ShloMosaic.Lib.MatmulPlain
public import Idealize.ShloMosaic.Lib.Pipeline.Value

/-!
The input projection: the array the kernel leaves, and the reference's, are both `h W` with every column scaled.
-/

@[expose] public section
set_option maxRecDepth 16384
noncomputable section
namespace Cert.Proof.InProj
open Cert.Proof.Layer
open Idealize.ShloMosaic Idealize.ShloMosaic.TcCoe Idealize.ShloMosaic.ValueIdx Idealize.SL Idealize.SL.Sem
open Idealize.ShloMosaic.Pipeline (Dat)
open scoped BigOperators

/-- The result as a function of the three arguments. -/
def proj (h : (⟨2, ![32768, 2048]⟩ : Shape).Idx → EReal) (w : (⟨2, ![2048, 3072]⟩ : Shape).Idx → EReal)
    (s : (⟨2, ![1, 3072]⟩ : Shape).Idx → EReal) : (⟨2, ![32768, 3072]⟩ : Shape).Idx → EReal :=
  fun i => dot h w (i 0) (i 1) * s (ix2 (0 : Fin 1) (i 1))

section Kernel
open Cert.Kernel3Ideal Cert.Kernel3Ideal.Gen

variable (m : (ℓ : Loc nD τ sig) → Buf (Elt Ideal) ℓ) (ρ : Dev nD → PrngReg)

theorem at0 : ∀ t : Fin cfg0.N, win0_0.index t (0 : Fin 2) = t.val / 3 ∧ win0_0.index t (1 : Fin 2) = 0 :=
  (by decide +kernel : ∀ t : Fin grid0.N, _)
theorem at1 : ∀ t : Fin cfg0.N, win0_1.index t (0 : Fin 2) = 0 ∧ win0_1.index t (1 : Fin 2) = t.val % 3 :=
  (by decide +kernel : ∀ t : Fin grid0.N, _)
theorem at2 : ∀ t : Fin cfg0.N, win0_2.index t (0 : Fin 2) = 0 ∧ win0_2.index t (1 : Fin 2) = t.val % 3 :=
  (by decide +kernel : ∀ t : Fin grid0.N, _)
theorem at3 : ∀ t : Fin cfg0.N, win0_3.index t (0 : Fin 2) = t.val / 3 ∧ win0_3.index t (1 : Fin 2) = t.val % 3 :=
  (by decide +kernel : ∀ t : Fin grid0.N, _)
theorem count : cfg0.N = 48 := by decide +kernel

/-- What the body computes of its blocks, at an index. -/
theorem pay_apply (x : Vec Ideal S2048x2048 .bf16) (w : Vec Ideal S2048x1024 .bf16) (s : Vec Ideal S1x1024 .f32) (r : Fin 2048) (c : Fin 1024) :
    k0_pay1 (F := Ideal) x w s (ix2 r c) = dot x w r c * s (ix2 (0 : Fin 1) c) := by
  have e : matmul (F := Ideal) (φ₁ := .bf16) (φ₂ := .bf16) dot_S2048x2048_S2048x1024_S2048x1024_1_0_0_1_n_n none x w
      (constant S2048x1024 .f32 0x00000000#32) (ix2 r c) = dot x w r c := by
    refine (Ideal.matmul_plain_apply (M := 2048) (K := 2048) (N := 1024) none _ _ _ r c).trans ?_
    rw [constant_apply, Ideal.ofBits_zero_f32, zero_add]
    rfl
  have b : broadcastTo S2048x1024 s broadcasts_S1x1024_S2048x1024 (ix2 r c) = s (ix2 (0 : Fin 1) c) :=
    broadcastTo_apply s _ _ _ fun a => match a with
      | ⟨0, _⟩ => rfl
      | ⟨1, _⟩ => rfl
  unfold k0_pay1
  rw [truncf_apply, mulf_apply, e, b]

/-- What a grid point writes back is its block of the result. -/
theorem flushed (c : Dev nD) (t : Fin cfg0.N) :
    (dats m 0 c).flushed 3 t = ((cfg0.win 3).blk t).view.read (Elt Ideal)
      (proj (m ((c.tc : Thread nD τ).loc main_arg0)) (m ((c.tc : Thread nD τ).loc main_arg1)) (m ((c.tc : Thread nD τ).loc main_arg2))
        : Buf (Elt Ideal) ((c.tc : Thread nD τ).loc main_v0)) := by
  obtain ⟨a0, a1⟩ := at0 t
  obtain ⟨b0, b1⟩ := at1 t
  obtain ⟨c0, c1⟩ := at2 t
  obtain ⟨d0, d1⟩ := at3 t
  have ht : t.val < 48 := count ▸ t.isLt
  rw [Value.flushed3]
  have z : (![0, 0] : Fin 2 → ℕ) = fun _ => 0 := by funext a; fin_cases a <;> rfl
  unfold out0_3
  rw [View.canon_unit_zero z, View.ld_unit_zero (S := S2048x2048) z, View.ld_unit_zero (S := S2048x1024) z, View.ld_unit_zero (S := S1x1024) z]
  refine funext fun (y : S2048x1024.Idx) => ?_
  obtain ⟨r, q, rfl⟩ : ∃ (r : Fin 2048) (q : Fin 1024), y = ix2 r q := ⟨y 0, y 1, Shape.idx_ext₂ rfl rfl⟩
  have h0 := r.isLt
  have h1 := q.isLt
  show k0_pay1 (F := Ideal) (iblk m c 0 t) (iblk m c 1 t) (iblk m c 2 t) (ix2 r q) = proj _ _ _ (((cfg0.win 3).blk t).view.emb (ix2 r q))
  rw [pay_apply]
  have e : ((cfg0.win 3).blk t).view.emb (ix2 r q)
      = (ix2 (⟨2048 * (t.val / 3) + r.val, by omega⟩ : Fin 32768) (⟨1024 * (t.val % 3) + q.val, by omega⟩ : Fin 3072)) := by
    funext i; apply Fin.ext
    match i with
    | ⟨0, _⟩ => show win0_3.index t (0 : Fin 2) * 2048 + 1 * r.val = 2048 * (t.val / 3) + r.val; omega
    | ⟨1, _⟩ => show win0_3.index t (1 : Fin 2) * 1024 + 1 * q.val = 1024 * (t.val % 3) + q.val; omega
  rw [e]
  have ex : ∀ k : Fin 2048, (iblk m c 0 t : Vec Ideal S2048x2048 .bf16) (ix2 r k)
      = m ((c.tc : Thread nD τ).loc main_arg0) (ix2 (⟨2048 * (t.val / 3) + r.val, by omega⟩ : Fin 32768) k) := fun k => by
    show m ((c.tc : Thread nD τ).loc main_arg0) (((cfg0.win 0).blk t).view.emb (ix2 r k)) = _
    refine congrArg _ (funext fun i => Fin.ext ?_)
    match i with
    | ⟨0, _⟩ => show win0_0.index t (0 : Fin 2) * 2048 + 1 * r.val = 2048 * (t.val / 3) + r.val; omega
    | ⟨1, _⟩ => show win0_0.index t (1 : Fin 2) * 2048 + 1 * k.val = k.val; omega
  have ew : ∀ k : Fin 2048, (iblk m c 1 t : Vec Ideal S2048x1024 .bf16) (ix2 k q)
      = m ((c.tc : Thread nD τ).loc main_arg1) (ix2 k (⟨1024 * (t.val % 3) + q.val, by omega⟩ : Fin 3072)) := fun k => by
    show m ((c.tc : Thread nD τ).loc main_arg1) (((cfg0.win 1).blk t).view.emb (ix2 k q)) = _
    refine congrArg _ (funext fun i => Fin.ext ?_)
    match i with
    | ⟨0, _⟩ => show win0_1.index t (0 : Fin 2) * 2048 + 1 * k.val = k.val; omega
    | ⟨1, _⟩ => show win0_1.index t (1 : Fin 2) * 1024 + 1 * q.val = 1024 * (t.val % 3) + q.val; omega
  have es : (iblk m c 2 t : Vec Ideal S1x1024 .f32) (ix2 (0 : Fin 1) q)
      = m ((c.tc : Thread nD τ).loc main_arg2) (ix2 (0 : Fin 1) (⟨1024 * (t.val % 3) + q.val, by omega⟩ : Fin 3072)) := by
    show m ((c.tc : Thread nD τ).loc main_arg2) (((cfg0.win 2).blk t).view.emb (ix2 (0 : Fin 1) q)) = _
    refine congrArg _ (funext fun i => Fin.ext ?_)
    match i with
    | ⟨0, _⟩ => show win0_2.index t (0 : Fin 2) * 1 + 1 * 0 = 0; omega
    | ⟨1, _⟩ => show win0_2.index t (1 : Fin 2) * 1024 + 1 * q.val = 1024 * (t.val % 3) + q.val; omega
  refine congrArg₂ (· * ·) ?_ es
  exact Finset.sum_congr rfl fun k _ => by rw [ex k, ew k]

/-- Every entry of the result is written by some grid point. -/
theorem covered (i : S32768x3072.Idx) : ∃ t : Fin cfg0.N, (cfg0.win 3).flush t = true ∧ i ∈ ((cfg0.win 3).blk t).view.set := by
  have h0 : (i 0).val < 32768 := (i 0).isLt
  have h1 : (i 1).val < 3072 := (i 1).isLt
  have hN := count
  obtain ⟨t, ht⟩ : ∃ t : Fin cfg0.N, t.val = 3 * ((i 0).val / 2048) + (i 1).val / 1024 :=
    ⟨⟨3 * ((i 0).val / 2048) + (i 1).val / 1024, by omega⟩, rfl⟩
  refine ⟨t, flush0_3 t, ?_⟩
  obtain ⟨e0, e1⟩ := at3 t
  show i ∈ ((View.whole main_v0).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 1024 ≤ (i 1).val ∧ (i 1).val < win0_3.index t (1 : Fin 2) * 1024 + 1024
    omega

/-- The result array after the run. -/
theorem final (c : Dev nD) : (dats m 0 c).arrAt 3 cfg0.N
    = proj (m ((c.tc : Thread nD τ).loc main_arg0)) (m ((c.tc : Thread nD τ).loc main_arg1)) (m ((c.tc : Thread nD τ).loc main_arg2)) :=
  (dats m 0 c).arrAt_eq_of_cover 3 _ (fun t _ => flushed m c t) covered

end Kernel

section Reference
open Cert.Reference3Ideal Cert.Reference3Ideal.Read

/-- The reference's result. -/
theorem reference (h : (⟨S32768x2048, .bf16⟩ : BufTy).Contents (Elt Ideal)) (w : (⟨S2048x3072, .bf16⟩ : BufTy).Contents (Elt Ideal))
    (s : (⟨S1x3072, .f32⟩ : BufTy).Contents (Elt Ideal)) : val_main_v3 (F := Ideal) h w s = proj h w s := by
  funext i
  have d : val_main_v0 (F := Ideal) h w i = dot h w (i 0) (i 1) := by
    rw [val_main_v0_apply]
    exact Finset.sum_congr rfl fun k _ => congrArg₂ (· * ·) (congrArg h (Shape.idx_ext₂ rfl rfl)) (congrArg w (Shape.idx_ext₂ rfl rfl))
  rw [val_main_v3_apply, val_main_v2_apply, val_main_v1_apply, d]
  exact congrArg (dot h w (i 0) (i 1) * ·) (congrArg s (Shape.idx_ext₂ rfl rfl))

end Reference

end Cert.Proof.InProj
-- ==== Proof.InProjVt.lean ====
module

public import proofs.«01_k».proof.Proof.Layer
public import proofs.«01_k».proof.Proof.Gen.Kernel4Ideal.Value
public import proofs.«01_k».proof.Proof.Gen.Kernel4Ideal.Points
public import proofs.«01_k».proof.Proof.Gen.Reference4Ideal.Run
public import proofs.«01_k».proof.Proof.Gen.Reference4Ideal.Read
public import Idealize.ShloMosaic.Lib.MatmulPlain
public import Idealize.ShloMosaic.Lib.Pipeline.Value

/-!
The value projection: the array the kernel leaves, and the reference's, are both the product `Wt hᵀ`, cut into tiles of 256 tokens.
-/

@[expose] public section
set_option maxRecDepth 16384
noncomputable section
namespace Cert.Proof.InProjVt
open Cert.Proof.Layer
open Idealize.ShloMosaic Idealize.ShloMosaic.TcCoe Idealize.ShloMosaic.ValueIdx Idealize.SL Idealize.SL.Sem
open Idealize.ShloMosaic.Pipeline (Dat)
open scoped BigOperators

/-- The result as a function of the two arguments: tile `a`, channel `b`, token `d` of the tile. -/
def projT (h : (⟨2, ![32768, 2048]⟩ : Shape).Idx → EReal) (w : (⟨2, ![2048, 2048]⟩ : Shape).Idx → EReal) :
    (⟨3, ![128, 2048, 256]⟩ : Shape).Idx → EReal :=
  fun i => ∑ k : Fin 2048, w (ix2 (i 1) k) * h (ix2 (Fin.ofNat 32768 ((i 0).val * 256 + (i 2).val)) k)

section Kernel
open Cert.Kernel4Ideal Cert.Kernel4Ideal.Gen

variable (m : (ℓ : Loc nD τ sig) → Buf (Elt Ideal) ℓ) (ρ : Dev nD → PrngReg)

theorem at0 : ∀ t : Fin cfg0.N, win0_0.index t (0 : Fin 2) = t.val / 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)
theorem count : cfg0.N = 32 := by decide +kernel

/-- What the body computes of its blocks, at an index. -/
theorem pay_apply (w : Vec Ideal S1024x2048 .bf16) (x : Vec Ideal S2048x2048 .bf16) (r : Fin 1024) (c : Fin 2048) :
    k0_pay3 (F := Ideal) w x (ix2 r c) = ∑ k : Fin 2048, w (ix2 r k) * x (ix2 c k) := by
  unfold k0_pay3
  rw [truncf_apply]
  refine (Ideal.matmul_transposedRhs_apply (M := 1024) (K := 2048) (N := 2048) none _ _ _ r c).trans ?_
  rw [constant_apply, Ideal.ofBits_zero_f32, zero_add]

/-- What a grid point writes back is its block of the result. -/
theorem flushed (c : Dev nD) (t : Fin cfg0.N) :
    (dats m 0 c).flushed 2 t = ((cfg0.win 2).blk t).view.read (Elt Ideal)
      (projT (m ((c.tc : Thread nD τ).loc main_arg0)) (m ((c.tc : Thread nD τ).loc main_arg1))
        : Buf (Elt Ideal) ((c.tc : Thread nD τ).loc main_v0)) := by
  obtain ⟨a0, a1⟩ := at0 t
  obtain ⟨b0, b1⟩ := at1 t
  obtain ⟨c0, c1, c2⟩ := at2 t
  have ht : t.val < 32 := count ▸ t.isLt
  rw [Value.flushed2]
  have z : (![0, 0] : Fin 2 → ℕ) = fun _ => 0 := by funext a; fin_cases a <;> rfl
  unfold out0_2
  rw [View.ld_unit_zero (S := S1024x2048) z, View.ld_unit_zero (S := S2048x2048) z]
  refine funext fun (y : S8x1024x256.Idx) => ?_
  refine (Value.canon2_eq _ _ y).trans ?_
  have h0 : (y 0).val < 8 := (y 0).isLt
  have h1 : (y 1).val < 1024 := (y 1).isLt
  have h2 : (y 2).val < 256 := (y 2).isLt
  have e : ((cfg0.win 2).blk t).view.emb y
      = (fun a => match a with
          | ⟨0, _⟩ => (⟨8 * (t.val / 2) + (y 0).val, by show _ < 128; omega⟩ : Fin 128)
          | ⟨1, _⟩ => (⟨1024 * (t.val % 2) + (y 1).val, by show _ < 2048; omega⟩ : Fin 2048)
          | ⟨2, _⟩ => (⟨(y 2).val, h2⟩ : Fin 256) : S128x2048x256.Idx) := by
    funext i; apply Fin.ext
    match i with
    | ⟨0, _⟩ => show win0_2.index t (0 : Fin 3) * 8 + 1 * (y 0).val = 8 * (t.val / 2) + (y 0).val; omega
    | ⟨1, _⟩ => show win0_2.index t (1 : Fin 3) * 1024 + 1 * (y 1).val = 1024 * (t.val % 2) + (y 1).val; omega
    | ⟨2, _⟩ => show win0_2.index t (2 : Fin 3) * 256 + 1 * (y 2).val = (y 2).val; omega
  show k0_pay3 (F := Ideal) (iblk m c 1 t) (iblk m c 0 t) (Value.ix2_0 y) = projT _ _ (((cfg0.win 2).blk t).view.emb y)
  rw [e]
  have ei : Value.ix2_0 y = ix2 (⟨(y 1).val, h1⟩ : Fin 1024) (⟨(y 0).val * 256 + (y 2).val, by omega⟩ : Fin 2048) :=
    Shape.idx_ext₂ rfl rfl
  rw [ei, pay_apply]
  refine Finset.sum_congr rfl fun k _ => congrArg₂ (· * ·) ?_ ?_
  · show m ((c.tc : Thread nD τ).loc main_arg1) (((cfg0.win 1).blk t).view.emb (ix2 (⟨(y 1).val, h1⟩ : Fin 1024) k)) = _
    refine congrArg _ (funext fun i => Fin.ext ?_)
    match i with
    | ⟨0, _⟩ => show win0_1.index t (0 : Fin 2) * 1024 + 1 * (y 1).val = 1024 * (t.val % 2) + (y 1).val; omega
    | ⟨1, _⟩ => show win0_1.index t (1 : Fin 2) * 2048 + 1 * k.val = k.val; omega
  · show m ((c.tc : Thread nD τ).loc main_arg0) (((cfg0.win 0).blk t).view.emb (ix2 (⟨(y 0).val * 256 + (y 2).val, by omega⟩ : Fin 2048) k)) = _
    refine congrArg _ (funext fun i => Fin.ext ?_)
    match i with
    | ⟨0, _⟩ =>
      have e1 : ((8 * (t.val / 2) + (y 0).val) * 256 + (y 2).val) % 32768 = (8 * (t.val / 2) + (y 0).val) * 256 + (y 2).val :=
        Nat.mod_eq_of_lt (by omega)
      show win0_0.index t (0 : Fin 2) * 2048 + 1 * ((y 0).val * 256 + (y 2).val) = ((8 * (t.val / 2) + (y 0).val) * 256 + (y 2).val) % 32768
      rw [e1]; omega
    | ⟨1, _⟩ => show win0_0.index t (1 : Fin 2) * 2048 + 1 * k.val = k.val; omega

/-- Every entry of the result is written by some grid point. -/
theorem covered (i : S128x2048x256.Idx) : ∃ t : Fin cfg0.N, (cfg0.win 2).flush t = true ∧ i ∈ ((cfg0.win 2).blk t).view.set := by
  have h0 : (i 0).val < 128 := (i 0).isLt
  have h1 : (i 1).val < 2048 := (i 1).isLt
  have h2 : (i 2).val < 256 := (i 2).isLt
  have hN := count
  obtain ⟨t, ht⟩ : ∃ t : Fin cfg0.N, t.val = 2 * ((i 0).val / 8) + (i 1).val / 1024 :=
    ⟨⟨2 * ((i 0).val / 8) + (i 1).val / 1024, by omega⟩, rfl⟩
  refine ⟨t, flush0_2 t, ?_⟩
  obtain ⟨e0, e1, e2⟩ := at2 t
  show i ∈ ((View.whole main_v0).slice (win0_2.rect t)).set
  rw [View.set_slice_whole, Rect.mem_set_unit]
  intro a
  match a with
  | ⟨0, _⟩ =>
    show win0_2.index t (0 : Fin 3) * 8 ≤ (i 0).val ∧ (i 0).val < win0_2.index t (0 : Fin 3) * 8 + 8
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 256 ≤ (i 2).val ∧ (i 2).val < win0_2.index t (2 : Fin 3) * 256 + 256
    omega

/-- The result array after the run. -/
theorem final (c : Dev nD) : (dats m 0 c).arrAt 2 cfg0.N
    = projT (m ((c.tc : Thread nD τ).loc main_arg0)) (m ((c.tc : Thread nD τ).loc main_arg1)) :=
  (dats m 0 c).arrAt_eq_of_cover 2 _ (fun t _ => flushed m c t) covered

end Kernel

section Reference
open Cert.Reference4Ideal Cert.Reference4Ideal.Read

/-- The reference's result. -/
theorem reference (h : (⟨S32768x2048, .bf16⟩ : BufTy).Contents (Elt Ideal)) (w : (⟨S2048x2048, .bf16⟩ : BufTy).Contents (Elt Ideal)) :
    val_main_v4 (F := Ideal) h w = projT h w := by
  funext i
  have h0 : (i 0).val < 128 := (i 0).isLt
  have h1 : (i 1).val < 2048 := (i 1).isLt
  have h2 : (i 2).val < 256 := (i 2).isLt
  rw [val_main_v4_apply, val_main_v3_apply, val_main_v2_apply]
  show val_main_v1 (F := Ideal) h w _ = _
  rw [val_main_v1_apply]
  refine Finset.sum_congr rfl fun k _ => ?_
  rw [val_main_v0_apply, mul_comm]
  refine congrArg₂ (· * ·) (congrArg w (Shape.idx_ext₂ ?_ rfl)) (congrArg h (Shape.idx_ext₂ ?_ rfl))
  · show (((i 0).val * 256 + (i 2).val) * 2048 + (i 1).val) % 2048 = (i 1).val
    omega
  · have e1 : ((i 0).val * 256 + (i 2).val) % 32768 = (i 0).val * 256 + (i 2).val := Nat.mod_eq_of_lt (by omega)
    show (((i 0).val * 256 + (i 2).val) * 2048 + (i 1).val) / 2048 = ((i 0).val * 256 + (i 2).val) % 32768
    rw [e1]; omega

end Reference

end Cert.Proof.InProjVt
-- ==== Proof.FfnDown.Point.lean ====
module

public import proofs.«01_k».proof.Proof.Layer
public import proofs.«01_k».proof.Proof.Gen.Kernel5Ideal.Value
public import proofs.«01_k».proof.Proof.Gen.Kernel5Ideal.Points
public import Idealize.ShloMosaic.Lib.MatmulPlain
public import Idealize.ShloMosaic.Lib.Pipeline.Value

/-!
The down projection: what one grid point of the kernel leaves in its output blocks.
-/

@[expose] public section
set_option maxRecDepth 16384
noncomputable section
namespace Cert.Proof.FfnDown
open Cert.Proof.Layer
open Idealize.ShloMosaic Idealize.ShloMosaic.TcCoe Idealize.ShloMosaic.ValueIdx Idealize.SL Idealize.SL.Sem
open Idealize.ShloMosaic.Pipeline (Dat)
open scoped BigOperators

open Cert.Kernel5Ideal Cert.Kernel5Ideal.Gen

theorem zz : (![0, 0] : Fin 2 → ℕ) = fun _ => 0 := by funext a; fin_cases a <;> rfl

section Named
variable (c : Dev nD) (i : grid0.Coords) (arg2 : Memref sig .tc .vmem S512x2816 .bf16) (harg2 : arg2.IsWhole)
  (arg3 : Memref sig .tc .vmem S2816x2048 .bf16) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S512x2048 .f32) (harg7 : arg7.IsWhole) (arg8 : Memref sig .tc .vmem S512x2048 .bf16) (harg8 : arg8.IsWhole)
  (x0 : Vec Ideal S512x2816 .bf16) (x1 : Vec Ideal S2816x2048 .bf16) (x2 : Vec Ideal S512x2048 .f32) (x3 x4 : Vec Ideal S1x2048 .f32)
  (xo : Vec Ideal S512x2048 .f32)

/-- The first half of the contraction leaves its partial product. -/
theorem first (hc0 : cond0_0 i) (hc1 : ¬cond0_1 i) (hc2 : ¬cond0_2 i) :
    out0_A_5 c i arg2 harg2 arg3 harg3 arg4 harg4 arg5 harg5 arg6 harg6 arg7 harg7 arg8 harg8 hc0 hc1 hc2 x0 x1 x2 x3 x4
      = k0_pay1 (F := Ideal) x0 x1 := by
  unfold out0_A_5
  rw [View.read_writes_eq_canon _ _ _ (cover0_A_5 c i arg2 harg2 arg3 harg3 arg4 harg4 arg5 harg5 arg6 harg6 arg7 harg7 arg8 harg8 hc0 hc1 hc2 x0 x1 x2 x3 x4)]
  unfold kernelRun0_A
  dsimp only
  rw [View.canon_unit_zero zz]
  simp only [View.readAt_eq_ld, harg2.read_unread, harg3.read_unread, View.ld_unit_zero (S := S512x2816) zz, View.ld_unit_zero (S := S2816x2048) zz]

/-- The second half adds its partial product to it, normalizes, and adds the residual. -/
theorem second (hc0 : ¬cond0_0 i) (hc1 : ¬cond0_1 i) (hc2 : cond0_2 i) :
    out0_B_5 c i arg2 harg2 arg3 harg3 arg4 harg4 arg5 harg5 arg6 harg6 arg7 harg7 arg8 harg8 hc0 hc1 hc2 x0 x1 x2 x3 x4 xo
      = k0_pay3 (F := Ideal) x0 x1 xo x2 x3 := by
  unfold out0_B_5
  rw [View.read_writes_eq_canon _ _ _ (cover0_B_5 c i arg2 harg2 arg3 harg3 arg4 harg4 arg5 harg5 arg6 harg6 arg7 harg7 arg8 harg8 hc0 hc1 hc2 x0 x1 x2 x3 x4 xo)]
  unfold kernelRun0_B
  dsimp only
  rw [View.canon_unit_zero zz]
  simp only [View.readAt_eq_ld, harg2.read_unread, harg3.read_unread, harg4.read_unread, harg5.read_unread, harg7.read_unread,
    View.ld_unit_zero (S := S512x2816) zz, View.ld_unit_zero (S := S2816x2048) zz, View.ld_unit_zero (S := S512x2048) zz, View.ld_unit_zero (S := S1x2048) zz]

/-- Its other output is the next layer's normalized input. -/
theorem second_next (hc0 : ¬cond0_0 i) (hc1 : ¬cond0_1 i) (hc2 : cond0_2 i) :
    out0_B_6 c i arg2 harg2 arg3 harg3 arg4 harg4 arg5 harg5 arg6 harg6 arg7 harg7 arg8 harg8 hc0 hc1 hc2 x0 x1 x2 x3 x4 xo
      = k0_pay4 (F := Ideal) x0 x1 x4 xo x2 x3 := by
  unfold out0_B_6
  rw [View.read_writes_eq_canon _ _ _ (cover0_B_6 c i arg2 harg2 arg3 harg3 arg4 harg4 arg5 harg5 arg6 harg6 arg7 harg7 arg8 harg8 hc0 hc1 hc2 x0 x1 x2 x3 x4 xo)]
  unfold kernelRun0_B
  dsimp only
  rw [View.canon_unit_zero zz]
  simp only [View.readAt_eq_ld, harg2.read_unread, harg3.read_unread, harg4.read_unread, harg5.read_unread, harg6.read_unread, harg7.read_unread,
    View.ld_unit_zero (S := S512x2816) zz, View.ld_unit_zero (S := S2816x2048) zz, View.ld_unit_zero (S := S512x2048) zz, View.ld_unit_zero (S := S1x2048) zz]

end Named

/-- A partial product at an index. -/
theorem pay1_apply (a : Vec Ideal S512x2816 .bf16) (w : Vec Ideal S2816x2048 .bf16) (r : Fin 512) (c : Fin 2048) :
    k0_pay1 (F := Ideal) a w (ix2 r c) = dot a w r c := by
  unfold k0_pay1
  refine (Ideal.matmul_plain_apply (M := 512) (K := 2816) (N := 2048) none _ _ _ r c).trans ?_
  rw [constant_apply, Ideal.ofBits_zero_f32, zero_add]
  rfl

/-- The normalization of a block's rows, as the kernel writes it. -/
def norm (y : FVec Ideal S512x2048 .f32) (g : FVec Ideal S1x2048 .f32) : FVec Ideal S512x2048 .f32 :=
  mulf (mulf y (broadcastTo S512x2048 (rsqrt (addf (divf (shapeCast S512x1
    (multiReduction .add [1] S512 (mulf y y) 0x00000000#32 reduces_S512x2048_S512 (.inl rfl) rfl) shapeCasts_S512_S512x1)
    (broadcast S512x1 (Scalar.ofBits .f32 0x45000000#32))) (broadcast S512x1 (Scalar.ofBits .f32 0x358637BD#32)))) broadcasts_S512x1_S512x2048))
    (broadcastTo S512x2048 g broadcasts_S1x2048_S512x2048)

theorem norm_apply (y : FVec Ideal S512x2048 .f32) (g : FVec Ideal S1x2048 .f32) (r : Fin 512) (c : Fin 2048) :
    norm y g (ix2 r c) = rms (fun k => y (ix2 r k)) (g (ix2 (0 : Fin 1) c)) c := by
  unfold norm
  rw [mulf_apply, mulf_apply]
  have eg : broadcastTo S512x2048 g broadcasts_S1x2048_S512x2048 (ix2 r c) = g (ix2 (0 : Fin 1) c) :=
    broadcastTo_apply g _ _ _ fun a => match a with
      | ⟨0, _⟩ => rfl
      | ⟨1, _⟩ => rfl
  have es : ∀ v : FVec Ideal S512x1 .f32, broadcastTo S512x2048 v broadcasts_S512x1_S512x2048 (ix2 r c) = v (ix2 r (0 : Fin 1)) := fun v =>
    broadcastTo_apply v _ _ _ fun a => match a with
      | ⟨0, _⟩ => rfl
      | ⟨1, _⟩ => rfl
  have ec : ∀ v : FVec Ideal S512 .f32, shapeCast S512x1 v shapeCasts_S512_S512x1 (ix2 r (0 : Fin 1)) = v (ix1 r) := fun v =>
    shapeCast_apply v _ _ _ (by
      rw [Shape.rowMajor_val_two, Shape.rowMajor_val_one]
      show r.val = r.val * 1 + 0
      omega)
  have em : ∀ v : FVec Ideal S512x2048 .f32, multiReduction .add [1] S512 v 0x00000000#32 reduces_S512x2048_S512 (.inl rfl) rfl (ix1 r)
      = ∑ k : Fin 2048, v (ix2 r k) := fun v =>
    (Ideal.multiReduction_add_single v _ reduces_S512x2048_S512 (.inl rfl) rfl (ix1 r)).trans
      (Finset.sum_congr rfl fun k _ => congrArg v (Shape.idx_ext₂ rfl rfl))
  rw [eg, es]
  show _ * Ideal.rsqrt (Ideal.div (shapeCast S512x1 _ shapeCasts_S512_S512x1 (ix2 r (0 : Fin 1))) _ + _) * _ = _
  rw [ec, em]
  rfl

/-- The residual stream after the layer, over the two halves of the contraction. -/
theorem pay3_apply (a : Vec Ideal S512x2816 .bf16) (w : Vec Ideal S2816x2048 .bf16) (xo x : Vec Ideal S512x2048 .f32) (g : Vec Ideal S1x2048 .f32)
    (r : Fin 512) (c : Fin 2048) :
    k0_pay3 (F := Ideal) a w xo x g (ix2 r c)
      = x (ix2 r c) + rms (fun k => xo (ix2 r k) + dot a w r k) (g (ix2 (0 : Fin 1) c)) c := by
  have e : k0_pay3 (F := Ideal) a w xo x g = addf x (norm (addf xo (k0_pay1 a w)) g) := by
    unfold k0_pay3
    simp only [shapeCast_self]
    rfl
  rw [e, addf_apply, norm_apply]
  have er : (fun k => addf xo (k0_pay1 (F := Ideal) a w) (ix2 r k)) = fun k => xo (ix2 r k) + dot a w r k :=
    funext fun k => by rw [addf_apply, pay1_apply]
  rw [er]

/-- The next layer's normalized input. -/
theorem pay4_apply (a : Vec Ideal S512x2816 .bf16) (w : Vec Ideal S2816x2048 .bf16) (n : Vec Ideal S1x2048 .f32) (xo x : Vec Ideal S512x2048 .f32)
    (g : Vec Ideal S1x2048 .f32) (r : Fin 512) (c : Fin 2048) :
    k0_pay4 (F := Ideal) a w n xo x g (ix2 r c)
      = rms (fun k => k0_pay3 (F := Ideal) a w xo x g (ix2 r k)) (n (ix2 (0 : Fin 1) c)) c := by
  have e : k0_pay4 (F := Ideal) a w n xo x g = truncf .bf16 (norm (k0_pay3 (F := Ideal) a w xo x g) n) bitsLt_bf16_f32 := by
    unfold k0_pay4
    simp only [shapeCast_self]
    rfl
  rw [e, truncf_apply, norm_apply]

end Cert.Proof.FfnDown
-- ==== Proof.FfnDown.lean ====
module

public import proofs.«01_k».proof.Proof.FfnDown.Point
public import Idealize.ShloMosaic.Lib.Claim
public import proofs.«01_k».proof.Proof.Gen.Kernel5Ideal.Value
public import proofs.«01_k».proof.Proof.Gen.Kernel5Ideal.Points
public import proofs.«01_k».proof.Proof.Gen.Reference5Ideal.Run
public import proofs.«01_k».proof.Proof.Gen.Reference5Ideal.Read
public import Idealize.ShloMosaic.Lib.MatmulPlain
public import Idealize.ShloMosaic.Lib.Pipeline.Value

/-!
The down projection: both arrays the kernel leaves, and the reference's, are the residual stream plus the normalized product `a W`, and the
next layer's normalized input made of it.
-/

@[expose] public section
set_option maxRecDepth 16384
noncomputable section
namespace Cert.Proof.FfnDown
open Cert.Proof.Layer
open Idealize.ShloMosaic Idealize.ShloMosaic.TcCoe Idealize.ShloMosaic.ValueIdx Idealize.SL Idealize.SL.Sem
open Idealize.ShloMosaic.Pipeline (Dat)
open scoped BigOperators

/-- The residual stream after the layer. -/
def stream (a : (⟨2, ![32768, 5632]⟩ : Shape).Idx → EReal) (w : (⟨2, ![5632, 2048]⟩ : Shape).Idx → EReal)
    (x : (⟨2, ![32768, 2048]⟩ : Shape).Idx → EReal) (g : (⟨1, ![2048]⟩ : Shape).Idx → EReal) : (⟨2, ![32768, 2048]⟩ : Shape).Idx → EReal :=
  fun i => x i + rms (fun k => dot a w (i 0) k) (g (ix1 (i 1))) (i 1)

/-- The next layer's normalized input. -/
def next (a : (⟨2, ![32768, 5632]⟩ : Shape).Idx → EReal) (w : (⟨2, ![5632, 2048]⟩ : Shape).Idx → EReal)
    (x : (⟨2, ![32768, 2048]⟩ : Shape).Idx → EReal) (g n : (⟨1, ![2048]⟩ : Shape).Idx → EReal) : (⟨2, ![32768, 2048]⟩ : Shape).Idx → EReal :=
  fun i => rms (fun k => stream a w x g (ix2 (i 0) k)) (n (ix1 (i 1))) (i 1)

/-- A product is the sum of the products over the two halves of the contraction. -/
theorem dot_halves (a : (⟨2, ![32768, 5632]⟩ : Shape).Idx → EReal) (w : (⟨2, ![5632, 2048]⟩ : Shape).Idx → EReal) (r : Fin 32768) (c : Fin 2048) :
    dot a w r c = (∑ k : Fin 2816, a (ix2 r (⟨k.val, by omega⟩ : Fin 5632)) * w (ix2 (⟨k.val, by omega⟩ : Fin 5632) c))
      + ∑ k : Fin 2816, a (ix2 r (⟨2816 + k.val, by omega⟩ : Fin 5632)) * w (ix2 (⟨2816 + k.val, by omega⟩ : Fin 5632) c) :=
  Fin.sum_univ_add (M := EReal) (a := 2816) (b := 2816) fun k : Fin (2816 + 2816) => a (ix2 r (k : Fin 5632)) * w (ix2 (k : Fin 5632) c)

section Kernel
open Cert.Kernel5Ideal Cert.Kernel5Ideal.Gen

variable (m : (ℓ : Loc nD τ sig) → Buf (Elt Ideal) ℓ) (ρ : Dev nD → PrngReg)

theorem at0 : ∀ t : Fin cfg0.N, win0_0.index t (0 : Fin 2) = t.val / 2 ∧ win0_0.index t (1 : Fin 2) = t.val % 2 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = t.val / 2 ∧ win0_5.index t (1 : Fin 2) = 0 :=
  (by decide +kernel : ∀ t : Fin grid0.N, _)
theorem at6 : ∀ t : Fin cfg0.N, win0_6.index t (0 : Fin 2) = t.val / 2 ∧ win0_6.index t (1 : Fin 2) = 0 :=
  (by decide +kernel : ∀ t : Fin grid0.N, _)
theorem count : cfg0.N = 128 := by decide +kernel

/-! The blocks a grid point reads, as entries of the arguments. -/

theorem read0 (c : Dev nD) (t : Fin cfg0.N) (r : Fin 512) (k : Fin 2816) (R : Fin 32768) (K : Fin 5632)
    (hR : R.val = 512 * (t.val / 2) + r.val) (hK : K.val = 2816 * (t.val % 2) + k.val) :
    (iblk m c 0 t : Vec Ideal S512x2816 .bf16) (ix2 r k) = m ((c.tc : Thread nD τ).loc main_arg0) (ix2 R K) := by
  obtain ⟨e0, e1⟩ := at0 t
  show V m c main_arg0 (((cfg0.win 0).blk t).view.emb (ix2 r k)) = _
  rw [V_main_arg0]
  refine congrArg _ (funext fun i => Fin.ext ?_)
  match i with
  | ⟨0, _⟩ => show win0_0.index t (0 : Fin 2) * 512 + 1 * r.val = R.val; omega
  | ⟨1, _⟩ => show win0_0.index t (1 : Fin 2) * 2816 + 1 * k.val = K.val; omega

theorem read1 (c : Dev nD) (t : Fin cfg0.N) (k : Fin 2816) (q : Fin 2048) (K : Fin 5632) (hK : K.val = 2816 * (t.val % 2) + k.val) :
    (iblk m c 1 t : Vec Ideal S2816x2048 .bf16) (ix2 k q) = m ((c.tc : Thread nD τ).loc main_arg1) (ix2 K q) := by
  obtain ⟨e0, e1⟩ := at1 t
  show V m c main_arg1 (((cfg0.win 1).blk t).view.emb (ix2 k q)) = _
  rw [V_main_arg1]
  refine congrArg _ (funext fun i => Fin.ext ?_)
  match i with
  | ⟨0, _⟩ => show win0_1.index t (0 : Fin 2) * 2816 + 1 * k.val = K.val; omega
  | ⟨1, _⟩ => show win0_1.index t (1 : Fin 2) * 2048 + 1 * q.val = q.val; omega

theorem read2 (c : Dev nD) (t : Fin cfg0.N) (r : Fin 512) (q : Fin 2048) (R : Fin 32768) (hR : R.val = 512 * (t.val / 2) + r.val) :
    (iblk m c 2 t : Vec Ideal S512x2048 .f32) (ix2 r q) = m ((c.tc : Thread nD τ).loc main_arg2) (ix2 R q) := by
  obtain ⟨e0, e1⟩ := at2 t
  show V m c main_arg2 (((cfg0.win 2).blk t).view.emb (ix2 r q)) = _
  rw [V_main_arg2]
  refine congrArg _ (funext fun i => Fin.ext ?_)
  match i with
  | ⟨0, _⟩ => show win0_2.index t (0 : Fin 2) * 512 + 1 * r.val = R.val; omega
  | ⟨1, _⟩ => show win0_2.index t (1 : Fin 2) * 2048 + 1 * q.val = q.val; omega

/-- A gain as a matrix of one row. -/
theorem asRow (v : S2048.Idx → EReal) (h : S2048.ShapeCasts S1x2048) (q : Fin 2048) : shapeCast S1x2048 v h (ix2 (0 : Fin 1) q) = v (ix1 q) :=
  shapeCast_apply v h _ _ (by
    rw [Shape.rowMajor_val_two, Shape.rowMajor_val_one]
    show q.val = 0 * 2048 + q.val
    omega)

theorem read3 (c : Dev nD) (t : Fin cfg0.N) (q : Fin 2048) :
    (iblk m c 3 t : Vec Ideal S1x2048 .f32) (ix2 (0 : Fin 1) q) = m ((c.tc : Thread nD τ).loc main_arg3) (ix1 q) := by
  obtain ⟨e0, e1⟩ := at3 t
  show V m c main_v0 (((cfg0.win 3).blk t).view.emb (ix2 (0 : Fin 1) q)) = _
  have e : ((cfg0.win 3).blk t).view.emb (ix2 (0 : Fin 1) q) = (ix2 (0 : Fin 1) q : S1x2048.Idx) := by
    funext i; apply Fin.ext
    match i with
    | ⟨0, _⟩ => show win0_3.index t (0 : Fin 2) * 1 + 1 * 0 = 0; omega
    | ⟨1, _⟩ => show win0_3.index t (1 : Fin 2) * 2048 + 1 * q.val = q.val; omega
  rw [e]
  entry_read
  exact asRow _ _ q

theorem read4 (c : Dev nD) (t : Fin cfg0.N) (q : Fin 2048) :
    (iblk m c 4 t : Vec Ideal S1x2048 .f32) (ix2 (0 : Fin 1) q) = m ((c.tc : Thread nD τ).loc main_arg4) (ix1 q) := by
  obtain ⟨e0, e1⟩ := at4 t
  show V m c main_v1 (((cfg0.win 4).blk t).view.emb (ix2 (0 : Fin 1) q)) = _
  have e : ((cfg0.win 4).blk t).view.emb (ix2 (0 : Fin 1) q) = (ix2 (0 : Fin 1) q : S1x2048.Idx) := by
    funext i; apply Fin.ext
    match i with
    | ⟨0, _⟩ => show win0_4.index t (0 : Fin 2) * 1 + 1 * 0 = 0; omega
    | ⟨1, _⟩ => show win0_4.index t (1 : Fin 2) * 2048 + 1 * q.val = q.val; omega
  rw [e]
  entry_read
  exact asRow _ _ q

/-- What the first point of a pair leaves for the second. -/
theorem left (c : Dev nD) (t : Fin cfg0.N) (h : t.val % 2 = 0) :
    (outsAt0 m c t.val t.isLt).1 = k0_pay1 (F := Ideal) (iblk m c 0 t) (iblk m c 1 t) := by
  rw [outsAt0_A m c t h (by omega)]
  dsimp only
  rw [first]

theorem carried (c : Dev nD) (t : Fin cfg0.N) (h : t.val % 2 = 1) (h' : t.val - 1 < cfg0.N) :
    (outsAt0 m c (t.val - 1) h').1 = k0_pay1 (F := Ideal) (iblk m c 0 ⟨t.val - 1, h'⟩) (iblk m c 1 ⟨t.val - 1, h'⟩) :=
  left m c ⟨t.val - 1, h'⟩ (by show (t.val - 1) % 2 = 0; omega)

/-- The stream's entries at the second point of a pair. -/
theorem value (c : Dev nD) (t : Fin cfg0.N) (h : t.val % 2 = 1) (h' : t.val - 1 < cfg0.N) (r : Fin 512) (q : Fin 2048) (R : Fin 32768)
    (hR : R.val = 512 * (t.val / 2) + r.val) :
    k0_pay3 (F := Ideal) (iblk m c 0 t) (iblk m c 1 t) (outsAt0 m c (t.val - 1) h').1 (iblk m c 2 t) (iblk m c 3 t) (ix2 r q)
      = stream (m ((c.tc : Thread nD τ).loc main_arg0)) (m ((c.tc : Thread nD τ).loc main_arg1)) (m ((c.tc : Thread nD τ).loc main_arg2))
          (m ((c.tc : Thread nD τ).loc main_arg3)) (ix2 R q) := by
  rw [pay3_apply, read2 m c t r q R hR, read3 m c t q, carried m c t h h']
  have e : (fun k => k0_pay1 (F := Ideal) (iblk m c 0 ⟨t.val - 1, h'⟩) (iblk m c 1 ⟨t.val - 1, h'⟩) (ix2 r k)
        + dot (M := 512) (K := 2816) (N := 2048) (iblk m c 0 t) (iblk m c 1 t) r k)
      = fun k => dot (m ((c.tc : Thread nD τ).loc main_arg0)) (m ((c.tc : Thread nD τ).loc main_arg1)) R k := by
    funext k
    rw [pay1_apply, dot_halves]
    refine congrArg₂ (· + ·) (Finset.sum_congr rfl fun l _ => congrArg₂ (· * ·) ?_ ?_) (Finset.sum_congr rfl fun l _ => congrArg₂ (· * ·) ?_ ?_)
    · exact read0 m c ⟨t.val - 1, h'⟩ r l R _ (by show R.val = 512 * ((t.val - 1) / 2) + r.val; omega) (by show l.val = 2816 * ((t.val - 1) % 2) + l.val; omega)
    · exact read1 m c ⟨t.val - 1, h'⟩ l k _ (by show l.val = 2816 * ((t.val - 1) % 2) + l.val; omega)
    · exact read0 m c t r l R _ hR (by show 2816 + l.val = 2816 * (t.val % 2) + l.val; omega)
    · exact read1 m c t l k _ (by show 2816 + l.val = 2816 * (t.val % 2) + l.val; omega)
  rw [e]
  rfl

/-- What the second point of a pair writes back is its block of the result. -/
theorem flushed_stream (c : Dev nD) (t : Fin cfg0.N) (hf : (cfg0.win 5).flush t = true) :
    (dats m 0 c).flushed 5 t = ((cfg0.win 5).blk t).view.read (Elt Ideal)
      (stream (m ((c.tc : Thread nD τ).loc main_arg0)) (m ((c.tc : Thread nD τ).loc main_arg1)) (m ((c.tc : Thread nD τ).loc main_arg2)) (m ((c.tc : Thread nD τ).loc main_arg3))
        : Buf (Elt Ideal) ((c.tc : Thread nD τ).loc main_v2_0)) := by
  have h := (flush0_5 t).mp hf
  have ht : t.val < 128 := count ▸ t.isLt
  obtain ⟨e0, e1⟩ := at5 t
  rw [Value.flushed5_B m c t (by omega) h, second]
  refine funext fun (y : S512x2048.Idx) => ?_
  obtain ⟨r, q, rfl⟩ : ∃ (r : Fin 512) (q : Fin 2048), y = ix2 r q := ⟨y 0, y 1, Shape.idx_ext₂ rfl rfl⟩
  have h0 := r.isLt
  have e : ((cfg0.win 5).blk t).view.emb (ix2 r q) = (ix2 (⟨512 * (t.val / 2) + r.val, by omega⟩ : Fin 32768) q : S32768x2048.Idx) := by
    funext i; apply Fin.ext
    match i with
    | ⟨0, _⟩ => show win0_5.index t (0 : Fin 2) * 512 + 1 * r.val = 512 * (t.val / 2) + r.val; omega
    | ⟨1, _⟩ => show win0_5.index t (1 : Fin 2) * 2048 + 1 * q.val = q.val; omega
  show k0_pay3 (F := Ideal) (iblk m c 0 t) (iblk m c 1 t) (outsAt0 m c (t.val - 1) _).1 (iblk m c 2 t) (iblk m c 3 t) (ix2 r q)
    = stream _ _ _ _ (((cfg0.win 5).blk t).view.emb (ix2 r q))
  rw [e]
  exact value m c t h _ r q _ rfl

/-- Every entry of the result is written by some grid point. -/
theorem covered_stream (i : S32768x2048.Idx) : ∃ t : Fin cfg0.N, (cfg0.win 5).flush t = true ∧ i ∈ ((cfg0.win 5).blk t).view.set := by
  have h0 : (i 0).val < 32768 := (i 0).isLt
  have h1 : (i 1).val < 2048 := (i 1).isLt
  have hN := count
  obtain ⟨t, ht⟩ : ∃ t : Fin cfg0.N, t.val = 2 * ((i 0).val / 512) + 1 := ⟨⟨2 * ((i 0).val / 512) + 1, by omega⟩, rfl⟩
  refine ⟨t, (flush0_5 t).mpr (by omega), ?_⟩
  obtain ⟨e0, e1⟩ := at5 t
  show i ∈ ((View.whole main_v2_0).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 2048 ≤ (i 1).val ∧ (i 1).val < win0_5.index t (1 : Fin 2) * 2048 + 2048
    omega

/-- The result array after the run. -/
theorem final_stream (c : Dev nD) : (dats m 0 c).arrAt 5 cfg0.N
    = stream (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 5 _ (fun t hf => flushed_stream m c t hf) covered_stream

/-- What the second point of a pair writes back is its block of the result. -/
theorem flushed_next (c : Dev nD) (t : Fin cfg0.N) (hf : (cfg0.win 6).flush t = true) :
    (dats m 0 c).flushed 6 t = ((cfg0.win 6).blk t).view.read (Elt Ideal)
      (next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        : Buf (Elt Ideal) ((c.tc : Thread nD τ).loc main_v2_1)) := by
  have h := (flush0_6 t).mp hf
  have ht : t.val < 128 := count ▸ t.isLt
  obtain ⟨e0, e1⟩ := at6 t
  rw [Value.flushed6_B m c t (by omega) h, second_next]
  refine funext fun (y : S512x2048.Idx) => ?_
  obtain ⟨r, q, rfl⟩ : ∃ (r : Fin 512) (q : Fin 2048), y = ix2 r q := ⟨y 0, y 1, Shape.idx_ext₂ rfl rfl⟩
  have h0 := r.isLt
  have e : ((cfg0.win 6).blk t).view.emb (ix2 r q) = (ix2 (⟨512 * (t.val / 2) + r.val, by omega⟩ : Fin 32768) q : S32768x2048.Idx) := by
    funext i; apply Fin.ext
    match i with
    | ⟨0, _⟩ => show win0_6.index t (0 : Fin 2) * 512 + 1 * r.val = 512 * (t.val / 2) + r.val; omega
    | ⟨1, _⟩ => show win0_6.index t (1 : Fin 2) * 2048 + 1 * q.val = q.val; omega
  show k0_pay4 (F := Ideal) (iblk m c 0 t) (iblk m c 1 t) (iblk m c 4 t) (outsAt0 m c (t.val - 1) _).1 (iblk m c 2 t) (iblk m c 3 t) (ix2 r q)
    = next _ _ _ _ _ (((cfg0.win 6).blk t).view.emb (ix2 r q))
  rw [e, pay4_apply, read4 m c t q]
  exact congrArg (fun y => rms y _ q) (funext fun k => value m c t h _ r k _ rfl)

/-- Every entry of the result is written by some grid point. -/
theorem covered_next (i : S32768x2048.Idx) : ∃ t : Fin cfg0.N, (cfg0.win 6).flush t = true ∧ i ∈ ((cfg0.win 6).blk t).view.set := by
  have h0 : (i 0).val < 32768 := (i 0).isLt
  have h1 : (i 1).val < 2048 := (i 1).isLt
  have hN := count
  obtain ⟨t, ht⟩ : ∃ t : Fin cfg0.N, t.val = 2 * ((i 0).val / 512) + 1 := ⟨⟨2 * ((i 0).val / 512) + 1, by omega⟩, rfl⟩
  refine ⟨t, (flush0_6 t).mpr (by omega), ?_⟩
  obtain ⟨e0, e1⟩ := at6 t
  show i ∈ ((View.whole main_v2_1).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 2048 ≤ (i 1).val ∧ (i 1).val < win0_6.index t (1 : Fin 2) * 2048 + 2048
    omega

/-- The result array after the run. -/
theorem final_next (c : Dev nD) : (dats m 0 c).arrAt 6 cfg0.N
    = next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 6 _ (fun t hf => flushed_next m c t hf) covered_next

end Kernel

section Reference
open Cert.Reference5Ideal Cert.Reference5Ideal.Read

variable (a : (⟨S32768x5632, .bf16⟩ : BufTy).Contents (Elt Ideal)) (w : (⟨S5632x2048, .bf16⟩ : BufTy).Contents (Elt Ideal))
  (x : (⟨S32768x2048, .f32⟩ : BufTy).Contents (Elt Ideal)) (g n : (⟨S2048, .f32⟩ : BufTy).Contents (Elt Ideal))

theorem product (i : S32768x2048.Idx) : val_main_v0 (F := Ideal) a w i = dot a w (i 0) (i 1) := by
  rw [val_main_v0_apply]
  exact Finset.sum_congr rfl fun k _ => congrArg₂ (· * ·) (congrArg a (Shape.idx_ext₂ rfl rfl)) (congrArg w (Shape.idx_ext₂ rfl rfl))

/-- The reference's residual stream. -/
theorem reference_stream : val_main_v14 (F := Ideal) a w x g = stream a w x g := by
  funext i
  rw [val_main_v14_apply, val_main_v13_apply, val_main_v12_apply, val_main_v11_apply, val_main_v10_apply, val_main_v9_apply,
    val_main_v8_apply, val_main_v7_apply, val_main_v6_apply, val_main_cst_1_apply, val_main_v5_apply, val_main_v4_apply,
    val_main_cst_0_apply, val_main_v3_apply, val_main_v2_apply, val_main_cst_apply, product]
  have e : ∑ k : Fin 2048, val_main_v1 (F := Ideal) a w (idx_main_v2 (idx_main_v3 (idx_main_v9 i)) k)
      = ∑ k : Fin 2048, dot a w (i 0) k * dot a w (i 0) k :=
    Finset.sum_congr rfl fun k _ => by
      rw [val_main_v1_apply, product]
      rfl
  rw [e]
  show x i + _ * Ideal.rsqrt (Ideal.div (Ideal.ofBits .f32 0x00000000#32 + _) _ + _) * g _ = _
  rw [Ideal.ofBits_zero_f32, zero_add]
  have eg : (idx_main_v11 (idx_main_v12 i)) = (ix1 (i 1) : S2048.Idx) := by
    funext j; apply Fin.ext
    match j with
    | ⟨0, _⟩ => rfl
  rw [eg]
  rfl

/-- The reference's input of the next layer. -/
theorem reference_next : val_main_v28 (F := Ideal) a w x g n = next a w x g n := by
  funext i
  rw [val_main_v28_apply, val_main_v27_apply, val_main_v26_apply, val_main_v25_apply, val_main_v24_apply, val_main_v23_apply,
    val_main_v22_apply, val_main_v21_apply, val_main_v20_apply, val_main_cst_4_apply, val_main_v19_apply, val_main_v18_apply,
    val_main_cst_3_apply, val_main_v17_apply, val_main_v16_apply, val_main_cst_2_apply, reference_stream]
  have e : ∑ k : Fin 2048, val_main_v15 (F := Ideal) a w x g (idx_main_v16 (idx_main_v17 (idx_main_v23 i)) k)
      = ∑ k : Fin 2048, stream a w x g (ix2 (i 0) k) * stream a w x g (ix2 (i 0) k) :=
    Finset.sum_congr rfl fun k _ => by
      rw [val_main_v15_apply, reference_stream]
      have ek : idx_main_v16 (idx_main_v17 (idx_main_v23 i)) k = (ix2 (i 0) k : S32768x2048.Idx) := Shape.idx_ext₂ rfl rfl
      rw [ek]
      rfl
  rw [e]
  show _ * Ideal.rsqrt (Ideal.div (Ideal.ofBits .f32 0x00000000#32 + _) _ + _) * n _ = _
  rw [Ideal.ofBits_zero_f32, zero_add]
  have en : (idx_main_v25 (idx_main_v26 i)) = (ix1 (i 1) : S2048.Idx) := by
    funext j; apply Fin.ext
    match j with
    | ⟨0, _⟩ => rfl
  have ei : i = (ix2 (i 0) (i 1) : S32768x2048.Idx) := Shape.idx_ext₂ rfl rfl
  rw [en]
  exact congrArg₂ (· * ·) (congrArg₂ (· * ·) (congrArg (stream a w x g) ei) rfl) rfl

end Reference

end Cert.Proof.FfnDown
-- ==== Proof.FfnDownLast.lean ====
module

public import proofs.«01_k».proof.Proof.FfnDown
public import Idealize.ShloMosaic.Lib.Claim
public import proofs.«01_k».proof.Proof.Gen.Kernel6Ideal.Value
public import proofs.«01_k».proof.Proof.Gen.Kernel6Ideal.Points
public import proofs.«01_k».proof.Proof.Gen.Reference6Ideal.Run
public import proofs.«01_k».proof.Proof.Gen.Reference6Ideal.Read
public import Idealize.ShloMosaic.Lib.MatmulPlain
public import Idealize.ShloMosaic.Lib.Pipeline.Value

/-!
The last layer's down projection, which makes no input for a further layer: the array the kernel leaves, and the reference's, are the
residual stream plus the normalized product `a W`.
-/

@[expose] public section
set_option maxRecDepth 16384
noncomputable section
namespace Cert.Proof.FfnDownLast
open Cert.Proof.Layer
open Cert.Proof.FfnDown (stream dot_halves asRow)
open Idealize.ShloMosaic Idealize.ShloMosaic.TcCoe Idealize.ShloMosaic.ValueIdx Idealize.SL Idealize.SL.Sem
open Idealize.ShloMosaic.Pipeline (Dat)
open scoped BigOperators

section Kernel
open Cert.Kernel6Ideal Cert.Kernel6Ideal.Gen

theorem zz : (![0, 0] : Fin 2 → ℕ) = fun _ => 0 := by funext a; fin_cases a <;> rfl

section Named
variable (c : Dev nD) (i : grid0.Coords) (arg2 : Memref sig .tc .vmem S512x2816 .bf16) (harg2 : arg2.IsWhole)
  (arg3 : Memref sig .tc .vmem S2816x2048 .bf16) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S512x2048 .f32) (harg6 : arg6.IsWhole)
  (x0 : Vec Ideal S512x2816 .bf16) (x1 : Vec Ideal S2816x2048 .bf16) (x2 : Vec Ideal S512x2048 .f32) (x3 : Vec Ideal S1x2048 .f32)
  (xo : Vec Ideal S512x2048 .f32)

/-- The first half of the contraction leaves its partial product. -/
theorem first (hc0 : cond0_0 i) (hc1 : ¬cond0_1 i) (hc2 : ¬cond0_2 i) :
    out0_A_4 c i arg2 harg2 arg3 harg3 arg4 harg4 arg5 harg5 arg6 harg6 hc0 hc1 hc2 x0 x1 x2 x3
      = k0_pay1 (F := Ideal) x0 x1 := by
  unfold out0_A_4
  rw [View.read_writes_eq_canon _ _ _ (cover0_A_4 c i arg2 harg2 arg3 harg3 arg4 harg4 arg5 harg5 arg6 harg6 hc0 hc1 hc2 x0 x1 x2 x3)]
  unfold kernelRun0_A
  dsimp only
  rw [View.canon_unit_zero zz]
  simp only [View.readAt_eq_ld, harg2.read_unread, harg3.read_unread, View.ld_unit_zero (S := S512x2816) zz, View.ld_unit_zero (S := S2816x2048) zz]

/-- The second half adds its partial product to it, normalizes, and adds the residual. -/
theorem second (hc0 : ¬cond0_0 i) (hc1 : ¬cond0_1 i) (hc2 : cond0_2 i) :
    out0_B_4 c i arg2 harg2 arg3 harg3 arg4 harg4 arg5 harg5 arg6 harg6 hc0 hc1 hc2 x0 x1 x2 x3 xo
      = k0_pay3 (F := Ideal) x0 x1 xo x2 x3 := by
  unfold out0_B_4
  rw [View.read_writes_eq_canon _ _ _ (cover0_B_4 c i arg2 harg2 arg3 harg3 arg4 harg4 arg5 harg5 arg6 harg6 hc0 hc1 hc2 x0 x1 x2 x3 xo)]
  unfold kernelRun0_B
  dsimp only
  rw [View.canon_unit_zero zz]
  simp only [View.readAt_eq_ld, harg2.read_unread, harg3.read_unread, harg4.read_unread, harg5.read_unread, harg6.read_unread,
    View.ld_unit_zero (S := S512x2816) zz, View.ld_unit_zero (S := S2816x2048) zz, View.ld_unit_zero (S := S512x2048) zz, View.ld_unit_zero (S := S1x2048) zz]

end Named

/-- A partial product at an index. -/
theorem pay1_apply (a : Vec Ideal S512x2816 .bf16) (w : Vec Ideal S2816x2048 .bf16) (r : Fin 512) (c : Fin 2048) :
    k0_pay1 (F := Ideal) a w (ix2 r c) = dot a w r c := by
  unfold k0_pay1
  refine (Ideal.matmul_plain_apply (M := 512) (K := 2816) (N := 2048) none _ _ _ r c).trans ?_
  rw [constant_apply, Ideal.ofBits_zero_f32, zero_add]
  rfl

/-- The normalization of a block's rows, as the kernel writes it. -/
def norm (y : FVec Ideal S512x2048 .f32) (g : FVec Ideal S1x2048 .f32) : FVec Ideal S512x2048 .f32 :=
  mulf (mulf y (broadcastTo S512x2048 (rsqrt (addf (divf (shapeCast S512x1
    (multiReduction .add [1] S512 (mulf y y) 0x00000000#32 reduces_S512x2048_S512 (.inl rfl) rfl) shapeCasts_S512_S512x1)
    (broadcast S512x1 (Scalar.ofBits .f32 0x45000000#32))) (broadcast S512x1 (Scalar.ofBits .f32 0x358637BD#32)))) broadcasts_S512x1_S512x2048))
    (broadcastTo S512x2048 g broadcasts_S1x2048_S512x2048)

theorem norm_apply (y : FVec Ideal S512x2048 .f32) (g : FVec Ideal S1x2048 .f32) (r : Fin 512) (c : Fin 2048) :
    norm y g (ix2 r c) = rms (fun k => y (ix2 r k)) (g (ix2 (0 : Fin 1) c)) c := by
  unfold norm
  rw [mulf_apply, mulf_apply]
  have eg : broadcastTo S512x2048 g broadcasts_S1x2048_S512x2048 (ix2 r c) = g (ix2 (0 : Fin 1) c) :=
    broadcastTo_apply g _ _ _ fun a => match a with
      | ⟨0, _⟩ => rfl
      | ⟨1, _⟩ => rfl
  have es : ∀ v : FVec Ideal S512x1 .f32, broadcastTo S512x2048 v broadcasts_S512x1_S512x2048 (ix2 r c) = v (ix2 r (0 : Fin 1)) := fun v =>
    broadcastTo_apply v _ _ _ fun a => match a with
      | ⟨0, _⟩ => rfl
      | ⟨1, _⟩ => rfl
  have ec : ∀ v : FVec Ideal S512 .f32, shapeCast S512x1 v shapeCasts_S512_S512x1 (ix2 r (0 : Fin 1)) = v (ix1 r) := fun v =>
    shapeCast_apply v _ _ _ (by
      rw [Shape.rowMajor_val_two, Shape.rowMajor_val_one]
      show r.val = r.val * 1 + 0
      omega)
  have em : ∀ v : FVec Ideal S512x2048 .f32, multiReduction .add [1] S512 v 0x00000000#32 reduces_S512x2048_S512 (.inl rfl) rfl (ix1 r)
      = ∑ k : Fin 2048, v (ix2 r k) := fun v =>
    (Ideal.multiReduction_add_single v _ reduces_S512x2048_S512 (.inl rfl) rfl (ix1 r)).trans
      (Finset.sum_congr rfl fun k _ => congrArg v (Shape.idx_ext₂ rfl rfl))
  rw [eg, es]
  show _ * Ideal.rsqrt (Ideal.div (shapeCast S512x1 _ shapeCasts_S512_S512x1 (ix2 r (0 : Fin 1))) _ + _) * _ = _
  rw [ec, em]
  rfl

/-- The residual stream after the layer, over the two halves of the contraction. -/
theorem pay3_apply (a : Vec Ideal S512x2816 .bf16) (w : Vec Ideal S2816x2048 .bf16) (xo x : Vec Ideal S512x2048 .f32) (g : Vec Ideal S1x2048 .f32)
    (r : Fin 512) (c : Fin 2048) :
    k0_pay3 (F := Ideal) a w xo x g (ix2 r c)
      = x (ix2 r c) + rms (fun k => xo (ix2 r k) + dot a w r k) (g (ix2 (0 : Fin 1) c)) c := by
  have e : k0_pay3 (F := Ideal) a w xo x g = addf x (norm (addf xo (k0_pay1 a w)) g) := by
    unfold k0_pay3
    simp only [shapeCast_self]
    rfl
  rw [e, addf_apply, norm_apply]
  have er : (fun k => addf xo (k0_pay1 (F := Ideal) a w) (ix2 r k)) = fun k => xo (ix2 r k) + dot a w r k :=
    funext fun k => by rw [addf_apply, pay1_apply]
  rw [er]

variable (m : (ℓ : Loc nD τ sig) → Buf (Elt Ideal) ℓ) (ρ : Dev nD → PrngReg)

theorem at0 : ∀ t : Fin cfg0.N, win0_0.index t (0 : Fin 2) = t.val / 2 ∧ win0_0.index t (1 : Fin 2) = t.val % 2 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = t.val / 2 ∧ win0_4.index t (1 : Fin 2) = 0 :=
  (by decide +kernel : ∀ t : Fin grid0.N, _)
theorem count : cfg0.N = 128 := by decide +kernel

/-! The blocks a grid point reads, as entries of the arguments. -/

theorem read0 (c : Dev nD) (t : Fin cfg0.N) (r : Fin 512) (k : Fin 2816) (R : Fin 32768) (K : Fin 5632)
    (hR : R.val = 512 * (t.val / 2) + r.val) (hK : K.val = 2816 * (t.val % 2) + k.val) :
    (iblk m c 0 t : Vec Ideal S512x2816 .bf16) (ix2 r k) = m ((c.tc : Thread nD τ).loc main_arg0) (ix2 R K) := by
  obtain ⟨e0, e1⟩ := at0 t
  show V m c main_arg0 (((cfg0.win 0).blk t).view.emb (ix2 r k)) = _
  rw [V_main_arg0]
  refine congrArg _ (funext fun i => Fin.ext ?_)
  match i with
  | ⟨0, _⟩ => show win0_0.index t (0 : Fin 2) * 512 + 1 * r.val = R.val; omega
  | ⟨1, _⟩ => show win0_0.index t (1 : Fin 2) * 2816 + 1 * k.val = K.val; omega

theorem read1 (c : Dev nD) (t : Fin cfg0.N) (k : Fin 2816) (q : Fin 2048) (K : Fin 5632) (hK : K.val = 2816 * (t.val % 2) + k.val) :
    (iblk m c 1 t : Vec Ideal S2816x2048 .bf16) (ix2 k q) = m ((c.tc : Thread nD τ).loc main_arg1) (ix2 K q) := by
  obtain ⟨e0, e1⟩ := at1 t
  show V m c main_arg1 (((cfg0.win 1).blk t).view.emb (ix2 k q)) = _
  rw [V_main_arg1]
  refine congrArg _ (funext fun i => Fin.ext ?_)
  match i with
  | ⟨0, _⟩ => show win0_1.index t (0 : Fin 2) * 2816 + 1 * k.val = K.val; omega
  | ⟨1, _⟩ => show win0_1.index t (1 : Fin 2) * 2048 + 1 * q.val = q.val; omega

theorem read2 (c : Dev nD) (t : Fin cfg0.N) (r : Fin 512) (q : Fin 2048) (R : Fin 32768) (hR : R.val = 512 * (t.val / 2) + r.val) :
    (iblk m c 2 t : Vec Ideal S512x2048 .f32) (ix2 r q) = m ((c.tc : Thread nD τ).loc main_arg2) (ix2 R q) := by
  obtain ⟨e0, e1⟩ := at2 t
  show V m c main_arg2 (((cfg0.win 2).blk t).view.emb (ix2 r q)) = _
  rw [V_main_arg2]
  refine congrArg _ (funext fun i => Fin.ext ?_)
  match i with
  | ⟨0, _⟩ => show win0_2.index t (0 : Fin 2) * 512 + 1 * r.val = R.val; omega
  | ⟨1, _⟩ => show win0_2.index t (1 : Fin 2) * 2048 + 1 * q.val = q.val; omega

theorem read3 (c : Dev nD) (t : Fin cfg0.N) (q : Fin 2048) :
    (iblk m c 3 t : Vec Ideal S1x2048 .f32) (ix2 (0 : Fin 1) q) = m ((c.tc : Thread nD τ).loc main_arg3) (ix1 q) := by
  obtain ⟨e0, e1⟩ := at3 t
  show V m c main_v0 (((cfg0.win 3).blk t).view.emb (ix2 (0 : Fin 1) q)) = _
  have e : ((cfg0.win 3).blk t).view.emb (ix2 (0 : Fin 1) q) = (ix2 (0 : Fin 1) q : S1x2048.Idx) := by
    funext i; apply Fin.ext
    match i with
    | ⟨0, _⟩ => show win0_3.index t (0 : Fin 2) * 1 + 1 * 0 = 0; omega
    | ⟨1, _⟩ => show win0_3.index t (1 : Fin 2) * 2048 + 1 * q.val = q.val; omega
  rw [e]
  entry_read
  exact asRow _ _ q

/-- What the first point of a pair leaves for the second. -/
theorem left (c : Dev nD) (t : Fin cfg0.N) (h : t.val % 2 = 0) :
    (outsAt0 m c t.val t.isLt) = k0_pay1 (F := Ideal) (iblk m c 0 t) (iblk m c 1 t) := by
  rw [outsAt0_A m c t h (by omega)]
  rw [first]

theorem carried (c : Dev nD) (t : Fin cfg0.N) (h : t.val % 2 = 1) (h' : t.val - 1 < cfg0.N) :
    (outsAt0 m c (t.val - 1) h') = k0_pay1 (F := Ideal) (iblk m c 0 ⟨t.val - 1, h'⟩) (iblk m c 1 ⟨t.val - 1, h'⟩) :=
  left m c ⟨t.val - 1, h'⟩ (by show (t.val - 1) % 2 = 0; omega)

/-- The stream's entries at the second point of a pair. -/
theorem value (c : Dev nD) (t : Fin cfg0.N) (h : t.val % 2 = 1) (h' : t.val - 1 < cfg0.N) (r : Fin 512) (q : Fin 2048) (R : Fin 32768)
    (hR : R.val = 512 * (t.val / 2) + r.val) :
    k0_pay3 (F := Ideal) (iblk m c 0 t) (iblk m c 1 t) (outsAt0 m c (t.val - 1) h') (iblk m c 2 t) (iblk m c 3 t) (ix2 r q)
      = stream (m ((c.tc : Thread nD τ).loc main_arg0)) (m ((c.tc : Thread nD τ).loc main_arg1)) (m ((c.tc : Thread nD τ).loc main_arg2))
          (m ((c.tc : Thread nD τ).loc main_arg3)) (ix2 R q) := by
  rw [pay3_apply, read2 m c t r q R hR, read3 m c t q, carried m c t h h']
  have e : (fun k => k0_pay1 (F := Ideal) (iblk m c 0 ⟨t.val - 1, h'⟩) (iblk m c 1 ⟨t.val - 1, h'⟩) (ix2 r k)
        + dot (M := 512) (K := 2816) (N := 2048) (iblk m c 0 t) (iblk m c 1 t) r k)
      = fun k => dot (m ((c.tc : Thread nD τ).loc main_arg0)) (m ((c.tc : Thread nD τ).loc main_arg1)) R k := by
    funext k
    rw [pay1_apply, dot_halves]
    refine congrArg₂ (· + ·) (Finset.sum_congr rfl fun l _ => congrArg₂ (· * ·) ?_ ?_) (Finset.sum_congr rfl fun l _ => congrArg₂ (· * ·) ?_ ?_)
    · exact read0 m c ⟨t.val - 1, h'⟩ r l R _ (by show R.val = 512 * ((t.val - 1) / 2) + r.val; omega) (by show l.val = 2816 * ((t.val - 1) % 2) + l.val; omega)
    · exact read1 m c ⟨t.val - 1, h'⟩ l k _ (by show l.val = 2816 * ((t.val - 1) % 2) + l.val; omega)
    · exact read0 m c t r l R _ hR (by show 2816 + l.val = 2816 * (t.val % 2) + l.val; omega)
    · exact read1 m c t l k _ (by show 2816 + l.val = 2816 * (t.val % 2) + l.val; omega)
  rw [e]
  rfl

/-- What the second point of a pair writes back is its block of the result. -/
theorem flushed_stream (c : Dev nD) (t : Fin cfg0.N) (hf : (cfg0.win 4).flush t = true) :
    (dats m 0 c).flushed 4 t = ((cfg0.win 4).blk t).view.read (Elt Ideal)
      (stream (m ((c.tc : Thread nD τ).loc main_arg0)) (m ((c.tc : Thread nD τ).loc main_arg1)) (m ((c.tc : Thread nD τ).loc main_arg2)) (m ((c.tc : Thread nD τ).loc main_arg3))
        : Buf (Elt Ideal) ((c.tc : Thread nD τ).loc main_v1)) := by
  have h := (flush0_4 t).mp hf
  have ht : t.val < 128 := count ▸ t.isLt
  obtain ⟨e0, e1⟩ := at4 t
  rw [Value.flushed4_B m c t (by omega) h, second]
  refine funext fun (y : S512x2048.Idx) => ?_
  obtain ⟨r, q, rfl⟩ : ∃ (r : Fin 512) (q : Fin 2048), y = ix2 r q := ⟨y 0, y 1, Shape.idx_ext₂ rfl rfl⟩
  have h0 := r.isLt
  have e : ((cfg0.win 4).blk t).view.emb (ix2 r q) = (ix2 (⟨512 * (t.val / 2) + r.val, by omega⟩ : Fin 32768) q : S32768x2048.Idx) := by
    funext i; apply Fin.ext
    match i with
    | ⟨0, _⟩ => show win0_4.index t (0 : Fin 2) * 512 + 1 * r.val = 512 * (t.val / 2) + r.val; omega
    | ⟨1, _⟩ => show win0_4.index t (1 : Fin 2) * 2048 + 1 * q.val = q.val; omega
  show k0_pay3 (F := Ideal) (iblk m c 0 t) (iblk m c 1 t) (outsAt0 m c (t.val - 1) _) (iblk m c 2 t) (iblk m c 3 t) (ix2 r q)
    = stream _ _ _ _ (((cfg0.win 4).blk t).view.emb (ix2 r q))
  rw [e]
  exact value m c t h _ r q _ rfl

/-- Every entry of the result is written by some grid point. -/
theorem covered_stream (i : S32768x2048.Idx) : ∃ t : Fin cfg0.N, (cfg0.win 4).flush t = true ∧ i ∈ ((cfg0.win 4).blk t).view.set := by
  have h0 : (i 0).val < 32768 := (i 0).isLt
  have h1 : (i 1).val < 2048 := (i 1).isLt
  have hN := count
  obtain ⟨t, ht⟩ : ∃ t : Fin cfg0.N, t.val = 2 * ((i 0).val / 512) + 1 := ⟨⟨2 * ((i 0).val / 512) + 1, by omega⟩, rfl⟩
  refine ⟨t, (flush0_4 t).mpr (by omega), ?_⟩
  obtain ⟨e0, e1⟩ := at4 t
  show i ∈ ((View.whole main_v1).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- The result array after the run. -/
theorem final_stream (c : Dev nD) : (dats m 0 c).arrAt 4 cfg0.N
    = stream (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 4 _ (fun t hf => flushed_stream m c t hf) covered_stream

end Kernel

section Reference
open Cert.Reference6Ideal Cert.Reference6Ideal.Read

variable (a : (⟨S32768x5632, .bf16⟩ : BufTy).Contents (Elt Ideal)) (w : (⟨S5632x2048, .bf16⟩ : BufTy).Contents (Elt Ideal))
  (x : (⟨S32768x2048, .f32⟩ : BufTy).Contents (Elt Ideal)) (g : (⟨S2048, .f32⟩ : BufTy).Contents (Elt Ideal))

theorem product (i : S32768x2048.Idx) : val_main_v0 (F := Ideal) a w i = dot a w (i 0) (i 1) := by
  rw [val_main_v0_apply]
  exact Finset.sum_congr rfl fun k _ => congrArg₂ (· * ·) (congrArg a (Shape.idx_ext₂ rfl rfl)) (congrArg w (Shape.idx_ext₂ rfl rfl))

/-- The reference's residual stream. -/
theorem reference_stream : val_main_v14 (F := Ideal) a w x g = stream a w x g := by
  funext i
  rw [val_main_v14_apply, val_main_v13_apply, val_main_v12_apply, val_main_v11_apply, val_main_v10_apply, val_main_v9_apply,
    val_main_v8_apply, val_main_v7_apply, val_main_v6_apply, val_main_cst_1_apply, val_main_v5_apply, val_main_v4_apply,
    val_main_cst_0_apply, val_main_v3_apply, val_main_v2_apply, val_main_cst_apply, product]
  have e : ∑ k : Fin 2048, val_main_v1 (F := Ideal) a w (idx_main_v2 (idx_main_v3 (idx_main_v9 i)) k)
      = ∑ k : Fin 2048, dot a w (i 0) k * dot a w (i 0) k :=
    Finset.sum_congr rfl fun k _ => by
      rw [val_main_v1_apply, product]
      rfl
  rw [e]
  show x i + _ * Ideal.rsqrt (Ideal.div (Ideal.ofBits .f32 0x00000000#32 + _) _ + _) * g _ = _
  rw [Ideal.ofBits_zero_f32, zero_add]
  have eg : (idx_main_v11 (idx_main_v12 i)) = (ix1 (i 1) : S2048.Idx) := by
    funext j; apply Fin.ext
    match j with
    | ⟨0, _⟩ => rfl
  rw [eg]
  rfl

end Reference

end Cert.Proof.FfnDownLast
-- ==== Proof.MixOut.lean ====
module

public import proofs.«01_k».proof.Proof.FfnDown.Point
public import Idealize.ShloMosaic.Lib.Claim
public import proofs.«01_k».proof.Proof.Gen.Kernel7Ideal.Value
public import proofs.«01_k».proof.Proof.Gen.Kernel7Ideal.Points
public import proofs.«01_k».proof.Proof.Gen.Reference7Ideal.Run
public import proofs.«01_k».proof.Proof.Gen.Reference7Ideal.Read
public import Idealize.ShloMosaic.Lib.MatmulPlain
public import Idealize.ShloMosaic.Lib.Pipeline.Value

/-!
The mixer's output projection: both arrays the kernel leaves, and the reference's, are the residual stream plus the normalized product of the
three head groups' outputs (two of them normalized) with the weights, and the next sub-layer's normalized input made of it.
-/

@[expose] public section
set_option maxRecDepth 16384
noncomputable section
namespace Cert.Proof.MixOut
open Cert.Proof.Layer
open Cert.Proof.FfnDown (norm norm_apply)
open Idealize.ShloMosaic Idealize.ShloMosaic.TcCoe Idealize.ShloMosaic.ValueIdx Idealize.SL Idealize.SL.Sem
open Idealize.ShloMosaic.Pipeline (Dat)
open scoped BigOperators

/-- Entry `c` of a row of 768 scaled to unit root mean square, times the gain `g`. -/
def rms768 (y : Fin 768 → EReal) (g : EReal) (c : Fin 768) : EReal :=
  y c * Ideal.rsqrt (Ideal.div (∑ k, y k * y k) (Ideal.ofBits .f32 0x44400000#32) + Ideal.ofBits .f32 0x358637BD#32) * g

/-- The three head groups' outputs times the weights: the rows 0 to 511, 512 to 1279 and 1280 to 2047 belong to one group each. -/
def product (a : (⟨2, ![32768, 512]⟩ : Shape).Idx → EReal) (b c : (⟨2, ![32768, 768]⟩ : Shape).Idx → EReal)
    (w : (⟨2, ![2048, 2048]⟩ : Shape).Idx → EReal) (gb gc : (⟨1, ![768]⟩ : Shape).Idx → EReal) (R : Fin 32768) (q : Fin 2048) : EReal :=
  (∑ k : Fin 512, a (ix2 R k) * w (ix2 (⟨k.val, by omega⟩ : Fin 2048) q))
    + (∑ k : Fin 768, rms768 (fun l => b (ix2 R l)) (gb (ix1 k)) k * w (ix2 (⟨512 + k.val, by omega⟩ : Fin 2048) q))
    + ∑ k : Fin 768, rms768 (fun l => c (ix2 R l)) (gc (ix1 k)) k * w (ix2 (⟨1280 + k.val, by omega⟩ : Fin 2048) q)

/-- The residual stream after the mixer. -/
def stream (a : (⟨2, ![32768, 512]⟩ : Shape).Idx → EReal) (b c : (⟨2, ![32768, 768]⟩ : Shape).Idx → EReal)
    (x : (⟨2, ![32768, 2048]⟩ : Shape).Idx → EReal) (w : (⟨2, ![2048, 2048]⟩ : Shape).Idx → EReal)
    (gb gc : (⟨1, ![768]⟩ : Shape).Idx → EReal) (g : (⟨1, ![2048]⟩ : Shape).Idx → EReal) : (⟨2, ![32768, 2048]⟩ : Shape).Idx → EReal :=
  fun i => x i + rms (fun k => product a b c w gb gc (i 0) k) (g (ix1 (i 1))) (i 1)

/-- The next sub-layer's normalized input. -/
def next (a : (⟨2, ![32768, 512]⟩ : Shape).Idx → EReal) (b c : (⟨2, ![32768, 768]⟩ : Shape).Idx → EReal)
    (x : (⟨2, ![32768, 2048]⟩ : Shape).Idx → EReal) (w : (⟨2, ![2048, 2048]⟩ : Shape).Idx → EReal)
    (gb gc : (⟨1, ![768]⟩ : Shape).Idx → EReal) (g n : (⟨1, ![2048]⟩ : Shape).Idx → EReal) : (⟨2, ![32768, 2048]⟩ : Shape).Idx → EReal :=
  fun i => rms (fun k => stream a b c x w gb gc g (ix2 (i 0) k)) (n (ix1 (i 1))) (i 1)

section Kernel
open Cert.Kernel7Ideal Cert.Kernel7Ideal.Gen

theorem zz : (![0, 0] : Fin 2 → ℕ) = fun _ => 0 := by funext a; fin_cases a <;> rfl

/-- The normalization of a block's rows of 768, as the kernel writes it. -/
def norm768 (y : FVec Ideal S512x768 .f32) (g : FVec Ideal S1x768 .f32) : FVec Ideal S512x768 .f32 :=
  mulf (mulf y (broadcastTo S512x768 (rsqrt (addf (divf (shapeCast S512x1
    (multiReduction .add [1] S512 (mulf y y) 0x00000000#32 reduces_S512x768_S512 (.inl rfl) rfl) shapeCasts_S512_S512x1)
    (broadcast S512x1 (Scalar.ofBits .f32 0x44400000#32))) (broadcast S512x1 (Scalar.ofBits .f32 0x358637BD#32)))) broadcasts_S512x1_S512x768))
    (broadcastTo S512x768 g broadcasts_S1x768_S512x768)

theorem norm768_apply (y : FVec Ideal S512x768 .f32) (g : FVec Ideal S1x768 .f32) (r : Fin 512) (c : Fin 768) :
    norm768 y g (ix2 r c) = rms768 (fun k => y (ix2 r k)) (g (ix2 (0 : Fin 1) c)) c := by
  unfold norm768
  rw [mulf_apply, mulf_apply]
  have eg : broadcastTo S512x768 g broadcasts_S1x768_S512x768 (ix2 r c) = g (ix2 (0 : Fin 1) c) :=
    broadcastTo_apply g _ _ _ fun a => match a with
      | ⟨0, _⟩ => rfl
      | ⟨1, _⟩ => rfl
  have es : ∀ v : FVec Ideal S512x1 .f32, broadcastTo S512x768 v broadcasts_S512x1_S512x768 (ix2 r c) = v (ix2 r (0 : Fin 1)) := fun v =>
    broadcastTo_apply v _ _ _ fun a => match a with
      | ⟨0, _⟩ => rfl
      | ⟨1, _⟩ => rfl
  have ec : ∀ v : FVec Ideal S512 .f32, shapeCast S512x1 v shapeCasts_S512_S512x1 (ix2 r (0 : Fin 1)) = v (ix1 r) := fun v =>
    shapeCast_apply v _ _ _ (by
      rw [Shape.rowMajor_val_two, Shape.rowMajor_val_one]
      show r.val = r.val * 1 + 0
      omega)
  have em : ∀ v : FVec Ideal S512x768 .f32, multiReduction .add [1] S512 v 0x00000000#32 reduces_S512x768_S512 (.inl rfl) rfl (ix1 r)
      = ∑ k : Fin 768, v (ix2 r k) := fun v =>
    (Ideal.multiReduction_add_single v _ reduces_S512x768_S512 (.inl rfl) rfl (ix1 r)).trans
      (Finset.sum_congr rfl fun k _ => congrArg v (Shape.idx_ext₂ rfl rfl))
  rw [eg, es]
  show _ * Ideal.rsqrt (Ideal.div (shapeCast S512x1 _ shapeCasts_S512_S512x1 (ix2 r (0 : Fin 1))) _ + _) * _ = _
  rw [ec, em]
  rfl

theorem pay1_apply (b : Vec Ideal S512x768 .bf16) (g : Vec Ideal S1x768 .f32) (r : Fin 512) (c : Fin 768) :
    k0_pay1 (F := Ideal) b g (ix2 r c) = rms768 (fun k => b (ix2 r k)) (g (ix2 (0 : Fin 1) c)) c := by
  have e : k0_pay1 (F := Ideal) b g = truncf .bf16 (norm768 (extf .f32 b bitsLt_bf16_f32) g) bitsLt_bf16_f32 := by
    unfold k0_pay1
    simp only [shapeCast_self]
    rfl
  rw [e, truncf_apply, norm768_apply]
  rfl

theorem pay2_apply (b : Vec Ideal S512x768 .bf16) (g : Vec Ideal S1x768 .f32) (r : Fin 512) (c : Fin 768) :
    k0_pay2 (F := Ideal) b g (ix2 r c) = rms768 (fun k => b (ix2 r k)) (g (ix2 (0 : Fin 1) c)) c := by
  have e : k0_pay2 (F := Ideal) b g = truncf .bf16 (norm768 (extf .f32 b bitsLt_bf16_f32) g) bitsLt_bf16_f32 := by
    unfold k0_pay2
    simp only [shapeCast_self]
    rfl
  rw [e, truncf_apply, norm768_apply]
  rfl

theorem pay3_apply (a : Vec Ideal S512x512 .bf16) (w : Vec Ideal S512x2048 .bf16) (r : Fin 512) (c : Fin 2048) :
    k0_pay3 (F := Ideal) a w (ix2 r c) = dot (M := 512) (K := 512) (N := 2048) a w r c := by
  unfold k0_pay3
  refine (Ideal.matmul_plain_apply (M := 512) (K := 512) (N := 2048) none _ _ _ r c).trans ?_
  rw [constant_apply, Ideal.ofBits_zero_f32, zero_add]
  rfl

theorem matmul768_apply (a : Vec Ideal S512x768 .bf16) (w : Vec Ideal S768x2048 .bf16) (r : Fin 512) (c : Fin 2048) :
    matmul (F := Ideal) (φ₁ := .bf16) (φ₂ := .bf16) dot_S512x768_S768x2048_S512x2048_1_0_0_1_n_n none a w (constant S512x2048 .f32 0x00000000#32) (ix2 r c)
      = dot (M := 512) (K := 768) (N := 2048) a w r c := by
  refine (Ideal.matmul_plain_apply (M := 512) (K := 768) (N := 2048) none _ _ _ r c).trans ?_
  rw [constant_apply, Ideal.ofBits_zero_f32, zero_add]
  rfl

/-- The residual stream after the mixer, of a block. -/
theorem pay4_apply (b c : FVec Ideal S512x768 .bf16) (p : FVec Ideal S512x2048 .f32) (w1 w2 : Vec Ideal S768x2048 .bf16)
    (x : Vec Ideal S512x2048 .f32) (g : Vec Ideal S1x2048 .f32) (r : Fin 512) (q : Fin 2048) :
    k0_pay4 (F := Ideal) b c p w1 w2 x g (ix2 r q)
      = x (ix2 r q) + rms (fun k => p (ix2 r k) + dot (M := 512) (K := 768) (N := 2048) b w1 r k + dot (M := 512) (K := 768) (N := 2048) c w2 r k)
          (g (ix2 (0 : Fin 1) q)) q := by
  have e : k0_pay4 (F := Ideal) b c p w1 w2 x g = addf x (norm (addf (addf p
      (matmul (F := Ideal) (φ₁ := .bf16) (φ₂ := .bf16) dot_S512x768_S768x2048_S512x2048_1_0_0_1_n_n none b w1 (constant S512x2048 .f32 0x00000000#32)))
      (matmul (F := Ideal) (φ₁ := .bf16) (φ₂ := .bf16) dot_S512x768_S768x2048_S512x2048_1_0_0_1_n_n none c w2 (constant S512x2048 .f32 0x00000000#32))) g) := by
    unfold k0_pay4
    simp only [shapeCast_self]
    rfl
  rw [e, addf_apply, norm_apply]
  refine congrArg (fun y => x (ix2 r q) + rms y (g (ix2 (0 : Fin 1) q)) q) (funext fun k => ?_)
  rw [addf_apply, addf_apply, matmul768_apply, matmul768_apply]

/-- The next sub-layer's normalized input, of a block. -/
theorem pay5_apply (b c : FVec Ideal S512x768 .bf16) (p : FVec Ideal S512x2048 .f32) (w1 w2 : Vec Ideal S768x2048 .bf16)
    (x : Vec Ideal S512x2048 .f32) (g n : Vec Ideal S1x2048 .f32) (r : Fin 512) (q : Fin 2048) :
    k0_pay5 (F := Ideal) b c p w1 w2 x g n (ix2 r q)
      = rms (fun k => k0_pay4 (F := Ideal) b c p w1 w2 x g (ix2 r k)) (n (ix2 (0 : Fin 1) q)) q := by
  have e : k0_pay5 (F := Ideal) b c p w1 w2 x g n = truncf .bf16 (norm (k0_pay4 (F := Ideal) b c p w1 w2 x g) n) bitsLt_bf16_f32 := by
    unfold k0_pay5
    simp only [shapeCast_self]
    rfl
  rw [e, truncf_apply, norm_apply]

variable (x0 : Vec Ideal S512x512 .bf16) (x1 x2 : Vec Ideal S512x768 .bf16) (x3 : Vec Ideal S512x2048 .f32) (x4 : Vec Ideal S2048x2048 .bf16)
  (x5 x6 : Vec Ideal S1x768 .f32) (x7 x8 : Vec Ideal S1x2048 .f32)

/-- What the body leaves in its first output block. -/
theorem out_stream : out0_9 x0 x1 x2 x3 x4 x5 x6 x7 x8
    = k0_pay4 (F := Ideal) (k0_pay1 x1 x5) (k0_pay2 x2 x6) (k0_pay3 x0 (View.ld x4 r0_3)) (View.ld x4 r0_4) (View.ld x4 r0_5) x3 x7 := by
  unfold out0_9 k0_pay6 k0_pay7 k0_pay8
  rw [View.canon_unit_zero zz]
  simp only [View.ld_unit_zero (S := S512x768) zz, View.ld_unit_zero (S := S1x768) zz, View.ld_unit_zero (S := S512x512) zz,
    View.ld_unit_zero (S := S512x2048) zz, View.ld_unit_zero (S := S1x2048) zz]

/-- What the body leaves in its second output block. -/
theorem out_next : out0_10 x0 x1 x2 x3 x4 x5 x6 x7 x8
    = k0_pay5 (F := Ideal) (k0_pay1 x1 x5) (k0_pay2 x2 x6) (k0_pay3 x0 (View.ld x4 r0_3)) (View.ld x4 r0_4) (View.ld x4 r0_5) x3 x7 x8 := by
  unfold out0_10 k0_pay6 k0_pay7 k0_pay8
  rw [View.canon_unit_zero zz]
  simp only [View.ld_unit_zero (S := S512x768) zz, View.ld_unit_zero (S := S1x768) zz, View.ld_unit_zero (S := S512x512) zz,
    View.ld_unit_zero (S := S512x2048) zz, View.ld_unit_zero (S := S1x2048) zz]

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = 0 ∧ win0_8.index t (1 : Fin 2) = 0 :=
  (by decide +kernel : ∀ t : Fin grid0.N, _)
theorem at9 : ∀ t : Fin cfg0.N, win0_9.index t (0 : Fin 2) = t.val ∧ win0_9.index t (1 : Fin 2) = 0 :=
  (by decide +kernel : ∀ t : Fin grid0.N, _)
theorem at10 : ∀ t : Fin cfg0.N, win0_10.index t (0 : Fin 2) = t.val ∧ win0_10.index t (1 : Fin 2) = 0 :=
  (by decide +kernel : ∀ t : Fin grid0.N, _)
theorem count : cfg0.N = 64 := by decide +kernel

/-! The blocks a grid point reads, as entries of the arguments. -/

theorem read0 (c : Dev nD) (t : Fin cfg0.N) (r : Fin 512) (k : Fin 512) (R : Fin 32768) (hR : R.val = 512 * t.val + r.val) :
    (iblk m c 0 t : Vec Ideal S512x512 .bf16) (ix2 r k) = m ((c.tc : Thread nD τ).loc main_arg0) (ix2 R k) := by
  obtain ⟨e0, e1⟩ := at0 t
  show V m c main_arg0 (((cfg0.win 0).blk t).view.emb (ix2 r k)) = _
  rw [V_main_arg0]
  refine congrArg _ (funext fun i => Fin.ext ?_)
  match i with
  | ⟨0, _⟩ => show win0_0.index t (0 : Fin 2) * 512 + 1 * r.val = R.val; omega
  | ⟨1, _⟩ => show win0_0.index t (1 : Fin 2) * 512 + 1 * k.val = k.val; omega

theorem read1 (c : Dev nD) (t : Fin cfg0.N) (r : Fin 512) (k : Fin 768) (R : Fin 32768) (hR : R.val = 512 * t.val + r.val) :
    (iblk m c 1 t : Vec Ideal S512x768 .bf16) (ix2 r k) = m ((c.tc : Thread nD τ).loc main_arg1) (ix2 R k) := by
  obtain ⟨e0, e1⟩ := at1 t
  show V m c main_arg1 (((cfg0.win 1).blk t).view.emb (ix2 r k)) = _
  rw [V_main_arg1]
  refine congrArg _ (funext fun i => Fin.ext ?_)
  match i with
  | ⟨0, _⟩ => show win0_1.index t (0 : Fin 2) * 512 + 1 * r.val = R.val; omega
  | ⟨1, _⟩ => show win0_1.index t (1 : Fin 2) * 768 + 1 * k.val = k.val; omega

theorem read2 (c : Dev nD) (t : Fin cfg0.N) (r : Fin 512) (k : Fin 768) (R : Fin 32768) (hR : R.val = 512 * t.val + r.val) :
    (iblk m c 2 t : Vec Ideal S512x768 .bf16) (ix2 r k) = m ((c.tc : Thread nD τ).loc main_arg2) (ix2 R k) := by
  obtain ⟨e0, e1⟩ := at2 t
  show V m c main_arg2 (((cfg0.win 2).blk t).view.emb (ix2 r k)) = _
  rw [V_main_arg2]
  refine congrArg _ (funext fun i => Fin.ext ?_)
  match i with
  | ⟨0, _⟩ => show win0_2.index t (0 : Fin 2) * 512 + 1 * r.val = R.val; omega
  | ⟨1, _⟩ => show win0_2.index t (1 : Fin 2) * 768 + 1 * k.val = k.val; omega

theorem read3 (c : Dev nD) (t : Fin cfg0.N) (r : Fin 512) (k : Fin 2048) (R : Fin 32768) (hR : R.val = 512 * t.val + r.val) :
    (iblk m c 3 t : Vec Ideal S512x2048 .f32) (ix2 r k) = m ((c.tc : Thread nD τ).loc main_arg3) (ix2 R k) := by
  obtain ⟨e0, e1⟩ := at3 t
  show V m c main_arg3 (((cfg0.win 3).blk t).view.emb (ix2 r k)) = _
  rw [V_main_arg3]
  refine congrArg _ (funext fun i => Fin.ext ?_)
  match i with
  | ⟨0, _⟩ => show win0_3.index t (0 : Fin 2) * 512 + 1 * r.val = R.val; omega
  | ⟨1, _⟩ => show win0_3.index t (1 : Fin 2) * 2048 + 1 * k.val = k.val; omega

theorem read4 (c : Dev nD) (t : Fin cfg0.N) (k : Fin 2048) (q : Fin 2048) :
    (iblk m c 4 t : Vec Ideal S2048x2048 .bf16) (ix2 k q) = m ((c.tc : Thread nD τ).loc main_arg4) (ix2 k q) := by
  obtain ⟨e0, e1⟩ := at4 t
  show V m c main_arg4 (((cfg0.win 4).blk t).view.emb (ix2 k q)) = _
  rw [V_main_arg4]
  refine congrArg _ (funext fun i => Fin.ext ?_)
  match i with
  | ⟨0, _⟩ => show win0_4.index t (0 : Fin 2) * 2048 + 1 * k.val = k.val; omega
  | ⟨1, _⟩ => show win0_4.index t (1 : Fin 2) * 2048 + 1 * q.val = q.val; omega

/-- A gain of 768 as a matrix of one row. -/
theorem asRow768 (v : S768.Idx → EReal) (h : S768.ShapeCasts S1x768) (q : Fin 768) : shapeCast S1x768 v h (ix2 (0 : Fin 1) q) = v (ix1 q) :=
  shapeCast_apply v h _ _ (by
    rw [Shape.rowMajor_val_two, Shape.rowMajor_val_one]
    show q.val = 0 * 768 + q.val
    omega)

/-- A gain of 2048 as a matrix of one row. -/
theorem asRow2048 (v : S2048.Idx → EReal) (h : S2048.ShapeCasts S1x2048) (q : Fin 2048) : shapeCast S1x2048 v h (ix2 (0 : Fin 1) q) = v (ix1 q) :=
  shapeCast_apply v h _ _ (by
    rw [Shape.rowMajor_val_two, Shape.rowMajor_val_one]
    show q.val = 0 * 2048 + q.val
    omega)

theorem read5 (c : Dev nD) (t : Fin cfg0.N) (q : Fin 768) :
    (iblk m c 5 t : Vec Ideal S1x768 .f32) (ix2 (0 : Fin 1) q) = m ((c.tc : Thread nD τ).loc main_arg5) (ix1 q) := by
  obtain ⟨e0, e1⟩ := at5 t
  show V m c main_v0 (((cfg0.win 5).blk t).view.emb (ix2 (0 : Fin 1) q)) = _
  have e : ((cfg0.win 5).blk t).view.emb (ix2 (0 : Fin 1) q) = (ix2 (0 : Fin 1) q : S1x768.Idx) := by
    funext i; apply Fin.ext
    match i with
    | ⟨0, _⟩ => show win0_5.index t (0 : Fin 2) * 1 + 1 * 0 = 0; omega
    | ⟨1, _⟩ => show win0_5.index t (1 : Fin 2) * 768 + 1 * q.val = q.val; omega
  rw [e]
  entry_read
  exact asRow768 _ _ q

theorem read6 (c : Dev nD) (t : Fin cfg0.N) (q : Fin 768) :
    (iblk m c 6 t : Vec Ideal S1x768 .f32) (ix2 (0 : Fin 1) q) = m ((c.tc : Thread nD τ).loc main_arg6) (ix1 q) := by
  obtain ⟨e0, e1⟩ := at6 t
  show V m c main_v1 (((cfg0.win 6).blk t).view.emb (ix2 (0 : Fin 1) q)) = _
  have e : ((cfg0.win 6).blk t).view.emb (ix2 (0 : Fin 1) q) = (ix2 (0 : Fin 1) q : S1x768.Idx) := by
    funext i; apply Fin.ext
    match i with
    | ⟨0, _⟩ => show win0_6.index t (0 : Fin 2) * 1 + 1 * 0 = 0; omega
    | ⟨1, _⟩ => show win0_6.index t (1 : Fin 2) * 768 + 1 * q.val = q.val; omega
  rw [e]
  entry_read
  exact asRow768 _ _ q

theorem read7 (c : Dev nD) (t : Fin cfg0.N) (q : Fin 2048) :
    (iblk m c 7 t : Vec Ideal S1x2048 .f32) (ix2 (0 : Fin 1) q) = m ((c.tc : Thread nD τ).loc main_arg7) (ix1 q) := by
  obtain ⟨e0, e1⟩ := at7 t
  show V m c main_v2 (((cfg0.win 7).blk t).view.emb (ix2 (0 : Fin 1) q)) = _
  have e : ((cfg0.win 7).blk t).view.emb (ix2 (0 : Fin 1) q) = (ix2 (0 : Fin 1) q : S1x2048.Idx) := by
    funext i; apply Fin.ext
    match i with
    | ⟨0, _⟩ => show win0_7.index t (0 : Fin 2) * 1 + 1 * 0 = 0; omega
    | ⟨1, _⟩ => show win0_7.index t (1 : Fin 2) * 2048 + 1 * q.val = q.val; omega
  rw [e]
  entry_read
  exact asRow2048 _ _ q

theorem read8 (c : Dev nD) (t : Fin cfg0.N) (q : Fin 2048) :
    (iblk m c 8 t : Vec Ideal S1x2048 .f32) (ix2 (0 : Fin 1) q) = m ((c.tc : Thread nD τ).loc main_arg8) (ix1 q) := by
  obtain ⟨e0, e1⟩ := at8 t
  show V m c main_v3 (((cfg0.win 8).blk t).view.emb (ix2 (0 : Fin 1) q)) = _
  have e : ((cfg0.win 8).blk t).view.emb (ix2 (0 : Fin 1) q) = (ix2 (0 : Fin 1) q : S1x2048.Idx) := by
    funext i; apply Fin.ext
    match i with
    | ⟨0, _⟩ => show win0_8.index t (0 : Fin 2) * 1 + 1 * 0 = 0; omega
    | ⟨1, _⟩ => show win0_8.index t (1 : Fin 2) * 2048 + 1 * q.val = q.val; omega
  rw [e]
  entry_read
  exact asRow2048 _ _ q

/-! The three row ranges of the weights the body loads. -/

theorem rows0 (w : Vec Ideal S2048x2048 .bf16) (k : Fin 512) (q : Fin 2048) :
    (View.ld w r0_3 : Vec Ideal S512x2048 .bf16) (ix2 k q) = w (ix2 (⟨k.val, by omega⟩ : Fin 2048) q) := by
  refine congrArg w (funext fun i => Fin.ext ?_)
  match i with
  | ⟨0, _⟩ => show 0 + 1 * k.val = k.val; omega
  | ⟨1, _⟩ => show 0 + 1 * q.val = q.val; omega

theorem rows1 (w : Vec Ideal S2048x2048 .bf16) (k : Fin 768) (q : Fin 2048) :
    (View.ld w r0_4 : Vec Ideal S768x2048 .bf16) (ix2 k q) = w (ix2 (⟨512 + k.val, by omega⟩ : Fin 2048) q) := by
  refine congrArg w (funext fun i => Fin.ext ?_)
  match i with
  | ⟨0, _⟩ => show 512 + 1 * k.val = 512 + k.val; omega
  | ⟨1, _⟩ => show 0 + 1 * q.val = q.val; omega

theorem rows2 (w : Vec Ideal S2048x2048 .bf16) (k : Fin 768) (q : Fin 2048) :
    (View.ld w r0_5 : Vec Ideal S768x2048 .bf16) (ix2 k q) = w (ix2 (⟨1280 + k.val, by omega⟩ : Fin 2048) q) := by
  refine congrArg w (funext fun i => Fin.ext ?_)
  match i with
  | ⟨0, _⟩ => show 1280 + 1 * k.val = 1280 + k.val; omega
  | ⟨1, _⟩ => show 0 + 1 * q.val = q.val; omega

/-- The product a grid point makes. -/
theorem block_product (c : Dev nD) (t : Fin cfg0.N) (r : Fin 512) (q : Fin 2048) (R : Fin 32768) (hR : R.val = 512 * t.val + r.val) :
    k0_pay3 (F := Ideal) (iblk m c 0 t) (View.ld (iblk m c 4 t) r0_3) (ix2 r q)
        + dot (M := 512) (K := 768) (N := 2048) (k0_pay1 (F := Ideal) (iblk m c 1 t) (iblk m c 5 t)) (View.ld (iblk m c 4 t) r0_4) r q
        + dot (M := 512) (K := 768) (N := 2048) (k0_pay2 (F := Ideal) (iblk m c 2 t) (iblk m c 6 t)) (View.ld (iblk m c 4 t) r0_5) r q
      = product (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6)) R q := by
  rw [pay3_apply]
  refine congrArg₂ (· + ·) (congrArg₂ (· + ·) ?_ ?_) ?_
  · exact Finset.sum_congr rfl fun k _ => congrArg₂ (· * ·) (read0 m c t r k R hR) ((rows0 _ k q).trans (read4 m c t _ q))
  · refine Finset.sum_congr rfl fun k _ => congrArg₂ (· * ·) ?_ ((rows1 _ k q).trans (read4 m c t _ q))
    rw [pay1_apply, read5 m c t k]
    exact congrArg (fun y => rms768 y _ k) (funext fun l => read1 m c t r l R hR)
  · refine Finset.sum_congr rfl fun k _ => congrArg₂ (· * ·) ?_ ((rows2 _ k q).trans (read4 m c t _ q))
    rw [pay2_apply, read6 m c t k]
    exact congrArg (fun y => rms768 y _ k) (funext fun l => read2 m c t r l R hR)

/-- The stream's entries at a grid point. -/
theorem value (c : Dev nD) (t : Fin cfg0.N) (r : Fin 512) (q : Fin 2048) (R : Fin 32768) (hR : R.val = 512 * t.val + r.val) :
    k0_pay4 (F := Ideal) (k0_pay1 (iblk m c 1 t) (iblk m c 5 t)) (k0_pay2 (iblk m c 2 t) (iblk m c 6 t)) (k0_pay3 (iblk m c 0 t) (View.ld (iblk m c 4 t) r0_3))
        (View.ld (iblk m c 4 t) r0_4) (View.ld (iblk m c 4 t) r0_5) (iblk m c 3 t) (iblk m c 7 t) (ix2 r q)
      = stream (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (ix2 R q) := by
  rw [pay4_apply, read3 m c t r q R hR, read7 m c t q]
  exact congrArg (fun y => _ + rms y _ q) (funext fun k => block_product m c t r k R hR)

/-- What a grid point writes back is its block of the result. -/
theorem flushed_stream (c : Dev nD) (t : Fin cfg0.N) :
    (dats m 0 c).flushed 9 t = ((cfg0.win 9).blk t).view.read (Elt Ideal)
      (stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        : Buf (Elt Ideal) ((c.tc : Thread nD τ).loc main_v4_0)) := by
  have ht : t.val < 64 := count ▸ t.isLt
  obtain ⟨e0, e1⟩ := at9 t
  rw [Value.flushed9, out_stream]
  refine funext fun (y : S512x2048.Idx) => ?_
  obtain ⟨r, q, rfl⟩ : ∃ (r : Fin 512) (q : Fin 2048), y = ix2 r q := ⟨y 0, y 1, Shape.idx_ext₂ rfl rfl⟩
  have h0 := r.isLt
  have e : ((cfg0.win 9).blk t).view.emb (ix2 r q) = (ix2 (⟨512 * t.val + r.val, by omega⟩ : Fin 32768) q : S32768x2048.Idx) := by
    funext i; apply Fin.ext
    match i with
    | ⟨0, _⟩ => show win0_9.index t (0 : Fin 2) * 512 + 1 * r.val = 512 * t.val + r.val; omega
    | ⟨1, _⟩ => show win0_9.index t (1 : Fin 2) * 2048 + 1 * q.val = q.val; omega
  show k0_pay4 (F := Ideal) (k0_pay1 (iblk m c 1 t) (iblk m c 5 t)) (k0_pay2 (iblk m c 2 t) (iblk m c 6 t)) (k0_pay3 (iblk m c 0 t) (View.ld (iblk m c 4 t) r0_3))
      (View.ld (iblk m c 4 t) r0_4) (View.ld (iblk m c 4 t) r0_5) (iblk m c 3 t) (iblk m c 7 t) (ix2 r q)
    = stream _ _ _ _ _ _ _ _ (((cfg0.win 9).blk t).view.emb (ix2 r q))
  rw [e]
  exact value m c t r q _ rfl

/-- Every entry of the result is written by some grid point. -/
theorem covered_stream (i : S32768x2048.Idx) : ∃ t : Fin cfg0.N, (cfg0.win 9).flush t = true ∧ i ∈ ((cfg0.win 9).blk t).view.set := by
  have h0 : (i 0).val < 32768 := (i 0).isLt
  have h1 : (i 1).val < 2048 := (i 1).isLt
  have hN := count
  obtain ⟨t, ht⟩ : ∃ t : Fin cfg0.N, t.val = (i 0).val / 512 := ⟨⟨(i 0).val / 512, by omega⟩, rfl⟩
  refine ⟨t, flush0_9 t, ?_⟩
  obtain ⟨e0, e1⟩ := at9 t
  show i ∈ ((View.whole main_v4_0).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    omega
  | ⟨1, _⟩ =>
    show win0_9.index t (1 : Fin 2) * 2048 ≤ (i 1).val ∧ (i 1).val < win0_9.index t (1 : Fin 2) * 2048 + 2048
    omega

/-- The result array after the run. -/
theorem final_stream (c : Dev nD) : (dats m 0 c).arrAt 9 cfg0.N
    = stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (dats m 0 c).arrAt_eq_of_cover 9 _ (fun t _ => flushed_stream m c t) covered_stream

/-- What a grid point writes back is its block of the result. -/
theorem flushed_next (c : Dev nD) (t : Fin cfg0.N) :
    (dats m 0 c).flushed 10 t = ((cfg0.win 10).blk t).view.read (Elt Ideal)
      (next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        : Buf (Elt Ideal) ((c.tc : Thread nD τ).loc main_v4_1)) := by
  have ht : t.val < 64 := count ▸ t.isLt
  obtain ⟨e0, e1⟩ := at10 t
  rw [Value.flushed10, out_next]
  refine funext fun (y : S512x2048.Idx) => ?_
  obtain ⟨r, q, rfl⟩ : ∃ (r : Fin 512) (q : Fin 2048), y = ix2 r q := ⟨y 0, y 1, Shape.idx_ext₂ rfl rfl⟩
  have h0 := r.isLt
  have e : ((cfg0.win 10).blk t).view.emb (ix2 r q) = (ix2 (⟨512 * t.val + r.val, by omega⟩ : Fin 32768) q : S32768x2048.Idx) := by
    funext i; apply Fin.ext
    match i with
    | ⟨0, _⟩ => show win0_10.index t (0 : Fin 2) * 512 + 1 * r.val = 512 * t.val + r.val; omega
    | ⟨1, _⟩ => show win0_10.index t (1 : Fin 2) * 2048 + 1 * q.val = q.val; omega
  show k0_pay5 (F := Ideal) (k0_pay1 (iblk m c 1 t) (iblk m c 5 t)) (k0_pay2 (iblk m c 2 t) (iblk m c 6 t)) (k0_pay3 (iblk m c 0 t) (View.ld (iblk m c 4 t) r0_3))
      (View.ld (iblk m c 4 t) r0_4) (View.ld (iblk m c 4 t) r0_5) (iblk m c 3 t) (iblk m c 7 t) (iblk m c 8 t) (ix2 r q)
    = next _ _ _ _ _ _ _ _ _ (((cfg0.win 10).blk t).view.emb (ix2 r q))
  rw [e, pay5_apply, read8 m c t q]
  exact congrArg (fun y => rms y _ q) (funext fun k => value m c t r k _ rfl)

/-- Every entry of the result is written by some grid point. -/
theorem covered_next (i : S32768x2048.Idx) : ∃ t : Fin cfg0.N, (cfg0.win 10).flush t = true ∧ i ∈ ((cfg0.win 10).blk t).view.set := by
  have h0 : (i 0).val < 32768 := (i 0).isLt
  have h1 : (i 1).val < 2048 := (i 1).isLt
  have hN := count
  obtain ⟨t, ht⟩ : ∃ t : Fin cfg0.N, t.val = (i 0).val / 512 := ⟨⟨(i 0).val / 512, by omega⟩, rfl⟩
  refine ⟨t, flush0_10 t, ?_⟩
  obtain ⟨e0, e1⟩ := at10 t
  show i ∈ ((View.whole main_v4_1).slice (win0_10.rect t)).set
  rw [View.set_slice_whole, Rect.mem_set_unit]
  intro a
  match a with
  | ⟨0, _⟩ =>
    show win0_10.index t (0 : Fin 2) * 512 ≤ (i 0).val ∧ (i 0).val < win0_10.index t (0 : Fin 2) * 512 + 512
    omega
  | ⟨1, _⟩ =>
    show win0_10.index t (1 : Fin 2) * 2048 ≤ (i 1).val ∧ (i 1).val < win0_10.index t (1 : Fin 2) * 2048 + 2048
    omega

/-- The result array after the run. -/
theorem final_next (c : Dev nD) : (dats m 0 c).arrAt 10 cfg0.N
    = next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (dats m 0 c).arrAt_eq_of_cover 10 _ (fun t _ => flushed_next m c t) covered_next

end Kernel

section Reference
open Cert.Reference7Ideal Cert.Reference7Ideal.Read

variable (a : (⟨S32768x512, .bf16⟩ : BufTy).Contents (Elt Ideal)) (b c : (⟨S32768x768, .bf16⟩ : BufTy).Contents (Elt Ideal))
  (x : (⟨S32768x2048, .f32⟩ : BufTy).Contents (Elt Ideal)) (w : (⟨S2048x2048, .bf16⟩ : BufTy).Contents (Elt Ideal))
  (gb gc : (⟨S768, .f32⟩ : BufTy).Contents (Elt Ideal)) (g n : (⟨S2048, .f32⟩ : BufTy).Contents (Elt Ideal))

theorem normed_b (i : S32768x768.Idx) : val_main_v14 (F := Ideal) b gb i = rms768 (fun l => b (ix2 (i 0) l)) (gb (ix1 (i 1))) (i 1) := by
  rw [val_main_v14_apply, val_main_v13_apply, val_main_v12_apply, val_main_v11_apply, val_main_v10_apply, val_main_v9_apply, val_main_v8_apply, val_main_v7_apply, val_main_v6_apply, val_main_cst_1_apply, val_main_v5_apply, val_main_v4_apply, val_main_cst_0_apply, val_main_v3_apply, val_main_v2_apply, val_main_cst_apply, val_main_v0_apply]
  have e : ∑ k : Fin 768, val_main_v1 (F := Ideal) b (idx_main_v2 (idx_main_v3 (idx_main_v9 i)) k)
      = ∑ k : Fin 768, b (ix2 (i 0) k) * b (ix2 (i 0) k) :=
    Finset.sum_congr rfl fun k _ => by
      have ek : idx_main_v2 (idx_main_v3 (idx_main_v9 i)) k = (ix2 (i 0) k : S32768x768.Idx) := Shape.idx_ext₂ rfl rfl
      rw [ek, val_main_v1_apply, val_main_v0_apply]
      rfl
  rw [e]
  show b i * Ideal.rsqrt (Ideal.div (Ideal.ofBits .f32 0x00000000#32 + _) _ + _) * gb _ = _
  rw [Ideal.ofBits_zero_f32, zero_add]
  have eg : (idx_main_v11 (idx_main_v12 i)) = (ix1 (i 1) : S768.Idx) := by
    funext j; apply Fin.ext
    match j with
    | ⟨0, _⟩ => rfl
  have ei : i = (ix2 (i 0) (i 1) : S32768x768.Idx) := Shape.idx_ext₂ rfl rfl
  rw [eg]
  exact congrArg₂ (· * ·) (congrArg₂ (· * ·) (congrArg b ei) rfl) rfl

theorem normed_c (i : S32768x768.Idx) : val_main_v29 (F := Ideal) c gc i = rms768 (fun l => c (ix2 (i 0) l)) (gc (ix1 (i 1))) (i 1) := by
  rw [val_main_v29_apply, val_main_v28_apply, val_main_v27_apply, val_main_v26_apply, val_main_v25_apply, val_main_v24_apply, val_main_v23_apply, val_main_v22_apply, val_main_v21_apply, val_main_cst_4_apply, val_main_v20_apply, val_main_v19_apply, val_main_cst_3_apply, val_main_v18_apply, val_main_v17_apply, val_main_cst_2_apply, val_main_v15_apply]
  have e : ∑ k : Fin 768, val_main_v16 (F := Ideal) c (idx_main_v17 (idx_main_v18 (idx_main_v24 i)) k)
      = ∑ k : Fin 768, c (ix2 (i 0) k) * c (ix2 (i 0) k) :=
    Finset.sum_congr rfl fun k _ => by
      have ek : idx_main_v17 (idx_main_v18 (idx_main_v24 i)) k = (ix2 (i 0) k : S32768x768.Idx) := Shape.idx_ext₂ rfl rfl
      rw [ek, val_main_v16_apply, val_main_v15_apply]
      rfl
  rw [e]
  show c i * Ideal.rsqrt (Ideal.div (Ideal.ofBits .f32 0x00000000#32 + _) _ + _) * gc _ = _
  rw [Ideal.ofBits_zero_f32, zero_add]
  have eg : (idx_main_v26 (idx_main_v27 i)) = (ix1 (i 1) : S768.Idx) := by
    funext j; apply Fin.ext
    match j with
    | ⟨0, _⟩ => rfl
  have ei : i = (ix2 (i 0) (i 1) : S32768x768.Idx) := Shape.idx_ext₂ rfl rfl
  rw [eg]
  exact congrArg₂ (· * ·) (congrArg₂ (· * ·) (congrArg c ei) rfl) rfl

/-! The three parts of a concatenated row. -/

theorem part0 (R : Fin 32768) (k : Fin 512) (K : Fin 2048) (h : K.val = k.val) :
    val_main_v30 (F := Ideal) a b c gb gc (ix2 R K) = a (ix2 R k) := by
  unfold val_main_v30
  refine concatenate_apply_piece (t := S32768x2048) 1 [⟨S32768x512, a⟩, ⟨S32768x768, val_main_v14 (F := Ideal) b gb⟩, ⟨S32768x768, val_main_v29 (F := Ideal) c gc⟩]
    Gen.concatenates_S32768x512_S32768x768_S32768x768_S32768x2048_d1 (ix2 R K) 0 (show 0 < 3 by omega) S32768x512 a rfl rfl 0 rfl (ix2 R k) (fun d hd => ?_) ?_
  · match d with
    | ⟨0, _⟩ => rfl
    | ⟨1, _⟩ => exact absurd rfl hd
  · show 0 + k.val = K.val; omega

theorem part1 (R : Fin 32768) (k : Fin 768) (K : Fin 2048) (h : K.val = 512 + k.val) :
    val_main_v30 (F := Ideal) a b c gb gc (ix2 R K) = rms768 (fun l => b (ix2 R l)) (gb (ix1 k)) k := by
  unfold val_main_v30
  refine (concatenate_apply_piece (t := S32768x2048) 1 [⟨S32768x512, a⟩, ⟨S32768x768, val_main_v14 (F := Ideal) b gb⟩, ⟨S32768x768, val_main_v29 (F := Ideal) c gc⟩]
    Gen.concatenates_S32768x512_S32768x768_S32768x768_S32768x2048_d1 (ix2 R K) 1 (show 1 < 3 by omega) S32768x768 (val_main_v14 (F := Ideal) b gb) rfl rfl 512 rfl (ix2 R k) (fun d hd => ?_) ?_).trans
    (normed_b b gb (ix2 R k))
  · match d with
    | ⟨0, _⟩ => rfl
    | ⟨1, _⟩ => exact absurd rfl hd
  · show 512 + k.val = K.val; omega

theorem part2 (R : Fin 32768) (k : Fin 768) (K : Fin 2048) (h : K.val = 1280 + k.val) :
    val_main_v30 (F := Ideal) a b c gb gc (ix2 R K) = rms768 (fun l => c (ix2 R l)) (gc (ix1 k)) k := by
  unfold val_main_v30
  refine (concatenate_apply_piece (t := S32768x2048) 1 [⟨S32768x512, a⟩, ⟨S32768x768, val_main_v14 (F := Ideal) b gb⟩, ⟨S32768x768, val_main_v29 (F := Ideal) c gc⟩]
    Gen.concatenates_S32768x512_S32768x768_S32768x768_S32768x2048_d1 (ix2 R K) 2 (show 2 < 3 by omega) S32768x768 (val_main_v29 (F := Ideal) c gc) rfl rfl 1280 rfl (ix2 R k) (fun d hd => ?_) ?_).trans
    (normed_c c gc (ix2 R k))
  · match d with
    | ⟨0, _⟩ => rfl
    | ⟨1, _⟩ => exact absurd rfl hd
  · show 1280 + k.val = K.val; omega

theorem product_eq (i : S32768x2048.Idx) : val_main_v31 (F := Ideal) a b c w gb gc i = product a b c w gb gc (i 0) (i 1) := by
  have e : ∀ f : Fin 2048 → EReal, ∑ k, f k = (∑ k : Fin 512, f ⟨k.val, by omega⟩) + (∑ k : Fin 768, f ⟨512 + k.val, by omega⟩)
      + ∑ k : Fin 768, f ⟨1280 + k.val, by omega⟩ := fun f =>
    (Fin.sum_univ_add (M := EReal) (a := 1280) (b := 768) fun k : Fin (1280 + 768) => f k).trans
      (congrArg (· + _) (Fin.sum_univ_add (M := EReal) (a := 512) (b := 768) fun k : Fin (512 + 768) => f ⟨k.val, by omega⟩))
  rw [val_main_v31_apply, e]
  have el : ∀ k : Fin 2048, lidx_main_v31 i k = (ix2 (i 0) k : S32768x2048.Idx) := fun k => Shape.idx_ext₂ rfl rfl
  have er : ∀ k : Fin 2048, ridx_main_v31 i k = (ix2 k (i 1) : S2048x2048.Idx) := fun k => Shape.idx_ext₂ rfl rfl
  refine congrArg₂ (· + ·) (congrArg₂ (· + ·) ?_ ?_) ?_
  · exact Finset.sum_congr rfl fun k _ => by rw [el, er]; exact congrArg (· * _) (part0 a b c gb gc (i 0) k _ rfl)
  · exact Finset.sum_congr rfl fun k _ => by rw [el, er]; exact congrArg (· * _) (part1 a b c gb gc (i 0) k _ rfl)
  · exact Finset.sum_congr rfl fun k _ => by rw [el, er]; exact congrArg (· * _) (part2 a b c gb gc (i 0) k _ rfl)

/-- The reference's residual stream. -/
theorem reference_stream : val_main_v45 (F := Ideal) a b c x w gb gc g = stream a b c x w gb gc g := by
  funext i
  rw [val_main_v45_apply, val_main_v44_apply, val_main_v43_apply, val_main_v42_apply, val_main_v41_apply, val_main_v40_apply,
    val_main_v39_apply, val_main_v38_apply, val_main_v37_apply, val_main_cst_7_apply, val_main_v36_apply, val_main_v35_apply,
    val_main_cst_6_apply, val_main_v34_apply, val_main_v33_apply, val_main_cst_5_apply, product_eq]
  have e : ∑ k : Fin 2048, val_main_v32 (F := Ideal) a b c w gb gc (idx_main_v33 (idx_main_v34 (idx_main_v40 i)) k)
      = ∑ k : Fin 2048, product a b c w gb gc (i 0) k * product a b c w gb gc (i 0) k :=
    Finset.sum_congr rfl fun k _ => by
      rw [val_main_v32_apply, product_eq]
      rfl
  rw [e]
  show x i + _ * Ideal.rsqrt (Ideal.div (Ideal.ofBits .f32 0x00000000#32 + _) _ + _) * g _ = _
  rw [Ideal.ofBits_zero_f32, zero_add]
  have eg : (idx_main_v42 (idx_main_v43 i)) = (ix1 (i 1) : S2048.Idx) := by
    funext j; apply Fin.ext
    match j with
    | ⟨0, _⟩ => rfl
  rw [eg]
  rfl

/-- The reference's input of the next sub-layer. -/
theorem reference_next : val_main_v59 (F := Ideal) a b c x w gb gc g n = next a b c x w gb gc g n := by
  funext i
  rw [val_main_v59_apply, val_main_v58_apply, val_main_v57_apply, val_main_v56_apply, val_main_v55_apply, val_main_v54_apply,
    val_main_v53_apply, val_main_v52_apply, val_main_v51_apply, val_main_cst_10_apply, val_main_v50_apply, val_main_v49_apply,
    val_main_cst_9_apply, val_main_v48_apply, val_main_v47_apply, val_main_cst_8_apply, reference_stream]
  have e : ∑ k : Fin 2048, val_main_v46 (F := Ideal) a b c x w gb gc g (idx_main_v47 (idx_main_v48 (idx_main_v54 i)) k)
      = ∑ k : Fin 2048, stream a b c x w gb gc g (ix2 (i 0) k) * stream a b c x w gb gc g (ix2 (i 0) k) :=
    Finset.sum_congr rfl fun k _ => by
      rw [val_main_v46_apply, reference_stream]
      have ek : idx_main_v47 (idx_main_v48 (idx_main_v54 i)) k = (ix2 (i 0) k : S32768x2048.Idx) := Shape.idx_ext₂ rfl rfl
      rw [ek]
      rfl
  rw [e]
  show _ * Ideal.rsqrt (Ideal.div (Ideal.ofBits .f32 0x00000000#32 + _) _ + _) * n _ = _
  rw [Ideal.ofBits_zero_f32, zero_add]
  have en : (idx_main_v56 (idx_main_v57 i)) = (ix1 (i 1) : S2048.Idx) := by
    funext j; apply Fin.ext
    match j with
    | ⟨0, _⟩ => rfl
  have ei : i = (ix2 (i 0) (i 1) : S32768x2048.Idx) := Shape.idx_ext₂ rfl rfl
  rw [en]
  exact congrArg₂ (· * ·) (congrArg₂ (· * ·) (congrArg (stream a b c x w gb gc g) ei) rfl) rfl

end Reference

end Cert.Proof.MixOut
-- ==== Proof.CrossAttention.lean ====
module

public import proofs.«01_k».proof.Proof.FfnDown.Point
public import Idealize.ShloMosaic.Lib.Claim
public import proofs.«01_k».proof.Proof.Gen.Kernel8Ideal.Value
public import proofs.«01_k».proof.Proof.Gen.Kernel8Ideal.Points
public import proofs.«01_k».proof.Proof.Gen.Reference8Ideal.Run
public import proofs.«01_k».proof.Proof.Gen.Reference8Ideal.Read
public import Idealize.ShloMosaic.Lib.MatmulPlain
public import Idealize.ShloMosaic.Lib.Pipeline.Value

/-!
The cross attention: both arrays the kernel leaves, and the reference's, are the residual stream plus the normalized product of the
four heads' outputs with the weights, and the next sub-layer's normalized input made of it. The kernel divides a head's output by the sum
of the exponentials, the reference divides each of the exponentials; both are the same where the scores are real numbers.
-/

@[expose] public section
set_option maxRecDepth 16384
noncomputable section
namespace Cert.Proof.CrossAttention
open Cert.Proof.Layer
open Cert.Proof.FfnDown (norm norm_apply)
open Idealize.ShloMosaic Idealize.ShloMosaic.TcCoe Idealize.ShloMosaic.ValueIdx Idealize.SL Idealize.SL.Sem
open Idealize.ShloMosaic.Pipeline (Dat)
open scoped BigOperators

/-! Sums and quotients over the extended reals. -/

/-- A nonnegative finite factor comes out of a sum. -/
theorem sum_mul {ι : Type*} [Fintype ι] (f : ι → EReal) {c : EReal} (h0 : 0 ≤ c) (ht : c ≠ ⊤) : ∑ i, f i * c = (∑ i, f i) * c := by
  classical
  have h : ∀ s : Finset ι, ∑ i ∈ s, f i * c = (∑ i ∈ s, f i) * c := fun s => by
    induction s using Finset.induction_on with
    | empty => simp
    | insert a s ha ih => rw [Finset.sum_insert ha, Finset.sum_insert ha, ih, EReal.right_distrib_of_nonneg_of_ne_top h0 ht]
  exact h _

/-- A real number among the extended reals. -/
def Real (x : EReal) : Prop := ∃ r : ℝ, x = (r : EReal)

theorem Real.mul {x y : EReal} (hx : Real x) (hy : Real y) : Real (x * y) := by
  obtain ⟨a, rfl⟩ := hx
  obtain ⟨b, rfl⟩ := hy
  exact ⟨a * b, (EReal.coe_mul a b).symm⟩

theorem Real.sum {ι : Type*} [Fintype ι] (f : ι → EReal) (h : ∀ i, Real (f i)) : Real (∑ i, f i) := by
  classical
  have hs : ∀ s : Finset ι, Real (∑ i ∈ s, f i) := fun s => by
    induction s using Finset.induction_on with
    | empty => exact ⟨0, by simp⟩
    | insert a s ha ih =>
      rw [Finset.sum_insert ha]
      obtain ⟨a, ea⟩ := h a
      obtain ⟨b, eb⟩ := ih
      exact ⟨a + b, by rw [ea, eb, EReal.coe_add]⟩
  exact hs _

theorem exp_nonneg (x : EReal) : 0 ≤ Ideal.exp x := by
  induction x using EReal.rec with
  | bot => exact le_rfl
  | top => exact le_top
  | coe r => exact EReal.coe_nonneg.2 (Real.exp_pos r).le

theorem bottom : Ideal.ofBits .f32 0xFF800000#32 = ⊥ := by simp [Ideal.ofBits, Ideal.ieee]

/-- The scale of the scores. -/
def scale : EReal := Ideal.ofBits .f32 0x3DB504F3#32

theorem scale_real : ∃ r : ℝ, 0 ≤ r ∧ scale = (r : EReal) := by
  refine ⟨_, ?_, rfl⟩
  simp [Ideal.ieee]
  try positivity

/-- The greatest of a row of scores. -/
def top (s : Fin 256 → EReal) : EReal := (Finset.univ : Finset (Fin 256)).fold max (Ideal.ofBits .f32 0xFF800000#32) s

/-- A row of values weighted by the softmax of the row of scores `s`, divided at the end. -/
def attend (s v : Fin 256 → EReal) : EReal :=
  Ideal.div (∑ m, Ideal.exp (s m - top s) * v m) (∑ m, Ideal.exp (s m - top s))

theorem top_real (s : Fin 256 → EReal) (hs : ∀ m, Real (s m)) : Real (top s) := by
  have h1 : top s < ⊤ := (Finset.fold_max_lt _).2 ⟨by rw [bottom]; exact bot_lt_top, fun m _ => by
    obtain ⟨r, e⟩ := hs m
    rw [e]; exact EReal.coe_lt_top r⟩
  have h2 : ⊥ < top s := (Finset.lt_fold_max _).2 (.inr ⟨0, Finset.mem_univ _, by
    obtain ⟨r, e⟩ := hs 0
    rw [e]; exact EReal.bot_lt_coe r⟩)
  exact ⟨(top s).toReal, (EReal.coe_toReal h1.ne h2.ne').symm⟩

/-- Dividing each weight gives the same as dividing at the end, the scores being real numbers. -/
theorem attend_eq (s v : Fin 256 → EReal) (hs : ∀ m, Real (s m)) :
    ∑ m, v m * Ideal.div (Ideal.exp (s m - top s)) (∑ k, Ideal.exp (s k - top s)) = attend s v := by
  have hL : ∑ k, Ideal.exp (s k - top s) ≠ 0 := by
    obtain ⟨t, et⟩ := top_real s hs
    obtain ⟨r, er⟩ := hs 0
    have h0 : 0 < Ideal.exp (s 0 - top s) := by
      rw [et, er, ← EReal.coe_sub]
      exact EReal.coe_pos.2 (Real.exp_pos _)
    exact (h0.trans_le (Finset.single_le_sum (f := fun k => Ideal.exp (s k - top s)) (fun k _ => exp_nonneg _) (Finset.mem_univ 0))).ne'
  have h0 : 0 ≤ ∑ k, Ideal.exp (s k - top s) := Finset.sum_nonneg fun k _ => exp_nonneg _
  unfold attend
  generalize ∑ k, Ideal.exp (s k - top s) = L at hL h0 ⊢
  have hd : ∀ x, Ideal.div x L = x * L⁻¹ := fun x => if_neg hL
  rw [hd, ← sum_mul _ (EReal.inv_nonneg_of_nonneg h0) (EReal.inv_lt_top L).ne]
  refine Finset.sum_congr rfl fun m _ => ?_
  rw [hd, ← mul_assoc, mul_comm (v m)]

/-! The cross attention. -/

/-- The score of row `R` for key `m` of its sequence, in head `hd`. -/
def score (h : (⟨2, ![32768, 2048]⟩ : Shape).Idx → EReal) (kv : (⟨2, ![4096, 1024]⟩ : Shape).Idx → EReal)
    (wq : (⟨2, ![2048, 512]⟩ : Shape).Idx → EReal) (R : Fin 32768) (hd : Fin 4) (m : Fin 256) : EReal :=
  ∑ e : Fin 128, dot h wq R (⟨128 * hd.val + e.val, by omega⟩ : Fin 512) * scale
    * kv (ix2 (⟨256 * (R.val / 2048) + m.val, by omega⟩ : Fin 4096) (⟨128 * hd.val + e.val, by omega⟩ : Fin 1024))

/-- Entry `d` of head `hd`'s output for row `R`. -/
def head (h : (⟨2, ![32768, 2048]⟩ : Shape).Idx → EReal) (kv : (⟨2, ![4096, 1024]⟩ : Shape).Idx → EReal)
    (wq : (⟨2, ![2048, 512]⟩ : Shape).Idx → EReal) (R : Fin 32768) (hd : Fin 4) (d : Fin 128) : EReal :=
  attend (score h kv wq R hd) fun m =>
    kv (ix2 (⟨256 * (R.val / 2048) + m.val, by omega⟩ : Fin 4096) (⟨512 + 128 * hd.val + d.val, by omega⟩ : Fin 1024))

/-- The four heads' outputs times the weights. -/
def product (h : (⟨2, ![32768, 2048]⟩ : Shape).Idx → EReal) (kv : (⟨2, ![4096, 1024]⟩ : Shape).Idx → EReal)
    (wq : (⟨2, ![2048, 512]⟩ : Shape).Idx → EReal) (wo : (⟨2, ![512, 2048]⟩ : Shape).Idx → EReal) (R : Fin 32768) (c : Fin 2048) : EReal :=
  ∑ j : Fin 512, head h kv wq R (⟨j.val / 128, by omega⟩ : Fin 4) (⟨j.val % 128, by omega⟩ : Fin 128) * wo (ix2 j c)

/-- The residual stream after the cross attention. -/
def stream (h x : (⟨2, ![32768, 2048]⟩ : Shape).Idx → EReal) (kv : (⟨2, ![4096, 1024]⟩ : Shape).Idx → EReal)
    (wq : (⟨2, ![2048, 512]⟩ : Shape).Idx → EReal) (wo : (⟨2, ![512, 2048]⟩ : Shape).Idx → EReal) (g : (⟨1, ![2048]⟩ : Shape).Idx → EReal) :
    (⟨2, ![32768, 2048]⟩ : Shape).Idx → EReal :=
  fun i => x i + rms (fun k => product h kv wq wo (i 0) k) (g (ix1 (i 1))) (i 1)

/-- The next sub-layer's normalized input. -/
def next (h x : (⟨2, ![32768, 2048]⟩ : Shape).Idx → EReal) (kv : (⟨2, ![4096, 1024]⟩ : Shape).Idx → EReal)
    (wq : (⟨2, ![2048, 512]⟩ : Shape).Idx → EReal) (wo : (⟨2, ![512, 2048]⟩ : Shape).Idx → EReal) (g n : (⟨1, ![2048]⟩ : Shape).Idx → EReal) :
    (⟨2, ![32768, 2048]⟩ : Shape).Idx → EReal :=
  fun i => rms (fun k => stream h x kv wq wo g (ix2 (i 0) k)) (n (ix1 (i 1))) (i 1)

section Kernel
open Cert.Kernel8Ideal Cert.Kernel8Ideal.Gen

theorem zz : (![0, 0] : Fin 2 → ℕ) = fun _ => 0 := by funext a; fin_cases a <;> rfl

theorem pay3_apply (a : Vec Ideal S512x2048 .bf16) (w : Vec Ideal S2048x512 .bf16) (r : Fin 512) (c : Fin 512) :
    k0_pay3 (F := Ideal) a w (ix2 r c) = dot (M := 512) (K := 2048) (N := 512) a w r c * scale := by
  unfold k0_pay3
  show matmul (F := Ideal) _ none _ _ _ (ix2 r c) * _ = _
  refine congrArg (· * scale) ((Ideal.matmul_plain_apply (M := 512) (K := 2048) (N := 512) none _ _ _ r c).trans ?_)
  rw [constant_apply, Ideal.ofBits_zero_f32, zero_add]
  rfl

/-- The exponentials of a block of scores, as the kernel writes them. -/
def weights (s : FVec Ideal S512x256 .f32) : FVec Ideal S512x256 .f32 :=
  exp (subf s (broadcastTo S512x256 (shapeCast S512x1
    (multiReduction .maximumf [1] S512 s 0xFF800000#32 reduces_S512x256_S512 (.inl rfl) rfl) shapeCasts_S512_S512x1) broadcasts_S512x1_S512x256))

theorem column (v : FVec Ideal S512 .f32) (r : Fin 512) : shapeCast S512x1 v shapeCasts_S512_S512x1 (ix2 r (0 : Fin 1)) = v (ix1 r) :=
  shapeCast_apply v _ _ _ (by
    rw [Shape.rowMajor_val_two, Shape.rowMajor_val_one]
    show r.val = r.val * 1 + 0
    omega)

theorem weights_apply (s : FVec Ideal S512x256 .f32) (r : Fin 512) (k : Fin 256) :
    weights s (ix2 r k) = Ideal.exp (s (ix2 r k) - top fun l => s (ix2 r l)) := by
  have es : ∀ v : FVec Ideal S512x1 .f32, broadcastTo S512x256 v broadcasts_S512x1_S512x256 (ix2 r k) = v (ix2 r (0 : Fin 1)) := fun v =>
    broadcastTo_apply v _ _ _ fun a => match a with
      | ⟨0, _⟩ => rfl
      | ⟨1, _⟩ => rfl
  have em : multiReduction .maximumf [1] S512 s 0xFF800000#32 reduces_S512x256_S512 (.inl rfl) rfl (ix1 r)
      = top fun l => s (ix2 r l) :=
    (Ideal.multiReduction_maximumf_single s _ reduces_S512x256_S512 (.inl rfl) rfl (ix1 r)).trans
      (congrArg (fun f => (Finset.univ : Finset (Fin 256)).fold max (Ideal.ofBits .f32 0xFF800000#32) f)
        (funext fun l => congrArg s (Shape.idx_ext₂ rfl rfl)))
  unfold weights
  show Ideal.exp (s (ix2 r k) - broadcastTo S512x256 _ broadcasts_S512x1_S512x256 (ix2 r k)) = _
  rw [es, column, em]

/-- The scores of a block, as the kernel writes them. -/
def scores (q : FVec Ideal S512x128 .bf16) (k : Vec Ideal S256x128 .bf16) : FVec Ideal S512x256 .f32 :=
  matmul (F := Ideal) (φ₁ := .bf16) (φ₂ := .bf16) dot_S512x128_S256x128_S512x256_1_1_0_0_n_n none q k (constant S512x256 .f32 0x00000000#32)

theorem scores_apply (q : FVec Ideal S512x128 .bf16) (k : Vec Ideal S256x128 .bf16) (r : Fin 512) (m : Fin 256) :
    scores q k (ix2 r m) = ∑ e : Fin 128, q (ix2 r e) * k (ix2 m e) := by
  unfold scores
  refine (Ideal.matmul_transposedRhs_apply (M := 512) (K := 128) (N := 256) none _ _ _ r m).trans ?_
  rw [constant_apply, Ideal.ofBits_zero_f32, zero_add]

/-- A head's output of a block, as the kernel writes it. -/
def headOf (q : FVec Ideal S512x128 .bf16) (k v : Vec Ideal S256x128 .bf16) : FVec Ideal S512x128 .bf16 :=
  truncf .bf16 (divf
    (matmul (F := Ideal) (φ₁ := .bf16) (φ₂ := .bf16) dot_S512x256_S256x128_S512x128_1_0_0_1_n_n none
      (truncf .bf16 (weights (scores q k)) bitsLt_bf16_f32) v (constant S512x128 .f32 0x00000000#32))
    (broadcastTo S512x128 (shapeCast S512x1
      (multiReduction .add [1] S512 (weights (scores q k)) 0x00000000#32 reduces_S512x256_S512 (.inl rfl) rfl) shapeCasts_S512_S512x1)
      broadcasts_S512x1_S512x128)) bitsLt_bf16_f32

theorem headOf_apply (q : FVec Ideal S512x128 .bf16) (k v : Vec Ideal S256x128 .bf16) (r : Fin 512) (d : Fin 128) :
    headOf q k v (ix2 r d) = attend (fun m => ∑ e : Fin 128, q (ix2 r e) * k (ix2 m e)) fun m => v (ix2 m d) := by
  have es : ∀ v : FVec Ideal S512x1 .f32, broadcastTo S512x128 v broadcasts_S512x1_S512x128 (ix2 r d) = v (ix2 r (0 : Fin 1)) := fun v =>
    broadcastTo_apply v _ _ _ fun a => match a with
      | ⟨0, _⟩ => rfl
      | ⟨1, _⟩ => rfl
  have em : ∀ v : FVec Ideal S512x256 .f32, multiReduction .add [1] S512 v 0x00000000#32 reduces_S512x256_S512 (.inl rfl) rfl (ix1 r)
      = ∑ k : Fin 256, v (ix2 r k) := fun v =>
    (Ideal.multiReduction_add_single v _ reduces_S512x256_S512 (.inl rfl) rfl (ix1 r)).trans
      (Finset.sum_congr rfl fun k _ => congrArg v (Shape.idx_ext₂ rfl rfl))
  have hs : (fun m => scores q k (ix2 r m)) = fun m => ∑ e : Fin 128, q (ix2 r e) * k (ix2 m e) := funext fun m => scores_apply q k r m
  unfold headOf
  rw [truncf_apply]
  show Ideal.div (matmul (F := Ideal) (φ₁ := .bf16) (φ₂ := .bf16) dot_S512x256_S256x128_S512x128_1_0_0_1_n_n none
      (truncf .bf16 (weights (scores q k)) bitsLt_bf16_f32) v (constant S512x128 .f32 0x00000000#32) (ix2 r d))
    (broadcastTo S512x128 _ broadcasts_S512x1_S512x128 (ix2 r d)) = _
  rw [es, column, em]
  unfold attend
  rw [← hs]
  refine congrArg₂ Ideal.div ?_ (Finset.sum_congr rfl fun m _ => weights_apply _ r m)
  refine (Ideal.matmul_plain_apply (M := 512) (K := 256) (N := 128) none _ _ _ r d).trans ?_
  rw [constant_apply, Ideal.ofBits_zero_f32, zero_add]
  exact Finset.sum_congr rfl fun m _ => congrArg (· * v (ix2 m d)) (weights_apply _ r m)

/-- The scores of a block's row, from the block's scaled queries and the keys' block. -/
def blockScore (q : FVec Ideal S512x512 .bf16) (kv : Vec Ideal S256x1024 .bf16) (r : Fin 512) (hd : Fin 4) (m : Fin 256) : EReal :=
  ∑ e : Fin 128, q (ix2 r (⟨128 * hd.val + e.val, by omega⟩ : Fin 512)) * kv (ix2 m (⟨128 * hd.val + e.val, by omega⟩ : Fin 1024))

/-- A head's output of a block's row. -/
def blockHead (q : FVec Ideal S512x512 .bf16) (kv : Vec Ideal S256x1024 .bf16) (r : Fin 512) (hd : Fin 4) (d : Fin 128) : EReal :=
  attend (blockScore q kv r hd) fun m => kv (ix2 m (⟨512 + 128 * hd.val + d.val, by omega⟩ : Fin 1024))

/-- The four heads' outputs of a block, side by side. -/
def joined (q : FVec Ideal S512x512 .bf16) (kv : Vec Ideal S256x1024 .bf16) : FVec Ideal S512x512 .bf16 :=
  concatenate S512x512 1 [⟨S512x128, headOf (extractStridedSlice S512x128 ![0, 0] q slices_S512x512_o0_0_S512x128) (View.ld kv r0_2) (View.ld kv r0_3)⟩,
    ⟨S512x128, headOf (extractStridedSlice S512x128 ![0, 128] q slices_S512x512_o0_128_S512x128) (View.ld kv r0_4) (View.ld kv r0_5)⟩,
    ⟨S512x128, headOf (extractStridedSlice S512x128 ![0, 256] q slices_S512x512_o0_256_S512x128) (View.ld kv r0_6) (View.ld kv r0_7)⟩,
    ⟨S512x128, headOf (extractStridedSlice S512x128 ![0, 384] q slices_S512x512_o0_384_S512x128) (View.ld kv r0_8) (View.ld kv r0_9)⟩] concatenates_S512x128_S512x128_S512x128_S512x128_S512x512_d1

theorem piece0 (a b c e : FVec Ideal S512x128 .bf16) (r : Fin 512) (d : Fin 128) (K : Fin 512) (h : K.val = 0 + d.val) :
    concatenate S512x512 1 [⟨S512x128, a⟩, ⟨S512x128, b⟩, ⟨S512x128, c⟩, ⟨S512x128, e⟩]
      concatenates_S512x128_S512x128_S512x128_S512x128_S512x512_d1 (ix2 r K) = a (ix2 r d) := by
  refine concatenate_apply_piece (t := S512x512) 1 [⟨S512x128, a⟩, ⟨S512x128, b⟩, ⟨S512x128, c⟩, ⟨S512x128, e⟩]
    concatenates_S512x128_S512x128_S512x128_S512x128_S512x512_d1 (ix2 r K) 0 (show 0 < 4 by omega) S512x128 a rfl rfl 0 rfl (ix2 r d) (fun a ha => ?_) ?_
  · match a with
    | ⟨0, _⟩ => rfl
    | ⟨1, _⟩ => exact absurd rfl ha
  · show 0 + d.val = K.val; omega

theorem head0 (q : FVec Ideal S512x512 .bf16) (kv : Vec Ideal S256x1024 .bf16) (r : Fin 512) (d : Fin 128) (K : Fin 512) (h : K.val = 0 + d.val) :
    joined q kv (ix2 r K) = blockHead q kv r 0 d := by
  refine (piece0 _ _ _ _ r d K h).trans ?_
  · rw [headOf_apply]
    refine congrArg₂ attend (funext fun m => Finset.sum_congr rfl fun e _ => congrArg₂ (· * ·) (congrArg q ?_) (congrArg kv ?_)) (funext fun m => congrArg kv ?_)
    · refine Shape.idx_ext₂ ?_ ?_
      · show 0 + r.val = r.val; omega
      · show 0 + e.val = 128 * 0 + e.val; omega
    · refine Shape.idx_ext₂ ?_ ?_
      · show 0 + 1 * m.val = m.val; omega
      · show 0 + 1 * e.val = 128 * 0 + e.val; omega
    · refine Shape.idx_ext₂ ?_ ?_
      · show 0 + 1 * m.val = m.val; omega
      · show 512 + 1 * d.val = 512 + 128 * 0 + d.val; omega

theorem piece1 (a b c e : FVec Ideal S512x128 .bf16) (r : Fin 512) (d : Fin 128) (K : Fin 512) (h : K.val = 128 + d.val) :
    concatenate S512x512 1 [⟨S512x128, a⟩, ⟨S512x128, b⟩, ⟨S512x128, c⟩, ⟨S512x128, e⟩]
      concatenates_S512x128_S512x128_S512x128_S512x128_S512x512_d1 (ix2 r K) = b (ix2 r d) := by
  refine concatenate_apply_piece (t := S512x512) 1 [⟨S512x128, a⟩, ⟨S512x128, b⟩, ⟨S512x128, c⟩, ⟨S512x128, e⟩]
    concatenates_S512x128_S512x128_S512x128_S512x128_S512x512_d1 (ix2 r K) 1 (show 1 < 4 by omega) S512x128 b rfl rfl 128 rfl (ix2 r d) (fun a ha => ?_) ?_
  · match a with
    | ⟨0, _⟩ => rfl
    | ⟨1, _⟩ => exact absurd rfl ha
  · show 128 + d.val = K.val; omega

theorem head1 (q : FVec Ideal S512x512 .bf16) (kv : Vec Ideal S256x1024 .bf16) (r : Fin 512) (d : Fin 128) (K : Fin 512) (h : K.val = 128 + d.val) :
    joined q kv (ix2 r K) = blockHead q kv r 1 d := by
  refine (piece1 _ _ _ _ r d K h).trans ?_
  · rw [headOf_apply]
    refine congrArg₂ attend (funext fun m => Finset.sum_congr rfl fun e _ => congrArg₂ (· * ·) (congrArg q ?_) (congrArg kv ?_)) (funext fun m => congrArg kv ?_)
    · refine Shape.idx_ext₂ ?_ ?_
      · show 0 + r.val = r.val; omega
      · show 128 + e.val = 128 * 1 + e.val; omega
    · refine Shape.idx_ext₂ ?_ ?_
      · show 0 + 1 * m.val = m.val; omega
      · show 128 + 1 * e.val = 128 * 1 + e.val; omega
    · refine Shape.idx_ext₂ ?_ ?_
      · show 0 + 1 * m.val = m.val; omega
      · show 640 + 1 * d.val = 512 + 128 * 1 + d.val; omega

theorem piece2 (a b c e : FVec Ideal S512x128 .bf16) (r : Fin 512) (d : Fin 128) (K : Fin 512) (h : K.val = 256 + d.val) :
    concatenate S512x512 1 [⟨S512x128, a⟩, ⟨S512x128, b⟩, ⟨S512x128, c⟩, ⟨S512x128, e⟩]
      concatenates_S512x128_S512x128_S512x128_S512x128_S512x512_d1 (ix2 r K) = c (ix2 r d) := by
  refine concatenate_apply_piece (t := S512x512) 1 [⟨S512x128, a⟩, ⟨S512x128, b⟩, ⟨S512x128, c⟩, ⟨S512x128, e⟩]
    concatenates_S512x128_S512x128_S512x128_S512x128_S512x512_d1 (ix2 r K) 2 (show 2 < 4 by omega) S512x128 c rfl rfl 256 rfl (ix2 r d) (fun a ha => ?_) ?_
  · match a with
    | ⟨0, _⟩ => rfl
    | ⟨1, _⟩ => exact absurd rfl ha
  · show 256 + d.val = K.val; omega

theorem head2 (q : FVec Ideal S512x512 .bf16) (kv : Vec Ideal S256x1024 .bf16) (r : Fin 512) (d : Fin 128) (K : Fin 512) (h : K.val = 256 + d.val) :
    joined q kv (ix2 r K) = blockHead q kv r 2 d := by
  refine (piece2 _ _ _ _ r d K h).trans ?_
  · rw [headOf_apply]
    refine congrArg₂ attend (funext fun m => Finset.sum_congr rfl fun e _ => congrArg₂ (· * ·) (congrArg q ?_) (congrArg kv ?_)) (funext fun m => congrArg kv ?_)
    · refine Shape.idx_ext₂ ?_ ?_
      · show 0 + r.val = r.val; omega
      · show 256 + e.val = 128 * 2 + e.val; omega
    · refine Shape.idx_ext₂ ?_ ?_
      · show 0 + 1 * m.val = m.val; omega
      · show 256 + 1 * e.val = 128 * 2 + e.val; omega
    · refine Shape.idx_ext₂ ?_ ?_
      · show 0 + 1 * m.val = m.val; omega
      · show 768 + 1 * d.val = 512 + 128 * 2 + d.val; omega

theorem piece3 (a b c e : FVec Ideal S512x128 .bf16) (r : Fin 512) (d : Fin 128) (K : Fin 512) (h : K.val = 384 + d.val) :
    concatenate S512x512 1 [⟨S512x128, a⟩, ⟨S512x128, b⟩, ⟨S512x128, c⟩, ⟨S512x128, e⟩]
      concatenates_S512x128_S512x128_S512x128_S512x128_S512x512_d1 (ix2 r K) = e (ix2 r d) := by
  refine concatenate_apply_piece (t := S512x512) 1 [⟨S512x128, a⟩, ⟨S512x128, b⟩, ⟨S512x128, c⟩, ⟨S512x128, e⟩]
    concatenates_S512x128_S512x128_S512x128_S512x128_S512x512_d1 (ix2 r K) 3 (show 3 < 4 by omega) S512x128 e rfl rfl 384 rfl (ix2 r d) (fun a ha => ?_) ?_
  · match a with
    | ⟨0, _⟩ => rfl
    | ⟨1, _⟩ => exact absurd rfl ha
  · show 384 + d.val = K.val; omega

theorem head3 (q : FVec Ideal S512x512 .bf16) (kv : Vec Ideal S256x1024 .bf16) (r : Fin 512) (d : Fin 128) (K : Fin 512) (h : K.val = 384 + d.val) :
    joined q kv (ix2 r K) = blockHead q kv r 3 d := by
  refine (piece3 _ _ _ _ r d K h).trans ?_
  · rw [headOf_apply]
    refine congrArg₂ attend (funext fun m => Finset.sum_congr rfl fun e _ => congrArg₂ (· * ·) (congrArg q ?_) (congrArg kv ?_)) (funext fun m => congrArg kv ?_)
    · refine Shape.idx_ext₂ ?_ ?_
      · show 0 + r.val = r.val; omega
      · show 384 + e.val = 128 * 3 + e.val; omega
    · refine Shape.idx_ext₂ ?_ ?_
      · show 0 + 1 * m.val = m.val; omega
      · show 384 + 1 * e.val = 128 * 3 + e.val; omega
    · refine Shape.idx_ext₂ ?_ ?_
      · show 0 + 1 * m.val = m.val; omega
      · show 896 + 1 * d.val = 512 + 128 * 3 + d.val; omega

theorem joined_apply (q : FVec Ideal S512x512 .bf16) (kv : Vec Ideal S256x1024 .bf16) (r : Fin 512) (K : Fin 512) :
    joined q kv (ix2 r K) = blockHead q kv r (⟨K.val / 128, by omega⟩ : Fin 4) (⟨K.val % 128, by omega⟩ : Fin 128) := by
  obtain ⟨hd, hh⟩ : ∃ hd : Fin 4, hd = (⟨K.val / 128, by omega⟩ : Fin 4) := ⟨_, rfl⟩
  have hv : hd.val = K.val / 128 := congrArg Fin.val hh
  rw [← hh]
  match hd with
  | ⟨0, _⟩ => exact head0 q kv r _ K (by show K.val = 0 + K.val % 128; simp only [] at hv; omega)
  | ⟨1, _⟩ => exact head1 q kv r _ K (by show K.val = 128 + K.val % 128; simp only [] at hv; omega)
  | ⟨2, _⟩ => exact head2 q kv r _ K (by show K.val = 256 + K.val % 128; simp only [] at hv; omega)
  | ⟨3, _⟩ => exact head3 q kv r _ K (by show K.val = 384 + K.val % 128; simp only [] at hv; omega)

variable (x0 : Vec Ideal S512x2048 .bf16) (x1 : Vec Ideal S512x2048 .f32) (x2 : Vec Ideal S256x1024 .bf16) (x3 : Vec Ideal S2048x512 .bf16)
  (x4 : Vec Ideal S512x2048 .bf16) (x5 x6 : Vec Ideal S1x2048 .f32)

/-- The product of a block: the four heads' outputs times the weights. -/
theorem pay9_apply (r : Fin 512) (c : Fin 2048) : k0_pay9 (F := Ideal) x0 x1 x2 x3 x4 x5 x6 (ix2 r c)
    = ∑ K : Fin 512, blockHead (k0_pay3 (F := Ideal) x0 x3) x2 r (⟨K.val / 128, by omega⟩ : Fin 4) (⟨K.val % 128, by omega⟩ : Fin 128) * x4 (ix2 K c) := by
  have e : k0_pay9 (F := Ideal) x0 x1 x2 x3 x4 x5 x6
      = matmul (F := Ideal) (φ₁ := .bf16) (φ₂ := .bf16) dot_S512x512_S512x2048_S512x2048_1_0_0_1_n_n none (joined (k0_pay3 (F := Ideal) x0 x3) x2) x4
          (constant S512x2048 .f32 0x00000000#32) := by
    unfold k0_pay9
    simp only [View.ld_unit_zero (S := S512x2048) zz, View.ld_unit_zero (S := S2048x512) zz]
    unfold k0_pay8 k0_pay7 k0_pay6 k0_pay5 k0_pay4
    rfl
  rw [e]
  refine (Ideal.matmul_plain_apply (M := 512) (K := 512) (N := 2048) none _ _ _ r c).trans ?_
  rw [constant_apply, Ideal.ofBits_zero_f32, zero_add]
  exact Finset.sum_congr rfl fun K _ => congrArg (· * x4 (ix2 K c)) (joined_apply _ _ r K)

/-- The residual stream of a block. -/
theorem pay1_apply (p : FVec Ideal S512x2048 .f32) (x : Vec Ideal S512x2048 .f32) (g : Vec Ideal S1x2048 .f32) (r : Fin 512) (q : Fin 2048) :
    k0_pay1 (F := Ideal) p x g (ix2 r q) = x (ix2 r q) + rms (fun k => p (ix2 r k)) (g (ix2 (0 : Fin 1) q)) q := by
  have e : k0_pay1 (F := Ideal) p x g = addf x (norm p g) := by
    unfold k0_pay1
    simp only [shapeCast_self]
    rfl
  rw [e, addf_apply, norm_apply]

/-- The next sub-layer's normalized input, of a block. -/
theorem pay2_apply (p : FVec Ideal S512x2048 .f32) (x : Vec Ideal S512x2048 .f32) (g n : Vec Ideal S1x2048 .f32) (r : Fin 512) (q : Fin 2048) :
    k0_pay2 (F := Ideal) p x g n (ix2 r q) = rms (fun k => k0_pay1 (F := Ideal) p x g (ix2 r k)) (n (ix2 (0 : Fin 1) q)) q := by
  have e : k0_pay2 (F := Ideal) p x g n = truncf .bf16 (norm (k0_pay1 (F := Ideal) p x g) n) bitsLt_bf16_f32 := by
    unfold k0_pay2
    simp only [shapeCast_self]
    rfl
  rw [e, truncf_apply, norm_apply]

/-- What the body leaves in its first output block. -/
theorem out_stream : out0_7 x0 x1 x2 x3 x4 x5 x6 = k0_pay1 (F := Ideal) (k0_pay9 x0 x1 x2 x3 x4 x5 x6) x1 x5 := by
  unfold out0_7
  rw [View.canon_unit_zero zz]
  simp only [View.ld_unit_zero (S := S512x2048) zz, View.ld_unit_zero (S := S1x2048) zz]

/-- What the body leaves in its second output block. -/
theorem out_next : out0_8 x0 x1 x2 x3 x4 x5 x6 = k0_pay2 (F := Ideal) (k0_pay9 x0 x1 x2 x3 x4 x5 x6) x1 x5 x6 := by
  unfold out0_8
  rw [View.canon_unit_zero zz]
  simp only [View.ld_unit_zero (S := S512x2048) zz, View.ld_unit_zero (S := S1x2048) zz]

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val / 4 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = t.val ∧ win0_7.index t (1 : Fin 2) = 0 :=
  (by decide +kernel : ∀ t : Fin grid0.N, _)
theorem at8 : ∀ t : Fin cfg0.N, win0_8.index t (0 : Fin 2) = t.val ∧ win0_8.index t (1 : Fin 2) = 0 :=
  (by decide +kernel : ∀ t : Fin grid0.N, _)
theorem count : cfg0.N = 64 := by decide +kernel

/-! The blocks a grid point reads, as entries of the arguments. -/

theorem read0 (c : Dev nD) (t : Fin cfg0.N) (r : Fin 512) (k : Fin 2048) (R : Fin 32768) (hR : R.val = 512 * t.val + r.val) :
    (iblk m c 0 t : Vec Ideal S512x2048 .bf16) (ix2 r k) = m ((c.tc : Thread nD τ).loc main_arg0) (ix2 R k) := by
  obtain ⟨e0, e1⟩ := at0 t
  show V m c main_arg0 (((cfg0.win 0).blk t).view.emb (ix2 r k)) = _
  rw [V_main_arg0]
  refine congrArg _ (funext fun i => Fin.ext ?_)
  match i with
  | ⟨0, _⟩ => show win0_0.index t (0 : Fin 2) * 512 + 1 * r.val = R.val; omega
  | ⟨1, _⟩ => show win0_0.index t (1 : Fin 2) * 2048 + 1 * k.val = k.val; omega

theorem read1 (c : Dev nD) (t : Fin cfg0.N) (r : Fin 512) (k : Fin 2048) (R : Fin 32768) (hR : R.val = 512 * t.val + r.val) :
    (iblk m c 1 t : Vec Ideal S512x2048 .f32) (ix2 r k) = m ((c.tc : Thread nD τ).loc main_arg1) (ix2 R k) := by
  obtain ⟨e0, e1⟩ := at1 t
  show V m c main_arg1 (((cfg0.win 1).blk t).view.emb (ix2 r k)) = _
  rw [V_main_arg1]
  refine congrArg _ (funext fun i => Fin.ext ?_)
  match i with
  | ⟨0, _⟩ => show win0_1.index t (0 : Fin 2) * 512 + 1 * r.val = R.val; omega
  | ⟨1, _⟩ => show win0_1.index t (1 : Fin 2) * 2048 + 1 * k.val = k.val; omega

theorem read2 (c : Dev nD) (t : Fin cfg0.N) (r : Fin 256) (k : Fin 1024) (R : Fin 4096) (hR : R.val = 256 * (t.val / 4) + r.val) :
    (iblk m c 2 t : Vec Ideal S256x1024 .bf16) (ix2 r k) = m ((c.tc : Thread nD τ).loc main_arg2) (ix2 R k) := by
  obtain ⟨e0, e1⟩ := at2 t
  show V m c main_arg2 (((cfg0.win 2).blk t).view.emb (ix2 r k)) = _
  rw [V_main_arg2]
  refine congrArg _ (funext fun i => Fin.ext ?_)
  match i with
  | ⟨0, _⟩ => show win0_2.index t (0 : Fin 2) * 256 + 1 * r.val = R.val; omega
  | ⟨1, _⟩ => show win0_2.index t (1 : Fin 2) * 1024 + 1 * k.val = k.val; omega

theorem read3 (c : Dev nD) (t : Fin cfg0.N) (r : Fin 2048) (k : Fin 512) :
    (iblk m c 3 t : Vec Ideal S2048x512 .bf16) (ix2 r k) = m ((c.tc : Thread nD τ).loc main_arg3) (ix2 r k) := by
  obtain ⟨e0, e1⟩ := at3 t
  show V m c main_arg3 (((cfg0.win 3).blk t).view.emb (ix2 r k)) = _
  rw [V_main_arg3]
  refine congrArg _ (funext fun i => Fin.ext ?_)
  match i with
  | ⟨0, _⟩ => show win0_3.index t (0 : Fin 2) * 2048 + 1 * r.val = r.val; omega
  | ⟨1, _⟩ => show win0_3.index t (1 : Fin 2) * 512 + 1 * k.val = k.val; omega

theorem read4 (c : Dev nD) (t : Fin cfg0.N) (r : Fin 512) (k : Fin 2048) :
    (iblk m c 4 t : Vec Ideal S512x2048 .bf16) (ix2 r k) = m ((c.tc : Thread nD τ).loc main_arg4) (ix2 r k) := by
  obtain ⟨e0, e1⟩ := at4 t
  show V m c main_arg4 (((cfg0.win 4).blk t).view.emb (ix2 r k)) = _
  rw [V_main_arg4]
  refine congrArg _ (funext fun i => Fin.ext ?_)
  match i with
  | ⟨0, _⟩ => show win0_4.index t (0 : Fin 2) * 512 + 1 * r.val = r.val; omega
  | ⟨1, _⟩ => show win0_4.index t (1 : Fin 2) * 2048 + 1 * k.val = k.val; omega

/-- A gain as a matrix of one row. -/
theorem asRow (v : S2048.Idx → EReal) (h : S2048.ShapeCasts S1x2048) (q : Fin 2048) : shapeCast S1x2048 v h (ix2 (0 : Fin 1) q) = v (ix1 q) :=
  shapeCast_apply v h _ _ (by
    rw [Shape.rowMajor_val_two, Shape.rowMajor_val_one]
    show q.val = 0 * 2048 + q.val
    omega)

theorem read5 (c : Dev nD) (t : Fin cfg0.N) (q : Fin 2048) :
    (iblk m c 5 t : Vec Ideal S1x2048 .f32) (ix2 (0 : Fin 1) q) = m ((c.tc : Thread nD τ).loc main_arg5) (ix1 q) := by
  obtain ⟨e0, e1⟩ := at5 t
  show V m c main_v0 (((cfg0.win 5).blk t).view.emb (ix2 (0 : Fin 1) q)) = _
  have e : ((cfg0.win 5).blk t).view.emb (ix2 (0 : Fin 1) q) = (ix2 (0 : Fin 1) q : S1x2048.Idx) := by
    funext i; apply Fin.ext
    match i with
    | ⟨0, _⟩ => show win0_5.index t (0 : Fin 2) * 1 + 1 * 0 = 0; omega
    | ⟨1, _⟩ => show win0_5.index t (1 : Fin 2) * 2048 + 1 * q.val = q.val; omega
  rw [e]
  entry_read
  exact asRow _ _ q

theorem read6 (c : Dev nD) (t : Fin cfg0.N) (q : Fin 2048) :
    (iblk m c 6 t : Vec Ideal S1x2048 .f32) (ix2 (0 : Fin 1) q) = m ((c.tc : Thread nD τ).loc main_arg6) (ix1 q) := by
  obtain ⟨e0, e1⟩ := at6 t
  show V m c main_v1 (((cfg0.win 6).blk t).view.emb (ix2 (0 : Fin 1) q)) = _
  have e : ((cfg0.win 6).blk t).view.emb (ix2 (0 : Fin 1) q) = (ix2 (0 : Fin 1) q : S1x2048.Idx) := by
    funext i; apply Fin.ext
    match i with
    | ⟨0, _⟩ => show win0_6.index t (0 : Fin 2) * 1 + 1 * 0 = 0; omega
    | ⟨1, _⟩ => show win0_6.index t (1 : Fin 2) * 2048 + 1 * q.val = q.val; omega
  rw [e]
  entry_read
  exact asRow _ _ q

/-- A head's output at a grid point. -/
theorem block_head (c : Dev nD) (t : Fin cfg0.N) (r : Fin 512) (hd : Fin 4) (d : Fin 128) (R : Fin 32768) (hR : R.val = 512 * t.val + r.val) :
    blockHead (k0_pay3 (F := Ideal) (iblk m c 0 t) (iblk m c 3 t)) (iblk m c 2 t) r hd d = head (m ((c.tc : Thread nD τ).loc main_arg0)) (m ((c.tc : Thread nD τ).loc main_arg2)) (m ((c.tc : Thread nD τ).loc main_arg3)) R hd d := by
  have h0 := r.isLt
  have hb : R.val / 2048 = t.val / 4 := by omega
  refine congrArg₂ attend (funext fun l => Finset.sum_congr rfl fun e _ => congrArg₂ (· * ·) ?_ ?_) (funext fun l => ?_)
  · rw [pay3_apply]
    exact congrArg (· * scale) (Finset.sum_congr rfl fun k _ => congrArg₂ (· * ·) (read0 m c t r k R hR) (read3 m c t k _))
  · exact read2 m c t l _ _ (by show 256 * (R.val / 2048) + l.val = _; rw [hb])
  · exact read2 m c t l _ _ (by show 256 * (R.val / 2048) + l.val = _; rw [hb])

/-- The product a grid point makes. -/
theorem block_product (c : Dev nD) (t : Fin cfg0.N) (r : Fin 512) (q : Fin 2048) (R : Fin 32768) (hR : R.val = 512 * t.val + r.val) :
    k0_pay9 (F := Ideal) (iblk m c 0 t) (iblk m c 1 t) (iblk m c 2 t) (iblk m c 3 t) (iblk m c 4 t) (iblk m c 5 t) (iblk m c 6 t) (ix2 r q) = product (m ((c.tc : Thread nD τ).loc main_arg0)) (m ((c.tc : Thread nD τ).loc main_arg2)) (m ((c.tc : Thread nD τ).loc main_arg3)) (m ((c.tc : Thread nD τ).loc main_arg4)) R q := by
  rw [pay9_apply]
  exact Finset.sum_congr rfl fun K _ => congrArg₂ (· * ·) (block_head m c t r _ _ R hR) (read4 m c t K q)

/-- The stream's entries at a grid point. -/
theorem value (c : Dev nD) (t : Fin cfg0.N) (r : Fin 512) (q : Fin 2048) (R : Fin 32768) (hR : R.val = 512 * t.val + r.val) :
    k0_pay1 (F := Ideal) (k0_pay9 (iblk m c 0 t) (iblk m c 1 t) (iblk m c 2 t) (iblk m c 3 t) (iblk m c 4 t) (iblk m c 5 t) (iblk m c 6 t)) (iblk m c 1 t) (iblk m c 5 t) (ix2 r q)
      = stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 R q) := by
  rw [pay1_apply, read1 m c t r q R hR, read5 m c t q]
  exact congrArg (fun y => _ + rms y _ q) (funext fun k => block_product m c t r k R hR)

/-- What a grid point writes back is its block of the result. -/
theorem flushed_stream (c : Dev nD) (t : Fin cfg0.N) :
    (dats m 0 c).flushed 7 t = ((cfg0.win 7).blk t).view.read (Elt Ideal)
      (stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        : Buf (Elt Ideal) ((c.tc : Thread nD τ).loc main_v2_0)) := by
  have ht : t.val < 64 := count ▸ t.isLt
  obtain ⟨e0, e1⟩ := at7 t
  rw [Value.flushed7, out_stream]
  refine funext fun (y : S512x2048.Idx) => ?_
  obtain ⟨r, q, rfl⟩ : ∃ (r : Fin 512) (q : Fin 2048), y = ix2 r q := ⟨y 0, y 1, Shape.idx_ext₂ rfl rfl⟩
  have h0 := r.isLt
  have e : ((cfg0.win 7).blk t).view.emb (ix2 r q) = (ix2 (⟨512 * t.val + r.val, by omega⟩ : Fin 32768) q : S32768x2048.Idx) := by
    funext i; apply Fin.ext
    match i with
    | ⟨0, _⟩ => show win0_7.index t (0 : Fin 2) * 512 + 1 * r.val = 512 * t.val + r.val; omega
    | ⟨1, _⟩ => show win0_7.index t (1 : Fin 2) * 2048 + 1 * q.val = q.val; omega
  show k0_pay1 (F := Ideal) (k0_pay9 (iblk m c 0 t) (iblk m c 1 t) (iblk m c 2 t) (iblk m c 3 t) (iblk m c 4 t) (iblk m c 5 t) (iblk m c 6 t)) (iblk m c 1 t) (iblk m c 5 t) (ix2 r q)
    = stream _ _ _ _ _ _ (((cfg0.win 7).blk t).view.emb (ix2 r q))
  rw [e]
  exact value m c t r q _ rfl

/-- Every entry of the result is written by some grid point. -/
theorem covered_stream (i : S32768x2048.Idx) : ∃ t : Fin cfg0.N, (cfg0.win 7).flush t = true ∧ i ∈ ((cfg0.win 7).blk t).view.set := by
  have h0 : (i 0).val < 32768 := (i 0).isLt
  have h1 : (i 1).val < 2048 := (i 1).isLt
  have hN := count
  obtain ⟨t, ht⟩ : ∃ t : Fin cfg0.N, t.val = (i 0).val / 512 := ⟨⟨(i 0).val / 512, by omega⟩, rfl⟩
  refine ⟨t, flush0_7 t, ?_⟩
  obtain ⟨e0, e1⟩ := at7 t
  show i ∈ ((View.whole main_v2_0).slice (win0_7.rect t)).set
  rw [View.set_slice_whole, Rect.mem_set_unit]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 2048 ≤ (i 1).val ∧ (i 1).val < win0_7.index t (1 : Fin 2) * 2048 + 2048
    omega

/-- The result array after the run. -/
theorem final_stream (c : Dev nD) : (dats m 0 c).arrAt 7 cfg0.N
    = stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 7 _ (fun t _ => flushed_stream m c t) covered_stream

/-- What a grid point writes back is its block of the result. -/
theorem flushed_next (c : Dev nD) (t : Fin cfg0.N) :
    (dats m 0 c).flushed 8 t = ((cfg0.win 8).blk t).view.read (Elt Ideal)
      (next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        : Buf (Elt Ideal) ((c.tc : Thread nD τ).loc main_v2_1)) := by
  have ht : t.val < 64 := count ▸ t.isLt
  obtain ⟨e0, e1⟩ := at8 t
  rw [Value.flushed8, out_next]
  refine funext fun (y : S512x2048.Idx) => ?_
  obtain ⟨r, q, rfl⟩ : ∃ (r : Fin 512) (q : Fin 2048), y = ix2 r q := ⟨y 0, y 1, Shape.idx_ext₂ rfl rfl⟩
  have h0 := r.isLt
  have e : ((cfg0.win 8).blk t).view.emb (ix2 r q) = (ix2 (⟨512 * t.val + r.val, by omega⟩ : Fin 32768) q : S32768x2048.Idx) := by
    funext i; apply Fin.ext
    match i with
    | ⟨0, _⟩ => show win0_8.index t (0 : Fin 2) * 512 + 1 * r.val = 512 * t.val + r.val; omega
    | ⟨1, _⟩ => show win0_8.index t (1 : Fin 2) * 2048 + 1 * q.val = q.val; omega
  show k0_pay2 (F := Ideal) (k0_pay9 (iblk m c 0 t) (iblk m c 1 t) (iblk m c 2 t) (iblk m c 3 t) (iblk m c 4 t) (iblk m c 5 t) (iblk m c 6 t)) (iblk m c 1 t) (iblk m c 5 t) (iblk m c 6 t) (ix2 r q)
    = next _ _ _ _ _ _ _ (((cfg0.win 8).blk t).view.emb (ix2 r q))
  rw [e, pay2_apply, read6 m c t q]
  exact congrArg (fun y => rms y _ q) (funext fun k => value m c t r k _ rfl)

/-- Every entry of the result is written by some grid point. -/
theorem covered_next (i : S32768x2048.Idx) : ∃ t : Fin cfg0.N, (cfg0.win 8).flush t = true ∧ i ∈ ((cfg0.win 8).blk t).view.set := by
  have h0 : (i 0).val < 32768 := (i 0).isLt
  have h1 : (i 1).val < 2048 := (i 1).isLt
  have hN := count
  obtain ⟨t, ht⟩ : ∃ t : Fin cfg0.N, t.val = (i 0).val / 512 := ⟨⟨(i 0).val / 512, by omega⟩, rfl⟩
  refine ⟨t, flush0_8 t, ?_⟩
  obtain ⟨e0, e1⟩ := at8 t
  show i ∈ ((View.whole main_v2_1).slice (win0_8.rect t)).set
  rw [View.set_slice_whole, Rect.mem_set_unit]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 2048 ≤ (i 1).val ∧ (i 1).val < win0_8.index t (1 : Fin 2) * 2048 + 2048
    omega

/-- The result array after the run. -/
theorem final_next (c : Dev nD) : (dats m 0 c).arrAt 8 cfg0.N
    = next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (dats m 0 c).arrAt_eq_of_cover 8 _ (fun t _ => flushed_next m c t) covered_next

end Kernel

section Reference
open Cert.Reference8Ideal Cert.Reference8Ideal.Read

variable (h : (⟨S32768x2048, .bf16⟩ : BufTy).Contents (Elt Ideal)) (x : (⟨S32768x2048, .f32⟩ : BufTy).Contents (Elt Ideal))
  (kv : (⟨S4096x1024, .bf16⟩ : BufTy).Contents (Elt Ideal)) (wq : (⟨S2048x512, .bf16⟩ : BufTy).Contents (Elt Ideal))
  (wo : (⟨S512x2048, .bf16⟩ : BufTy).Contents (Elt Ideal)) (g n : (⟨S2048, .f32⟩ : BufTy).Contents (Elt Ideal))

/-- The row of the flat arrays that row `q` of sequence `b` is. -/
def row (b : Fin 16) (q : Fin 2048) : Fin 32768 := ⟨2048 * b.val + q.val, by omega⟩

theorem query_eq (p : S16x4x2048x256.Idx) (k : Fin 128) :
    val_main_v1 (F := Ideal) h wq (lidx_main_v6 p k)
      = dot (M := 32768) (K := 2048) (N := 512) h wq (row (p 0) (p 2)) (⟨128 * (p 1).val + k.val, by have := (p 1).isLt; have : (p 1).val < 4 := this; omega⟩ : Fin 512) := by
  have h1 : (p 1).val < 4 := (p 1).isLt
  have h2 : (p 2).val < 2048 := (p 2).isLt
  rw [val_main_v1_apply, val_main_v0_apply]
  refine Finset.sum_congr rfl fun l _ => congrArg₂ (· * ·) (congrArg h (Shape.idx_ext₂ ?_ rfl)) (congrArg wq (Shape.idx_ext₂ rfl ?_))
  · show ((((p 0).val * 2048 + (p 2).val) * 4 + (p 1).val) * 128 + k.val) / 512 = 2048 * (p 0).val + (p 2).val
    omega
  · show ((((p 0).val * 2048 + (p 2).val) * 4 + (p 1).val) * 128 + k.val) % 512 = 128 * (p 1).val + k.val
    omega

/-- The reference's scores. -/
theorem score_eq (p : S16x4x2048x256.Idx) : val_main_v8 (F := Ideal) h kv wq p = score h kv wq (row (p 0) (p 2)) (p 1) (p 3) := by
  have h0 : (p 0).val < 16 := (p 0).isLt
  have h1 : (p 1).val < 4 := (p 1).isLt
  have h2 : (p 2).val < 2048 := (p 2).isLt
  have h3 : (p 3).val < 256 := (p 3).isLt
  obtain ⟨s, hs, es⟩ := scale_real
  rw [val_main_v8_apply, val_main_v7_apply, val_main_v6_apply, val_main_cst_apply]
  show (∑ k : Fin 128, _) * scale = _
  rw [← sum_mul _ (es ▸ EReal.coe_nonneg.2 hs) (es ▸ EReal.coe_ne_top s)]
  refine Finset.sum_congr rfl fun k _ => ?_
  rw [query_eq, mul_right_comm, val_main_v4_apply, val_main_v3_apply, val_main_v2_apply]
  refine congrArg (_ * ·) (congrArg kv (Shape.idx_ext₂ ?_ ?_))
  · show ((((p 0).val * 256 + (p 3).val) * 8 + (p 1).val) * 128 + k.val) / 1024 = 256 * ((2048 * (p 0).val + (p 2).val) / 2048) + (p 3).val
    omega
  · show ((((p 0).val * 256 + (p 3).val) * 8 + (p 1).val) * 128 + k.val) % 1024 = 128 * (p 1).val + k.val
    omega

theorem reduced : S16x4x2048x256.Reduces [3] S16x4x2048 := by decide

/-- The reference's greatest score of a row. -/
theorem top_eq (p : S16x4x2048.Idx) : val_main_v11 (F := Ideal) h kv wq p = top (score h kv wq (row (p 0) (p 2)) (p 1)) := by
  have e9 : val_main_v9 (F := Ideal) h kv wq p = top (score h kv wq (row (p 0) (p 2)) (p 1)) := by
    unfold val_main_v9
    refine (Host.reduce_eq_fold_single FloatOps.maximumf _ _ _ reduced _ p).trans ?_
    refine congrArg (fun f => (Finset.univ : Finset (Fin 256)).fold max (Ideal.ofBits .f32 0xFF800000#32) f) (funext fun l => ?_)
    exact score_eq h kv wq (reduced.lift p l)
  rw [val_main_v11_apply, val_main_v10_apply, val_main_cst_1_apply, e9]
  show max (Ideal.ofBits .f32 0xFF800000#32) _ = _
  rw [bottom]
  exact max_eq_right bot_le

/-- The reference's exponentials. -/
theorem exp_eq (p : S16x4x2048x256.Idx) : val_main_v15 (F := Ideal) h kv wq p
    = Ideal.exp (score h kv wq (row (p 0) (p 2)) (p 1) (p 3) - top (score h kv wq (row (p 0) (p 2)) (p 1))) := by
  rw [val_main_v15_apply, val_main_v14_apply, val_main_v13_apply, val_main_v12_apply, top_eq, score_eq]
  rfl

/-- The reference's weights. -/
theorem weight_eq (p : S16x4x2048x256.Idx) : val_main_v19 (F := Ideal) h kv wq p
    = Ideal.div (Ideal.exp (score h kv wq (row (p 0) (p 2)) (p 1) (p 3) - top (score h kv wq (row (p 0) (p 2)) (p 1))))
        (∑ m, Ideal.exp (score h kv wq (row (p 0) (p 2)) (p 1) m - top (score h kv wq (row (p 0) (p 2)) (p 1)))) := by
  rw [val_main_v19_apply, val_main_v18_apply, val_main_v17_apply, val_main_v16_apply, val_main_cst_2_apply, exp_eq]
  refine congrArg (Ideal.div _) ?_
  show Ideal.ofBits .f32 0x00000000#32 + _ = _
  rw [Ideal.ofBits_zero_f32, zero_add]
  exact Finset.sum_congr rfl fun k _ => exp_eq h kv wq _

variable (fh : ∀ i, Real (h i)) (fq : ∀ i, Real (wq i))
  (fk : ∀ (r : Fin 4096) (k : Fin 1024), k.val < 512 → Real (kv (ix2 r k)))

include fh fq fk

theorem score_finite (R : Fin 32768) (hd : Fin 4) (m : Fin 256) : Real (score h kv wq R hd m) := by
  obtain ⟨s, _, es⟩ := scale_real
  refine Real.sum _ fun e => Real.mul (Real.mul (Real.sum _ fun l => Real.mul (fh _) (fq _)) ⟨s, es⟩) ?_
  exact fk _ _ (show 128 * hd.val + e.val < 512 by omega)

/-- The reference's outputs of the heads. -/
theorem head_eq (R : Fin 32768) (j : Fin 512) : val_main_v23 (F := Ideal) h kv wq (ix2 R j)
    = head h kv wq R (⟨j.val / 128, by omega⟩ : Fin 4) (⟨j.val % 128, by omega⟩ : Fin 128) := by
  rw [val_main_v23_apply, val_main_v22_apply, val_main_v21_apply, val_main_v20_apply]
  unfold head
  rw [← attend_eq _ _ (score_finite h kv wq fh fq fk R _)]
  refine Finset.sum_congr rfl fun m _ => congrArg₂ (· * ·) ?_ ?_
  · rw [val_main_v5_apply, val_main_v3_apply, val_main_v2_apply]
    refine congrArg kv (Shape.idx_ext₂ ?_ ?_)
    · show ((((R.val * 512 + j.val) / 1048576 * 256 + m.val) * 8 + (4 + (R.val * 512 + j.val) / 128 % 4)) * 128 + (R.val * 512 + j.val) % 128) / 1024
        = 256 * (R.val / 2048) + m.val
      omega
    · show ((((R.val * 512 + j.val) / 1048576 * 256 + m.val) * 8 + (4 + (R.val * 512 + j.val) / 128 % 4)) * 128 + (R.val * 512 + j.val) % 128) % 1024
        = 512 + 128 * (j.val / 128) + j.val % 128
      omega
  · rw [weight_eq]
    have eR : row (ridx_main_v20 (idx_main_v21 (idx_main_v22 (ix2 R j))) m 0) (ridx_main_v20 (idx_main_v21 (idx_main_v22 (ix2 R j))) m 2) = R := by
      apply Fin.ext
      show 2048 * ((R.val * 512 + j.val) / 1048576) + (R.val * 512 + j.val) / 512 % 2048 = R.val
      omega
    have ed : (ridx_main_v20 (idx_main_v21 (idx_main_v22 (ix2 R j))) m 1 : Fin 4) = (⟨j.val / 128, by omega⟩ : Fin 4) := by
      apply Fin.ext
      show (R.val * 512 + j.val) / 128 % 4 = j.val / 128
      omega
    rw [eR, ed]
    rfl

theorem product_eq (i : S32768x2048.Idx) : val_main_v24 (F := Ideal) h kv wq wo i = product h kv wq wo (i 0) (i 1) := by
  rw [val_main_v24_apply]
  have el : ∀ k : Fin 512, lidx_main_v24 i k = (ix2 (i 0) k : S32768x512.Idx) := fun k => Shape.idx_ext₂ rfl rfl
  have er : ∀ k : Fin 512, ridx_main_v24 i k = (ix2 k (i 1) : S512x2048.Idx) := fun k => Shape.idx_ext₂ rfl rfl
  exact Finset.sum_congr rfl fun k _ => by
    rw [el, er]; exact congrArg (· * _) (head_eq h kv wq fh fq fk (i 0) k)

/-- The reference's residual stream. -/
theorem reference_stream : val_main_v38 (F := Ideal) h x kv wq wo g = stream h x kv wq wo g := by
  funext i
  rw [val_main_v38_apply, val_main_v37_apply, val_main_v36_apply, val_main_v35_apply, val_main_v34_apply, val_main_v33_apply,
    val_main_v32_apply, val_main_v31_apply, val_main_v30_apply, val_main_cst_5_apply, val_main_v29_apply, val_main_v28_apply,
    val_main_cst_4_apply, val_main_v27_apply, val_main_v26_apply, val_main_cst_3_apply, product_eq h kv wq wo fh fq fk]
  have e : ∑ k : Fin 2048, val_main_v25 (F := Ideal) h kv wq wo (idx_main_v26 (idx_main_v27 (idx_main_v33 i)) k)
      = ∑ k : Fin 2048, product h kv wq wo (i 0) k * product h kv wq wo (i 0) k :=
    Finset.sum_congr rfl fun k _ => by
      rw [val_main_v25_apply, product_eq h kv wq wo fh fq fk]
      rfl
  rw [e]
  show x i + _ * Ideal.rsqrt (Ideal.div (Ideal.ofBits .f32 0x00000000#32 + _) _ + _) * g _ = _
  rw [Ideal.ofBits_zero_f32, zero_add]
  have eg : (idx_main_v35 (idx_main_v36 i)) = (ix1 (i 1) : S2048.Idx) := by
    funext j; apply Fin.ext
    match j with
    | ⟨0, _⟩ => rfl
  rw [eg]
  rfl

/-- The reference's input of the next sub-layer. -/
theorem reference_next : val_main_v52 (F := Ideal) h x kv wq wo g n = next h x kv wq wo g n := by
  funext i
  rw [val_main_v52_apply, val_main_v51_apply, val_main_v50_apply, val_main_v49_apply, val_main_v48_apply, val_main_v47_apply,
    val_main_v46_apply, val_main_v45_apply, val_main_v44_apply, val_main_cst_8_apply, val_main_v43_apply, val_main_v42_apply,
    val_main_cst_7_apply, val_main_v41_apply, val_main_v40_apply, val_main_cst_6_apply, reference_stream h x kv wq wo g fh fq fk]
  have e : ∑ k : Fin 2048, val_main_v39 (F := Ideal) h x kv wq wo g (idx_main_v40 (idx_main_v41 (idx_main_v47 i)) k)
      = ∑ k : Fin 2048, stream h x kv wq wo g (ix2 (i 0) k) * stream h x kv wq wo g (ix2 (i 0) k) :=
    Finset.sum_congr rfl fun k _ => by
      rw [val_main_v39_apply, reference_stream h x kv wq wo g fh fq fk]
      have ek : idx_main_v40 (idx_main_v41 (idx_main_v47 i)) k = (ix2 (i 0) k : S32768x2048.Idx) := Shape.idx_ext₂ rfl rfl
      rw [ek]
      rfl
  rw [e]
  show _ * Ideal.rsqrt (Ideal.div (Ideal.ofBits .f32 0x00000000#32 + _) _ + _) * n _ = _
  rw [Ideal.ofBits_zero_f32, zero_add]
  have en : (idx_main_v49 (idx_main_v50 i)) = (ix1 (i 1) : S2048.Idx) := by
    funext j; apply Fin.ext
    match j with
    | ⟨0, _⟩ => rfl
  have ei : i = (ix2 (i 0) (i 1) : S32768x2048.Idx) := Shape.idx_ext₂ rfl rfl
  rw [en]
  exact congrArg₂ (· * ·) (congrArg₂ (· * ·) (congrArg (stream h x kv wq wo g) ei) rfl) rfl

end Reference

end Cert.Proof.CrossAttention
-- ==== Proof.InProjRope.lean ====
module

public import proofs.«01_k».proof.Proof.Layer
public import proofs.«01_k».proof.Proof.Gen.Kernel9Ideal.Value
public import proofs.«01_k».proof.Proof.Gen.Kernel9Ideal.Points
public import proofs.«01_k».proof.Proof.Gen.Reference9Ideal.Run
public import proofs.«01_k».proof.Proof.Gen.Reference9Ideal.Read
public import Idealize.ShloMosaic.Lib.KernelVsHost
public import Idealize.ShloMosaic.Lib.MatmulPlain
public import Idealize.ShloMosaic.Lib.Pipeline.Value
public import Idealize.ShloMosaic.Lib.Pipeline.ValueKit.Tiles

/-!
The input projection with the rotary embedding: the array the kernel leaves, and the reference's, are `h W` with every column scaled, each
entry times its cosine plus its partner in the other half of its head times its sine.
-/

@[expose] public section
set_option maxRecDepth 16384
noncomputable section
namespace Cert.Proof.InProjRope
open Cert.Proof.Layer
open Idealize.ShloMosaic Idealize.ShloMosaic.TcCoe Idealize.ShloMosaic.ValueIdx Idealize.SL Idealize.SL.Sem
open Idealize.ShloMosaic.Pipeline (Dat)
open scoped BigOperators

/-- The column in the other half of the head of 64 columns. -/
def partner (c : Fin 1024) : Fin 1024 := ⟨if c.val % 64 < 32 then c.val + 32 else c.val - 32, by have := c.isLt; split <;> omega⟩

/-- The column of the tables, which span two heads. -/
def lane (c : Fin 1024) : Fin 128 := ⟨c.val % 128, by omega⟩

/-- Entry `(r, c)` of an array after the rotation, the tables' row being `r` too. -/
def turn {M : ℕ} (v : Fin M → Fin 1024 → EReal) (ct st : (⟨2, ![M, 128]⟩ : Shape).Idx → EReal) (r : Fin M) (c : Fin 1024) : EReal :=
  v r c * ct (ix2 r (lane c)) + v r (partner c) * st (ix2 r (lane c))

/-- Entry `(r, c)` of the scaled product. -/
def scaled {M : ℕ} (h : (⟨2, ![M, 2048]⟩ : Shape).Idx → EReal) (w : (⟨2, ![2048, 1024]⟩ : Shape).Idx → EReal)
    (s : (⟨2, ![1, 1024]⟩ : Shape).Idx → EReal) (r : Fin M) (c : Fin 1024) : EReal :=
  dot h w r c * s (ix2 (0 : Fin 1) c)

/-- The result as a function of the five arguments. -/
def result (h : (⟨2, ![32768, 2048]⟩ : Shape).Idx → EReal) (w : (⟨2, ![2048, 1024]⟩ : Shape).Idx → EReal)
    (s : (⟨2, ![1, 1024]⟩ : Shape).Idx → EReal) (ct st : (⟨2, ![32768, 128]⟩ : Shape).Idx → EReal) : (⟨2, ![32768, 1024]⟩ : Shape).Idx → EReal :=
  fun i => turn (scaled h w s) ct st (i 0) (i 1)

section Kernel
open Cert.Kernel9Ideal Cert.Kernel9Ideal.Gen

theorem zz : (![0, 0] : Fin 2 → ℕ) = fun _ => 0 := by funext a; fin_cases a <;> rfl

/-- The mask of the first halves of the heads, of a column's number. -/
def firstHalf (c : BitVec 32) : BitVec 1 :=
  let n := Scalar.select (Scalar.cmpi .eq 64#32 0#32) 1#32 64#32
  let d := IntOp.remsi .vector c n
  IntOp.cmpi .slt (if (IntOp.cmpi .slt d 0#32 ^^^ Scalar.cmpi .slt n 0#32) &&& IntOp.cmpi .ne d 0#32 = 1#1 then d + n else d) 32#32

theorem firstHalf_eq : ∀ c : Fin 128, firstHalf (BitVec.ofNat 32 c.val) = if c.val % 64 < 32 then 1#1 else 0#1 := by decide +kernel

theorem mask_apply (r : Fin 2048) (c : Fin 128) : k0_pay5 (ix2 r c) = if c.val % 64 < 32 then 1#1 else 0#1 := by
  rw [← firstHalf_eq c]
  have e : iota .tc S2048x128 32 [1] iota_S2048x128_d1_w32 (ix2 r c) = BitVec.ofNat 32 c.val := by
    show BitVec.ofNat 32 (0 * 128 + c.val) = _
    rw [Nat.zero_mul, Nat.zero_add]
  rw [← e]
  rfl

/-- A tile of two heads after the rotation, as the kernel writes it. -/
def turned (a ct st : FVec Ideal S2048x128 .f32) : FVec Ideal S2048x128 .bf16 :=
  truncf .bf16 (addf (mulf a ct) (mulf (select k0_pay5 (dynamicRotate 1 96#32 none a rotates_S2048x128_d1)
    (dynamicRotate 1 32#32 none a rotates_S2048x128_d1)) st)) bitsLt_bf16_f32

theorem turned_apply (a ct st : FVec Ideal S2048x128 .f32) (r : Fin 2048) (c p : Fin 128)
    (hp : p.val = if c.val % 64 < 32 then c.val + 32 else c.val - 32) :
    turned a ct st (ix2 r c) = a (ix2 r c) * ct (ix2 r c) + a (ix2 r p) * st (ix2 r c) := by
  have hc := c.isLt
  have e : select k0_pay5 (dynamicRotate 1 96#32 none a rotates_S2048x128_d1) (dynamicRotate 1 32#32 none a rotates_S2048x128_d1) (ix2 r c)
      = a (ix2 r p) := by
    rw [select_apply, mask_apply]
    by_cases h : c.val % 64 < 32
    · rw [if_pos h] at hp ⊢
      unfold Scalar.select
      rw [if_pos (show (1#1 : BitVec 1) = 1 from rfl)]
      refine dynamicRotate_apply 1 96#32 a _ (ix2 r c) (ix2 r p) fun b => ?_
      match b with
      | ⟨0, _⟩ => rfl
      | ⟨1, _⟩ => show p.val = (c.val + 128 - 96 % 128) % 128; omega
    · rw [if_neg h] at hp ⊢
      unfold Scalar.select
      rw [if_neg (show ¬(0#1 : BitVec 1) = 1 by decide)]
      refine dynamicRotate_apply 1 32#32 a _ (ix2 r c) (ix2 r p) fun b => ?_
      match b with
      | ⟨0, _⟩ => rfl
      | ⟨1, _⟩ => show p.val = (c.val + 128 - 32 % 128) % 128; omega
  unfold turned
  rw [truncf_apply, addf_apply, mulf_apply, mulf_apply, e]

/-- A tile of the block of 1024 columns, at an index of the block. -/
theorem tile (n o : ℕ) (ho : o = 128 * n) (hs : S2048x1024.Slices ![0, o] S2048x128) (v : FVec Ideal S2048x1024 .f32) (ct st : FVec Ideal S2048x128 .f32)
    (y : S2048x1024.Idx) (x : S2048x128.Idx) (hx : ∀ a, (y a : ℕ) = (![0, o] : Fin 2 → ℕ) a + x a) :
    turned (extractStridedSlice S2048x128 ![0, o] v hs) ct st x = turn (fun r c => v (ix2 r c)) ct st (y 0) (y 1) := by
  subst ho
  obtain ⟨r, q, rfl⟩ : ∃ (r : Fin 2048) (q : Fin 128), x = ix2 r q := ⟨x 0, x 1, Shape.idx_ext₂ rfl rfl⟩
  obtain ⟨R, C, rfl⟩ : ∃ (R : Fin 2048) (C : Fin 1024), y = ix2 R C := ⟨y 0, y 1, Shape.idx_ext₂ rfl rfl⟩
  have h0 : R.val = 0 + r.val := hx 0
  have h1 : C.val = 128 * n + q.val := hx 1
  have hq := q.isLt
  have hr : r = R := Fin.ext (by omega)
  subst hr
  have hl : lane C = q := Fin.ext (by show C.val % 128 = q.val; omega)
  have hp : (partner C).val = if q.val % 64 < 32 then 128 * n + (q.val + 32) else 128 * n + (q.val - 32) := by
    show (if C.val % 64 < 32 then C.val + 32 else C.val - 32) = _
    have hm : C.val % 64 = q.val % 64 := by omega
    rw [hm]
    split <;> omega
  obtain ⟨p, hp'⟩ : ∃ p : Fin 128, p.val = if q.val % 64 < 32 then q.val + 32 else q.val - 32 :=
    ⟨⟨if q.val % 64 < 32 then q.val + 32 else q.val - 32, by split <;> omega⟩, rfl⟩
  have hpp : 128 * n + p.val = (partner C).val := by rw [hp, hp']; split <;> rfl
  have e : ∀ (k : Fin 128) (K : Fin 1024), 128 * n + k.val = K.val → extractStridedSlice S2048x128 ![0, 128 * n] v hs (ix2 r k) = v (ix2 r K) :=
    fun k K hk => congrArg v (Shape.idx_ext₂ (by show 0 + r.val = r.val; omega) (by show 128 * n + k.val = K.val; omega))
  rw [turned_apply _ _ _ r q p hp', e q C h1.symm, e p (partner C) hpp]
  show _ = v (ix2 r C) * ct (ix2 r (lane C)) + v (ix2 r (partner C)) * st (ix2 r (lane C))
  rw [hl]

/-- The scaled product of a block, at an index. -/
theorem pay_apply (x : Vec Ideal S2048x2048 .bf16) (w : Vec Ideal S2048x1024 .bf16) (s : Vec Ideal S1x1024 .f32) (r : Fin 2048) (c : Fin 1024) :
    k0_pay4 (F := Ideal) x w s (ix2 r c) = scaled x w s r c := by
  have e : matmul (F := Ideal) (φ₁ := .bf16) (φ₂ := .bf16) dot_S2048x2048_S2048x1024_S2048x1024_1_0_0_1_n_n none x w
      (constant S2048x1024 .f32 0x00000000#32) (ix2 r c) = dot x w r c := by
    refine (Ideal.matmul_plain_apply (M := 2048) (K := 2048) (N := 1024) none _ _ _ r c).trans ?_
    rw [constant_apply, Ideal.ofBits_zero_f32, zero_add]
    rfl
  have b : broadcastTo S2048x1024 s broadcasts_S1x1024_S2048x1024 (ix2 r c) = s (ix2 (0 : Fin 1) c) :=
    broadcastTo_apply s _ _ _ fun a => match a with
      | ⟨0, _⟩ => rfl
      | ⟨1, _⟩ => rfl
  unfold k0_pay4
  rw [mulf_apply, e, b]
  rfl

/-- What the body leaves in the output's block, at an index. -/
theorem out_apply (x : Vec Ideal S2048x2048 .bf16) (w : Vec Ideal S2048x1024 .bf16) (s : Vec Ideal S1x1024 .f32) (ct st : Vec Ideal S2048x128 .f32)
    (y : S2048x1024.Idx) : out0_5 (F := Ideal) x w s ct st y = turn (scaled x w s) ct st (y 0) (y 1) := by
  have ev : (fun (r : Fin 2048) (c : Fin 1024) => k0_pay4 (F := Ideal) x w s (ix2 r c)) = scaled x w s :=
    funext fun r => funext fun c => pay_apply x w s r c
  rw [← ev]
  unfold out0_5 k0_pay14 k0_pay13
  rw [View.ld_unit_zero (S := S2048x2048) zz, View.ld_unit_zero (S := S2048x1024) zz, View.ld_unit_zero (S := S1x1024) zz,
    View.ld_unit_zero (S := S2048x128) zz, View.ld_unit_zero (S := S2048x128) zz]
  refine View.canon_eq_of_allAt _ y _ (cover0_5 _ _ _ _ _ _ _ _ y) ?_
  refine View.allAt_cons_unit _ _ _ _ _ (fun z hz => tile 7 896 rfl slices_S2048x1024_o0_896_S2048x128 (k0_pay4 (F := Ideal) x w s) ct st y z hz) ?_
  refine View.allAt_cons_unit _ _ _ _ _ (fun z hz => tile 6 768 rfl slices_S2048x1024_o0_768_S2048x128 (k0_pay4 (F := Ideal) x w s) ct st y z hz) ?_
  refine View.allAt_cons_unit _ _ _ _ _ (fun z hz => tile 5 640 rfl slices_S2048x1024_o0_640_S2048x128 (k0_pay4 (F := Ideal) x w s) ct st y z hz) ?_
  refine View.allAt_cons_unit _ _ _ _ _ (fun z hz => tile 4 512 rfl slices_S2048x1024_o0_512_S2048x128 (k0_pay4 (F := Ideal) x w s) ct st y z hz) ?_
  refine View.allAt_cons_unit _ _ _ _ _ (fun z hz => tile 3 384 rfl slices_S2048x1024_o0_384_S2048x128 (k0_pay4 (F := Ideal) x w s) ct st y z hz) ?_
  refine View.allAt_cons_unit _ _ _ _ _ (fun z hz => tile 2 256 rfl slices_S2048x1024_o0_256_S2048x128 (k0_pay4 (F := Ideal) x w s) ct st y z hz) ?_
  refine View.allAt_cons_unit _ _ _ _ _ (fun z hz => tile 1 128 rfl slices_S2048x1024_o0_128_S2048x128 (k0_pay4 (F := Ideal) x w s) ct st y z hz) ?_
  refine View.allAt_cons_unit _ _ _ _ _ (fun z hz => tile 0 0 rfl slices_S2048x1024_o0_0_S2048x128 (k0_pay4 (F := Ideal) x w s) ct st y z hz) ?_
  exact View.allAt_nil _ _

variable (m : (ℓ : Loc nD τ sig) → Buf (Elt Ideal) ℓ)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = t.val ∧ win0_4.index t (1 : Fin 2) = 0 :=
  (by decide +kernel : ∀ t : Fin grid0.N, _)
theorem at5 : ∀ t : Fin cfg0.N, win0_5.index t (0 : Fin 2) = t.val ∧ win0_5.index t (1 : Fin 2) = 0 :=
  (by decide +kernel : ∀ t : Fin grid0.N, _)
theorem count : cfg0.N = 16 := by decide +kernel

/-! The blocks a grid point reads, as entries of the arguments. -/

theorem read0 (c : Dev nD) (t : Fin cfg0.N) (r : Fin 2048) (k : Fin 2048) (R : Fin 32768) (hR : R.val = 2048 * t.val + r.val) :
    (iblk m c 0 t : Vec Ideal S2048x2048 .bf16) (ix2 r k) = m ((c.tc : Thread nD τ).loc main_arg0) (ix2 R k) := by
  obtain ⟨e0, e1⟩ := at0 t
  show m ((c.tc : Thread nD τ).loc main_arg0) (((cfg0.win 0).blk t).view.emb (ix2 r k)) = _
  refine congrArg _ (funext fun i => Fin.ext ?_)
  match i with
  | ⟨0, _⟩ => show win0_0.index t (0 : Fin 2) * 2048 + 1 * r.val = R.val; omega
  | ⟨1, _⟩ => show win0_0.index t (1 : Fin 2) * 2048 + 1 * k.val = k.val; omega

theorem read1 (c : Dev nD) (t : Fin cfg0.N) (k : Fin 2048) (q : Fin 1024) :
    (iblk m c 1 t : Vec Ideal S2048x1024 .bf16) (ix2 k q) = m ((c.tc : Thread nD τ).loc main_arg1) (ix2 k q) := by
  obtain ⟨e0, e1⟩ := at1 t
  show m ((c.tc : Thread nD τ).loc main_arg1) (((cfg0.win 1).blk t).view.emb (ix2 k q)) = _
  refine congrArg _ (funext fun i => Fin.ext ?_)
  match i with
  | ⟨0, _⟩ => show win0_1.index t (0 : Fin 2) * 2048 + 1 * k.val = k.val; omega
  | ⟨1, _⟩ => show win0_1.index t (1 : Fin 2) * 1024 + 1 * q.val = q.val; omega

theorem read2 (c : Dev nD) (t : Fin cfg0.N) (q : Fin 1024) :
    (iblk m c 2 t : Vec Ideal S1x1024 .f32) (ix2 (0 : Fin 1) q) = m ((c.tc : Thread nD τ).loc main_arg2) (ix2 (0 : Fin 1) q) := by
  obtain ⟨e0, e1⟩ := at2 t
  show m ((c.tc : Thread nD τ).loc main_arg2) (((cfg0.win 2).blk t).view.emb (ix2 (0 : Fin 1) q)) = _
  refine congrArg _ (funext fun i => Fin.ext ?_)
  match i with
  | ⟨0, _⟩ => show win0_2.index t (0 : Fin 2) * 1 + 1 * 0 = 0; omega
  | ⟨1, _⟩ => show win0_2.index t (1 : Fin 2) * 1024 + 1 * q.val = q.val; omega

theorem read3 (c : Dev nD) (t : Fin cfg0.N) (r : Fin 2048) (q : Fin 128) (R : Fin 32768) (hR : R.val = 2048 * t.val + r.val) :
    (iblk m c 3 t : Vec Ideal S2048x128 .f32) (ix2 r q) = m ((c.tc : Thread nD τ).loc main_arg3) (ix2 R q) := by
  obtain ⟨e0, e1⟩ := at3 t
  show m ((c.tc : Thread nD τ).loc main_arg3) (((cfg0.win 3).blk t).view.emb (ix2 r q)) = _
  refine congrArg _ (funext fun i => Fin.ext ?_)
  match i with
  | ⟨0, _⟩ => show win0_3.index t (0 : Fin 2) * 2048 + 1 * r.val = R.val; omega
  | ⟨1, _⟩ => show win0_3.index t (1 : Fin 2) * 128 + 1 * q.val = q.val; omega

theorem read4 (c : Dev nD) (t : Fin cfg0.N) (r : Fin 2048) (q : Fin 128) (R : Fin 32768) (hR : R.val = 2048 * t.val + r.val) :
    (iblk m c 4 t : Vec Ideal S2048x128 .f32) (ix2 r q) = m ((c.tc : Thread nD τ).loc main_arg4) (ix2 R q) := by
  obtain ⟨e0, e1⟩ := at4 t
  show m ((c.tc : Thread nD τ).loc main_arg4) (((cfg0.win 4).blk t).view.emb (ix2 r q)) = _
  refine congrArg _ (funext fun i => Fin.ext ?_)
  match i with
  | ⟨0, _⟩ => show win0_4.index t (0 : Fin 2) * 2048 + 1 * r.val = R.val; omega
  | ⟨1, _⟩ => show win0_4.index t (1 : Fin 2) * 128 + 1 * q.val = q.val; omega

theorem scaled_block (c : Dev nD) (t : Fin cfg0.N) (r : Fin 2048) (q : Fin 1024) (R : Fin 32768) (hR : R.val = 2048 * t.val + r.val) :
    scaled (M := 2048) (iblk m c 0 t) (iblk m c 1 t) (iblk m c 2 t) r q
      = scaled (m ((c.tc : Thread nD τ).loc main_arg0)) (m ((c.tc : Thread nD τ).loc main_arg1)) (m ((c.tc : Thread nD τ).loc main_arg2)) R q :=
  congrArg₂ (· * ·) (Finset.sum_congr rfl fun k _ => congrArg₂ (· * ·) (read0 m c t r k R hR) (read1 m c t k q)) (read2 m c t q)

/-- What a grid point writes back is its block of the result. -/
theorem flushed (c : Dev nD) (t : Fin cfg0.N) :
    (dats m 0 c).flushed 5 t = ((cfg0.win 5).blk t).view.read (Elt Ideal)
      (result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
        : Buf (Elt Ideal) ((c.tc : Thread nD τ).loc main_v0)) := by
  obtain ⟨d0, d1⟩ := at5 t
  have ht : t.val < 16 := count ▸ t.isLt
  rw [Value.flushed5]
  refine funext fun (y : S2048x1024.Idx) => ?_
  obtain ⟨r, q, rfl⟩ : ∃ (r : Fin 2048) (q : Fin 1024), y = ix2 r q := ⟨y 0, y 1, Shape.idx_ext₂ rfl rfl⟩
  have h0 := r.isLt
  show out0_5 (F := Ideal) (iblk m c 0 t) (iblk m c 1 t) (iblk m c 2 t) (iblk m c 3 t) (iblk m c 4 t) (ix2 r q)
    = result _ _ _ _ _ (((cfg0.win 5).blk t).view.emb (ix2 r q))
  have e : ((cfg0.win 5).blk t).view.emb (ix2 r q) = (ix2 (⟨2048 * t.val + r.val, by omega⟩ : Fin 32768) q : S32768x1024.Idx) := by
    funext i; apply Fin.ext
    match i with
    | ⟨0, _⟩ => show win0_5.index t (0 : Fin 2) * 2048 + 1 * r.val = 2048 * t.val + r.val; omega
    | ⟨1, _⟩ => show win0_5.index t (1 : Fin 2) * 1024 + 1 * q.val = q.val; omega
  rw [e, out_apply]
  exact congrArg₂ (· + ·)
    (congrArg₂ (· * ·) (scaled_block m c t r q _ rfl) (read3 m c t r (lane q) _ rfl))
    (congrArg₂ (· * ·) (scaled_block m c t r (partner q) _ rfl) (read4 m c t r (lane q) _ rfl))

/-- Every entry of the result is written by some grid point. -/
theorem covered (i : S32768x1024.Idx) : ∃ t : Fin cfg0.N, (cfg0.win 5).flush t = true ∧ i ∈ ((cfg0.win 5).blk t).view.set := by
  have h0 : (i 0).val < 32768 := (i 0).isLt
  have h1 : (i 1).val < 1024 := (i 1).isLt
  have hN := count
  obtain ⟨t, ht⟩ : ∃ t : Fin cfg0.N, t.val = (i 0).val / 2048 := ⟨⟨(i 0).val / 2048, by omega⟩, rfl⟩
  refine ⟨t, flush0_5 t, ?_⟩
  obtain ⟨e0, e1⟩ := at5 t
  show i ∈ ((View.whole main_v0).slice (win0_5.rect t)).set
  rw [View.set_slice_whole, Rect.mem_set_unit]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 1024 ≤ (i 1).val ∧ (i 1).val < win0_5.index t (1 : Fin 2) * 1024 + 1024
    omega

/-- The result array after the run. -/
theorem final (c : Dev nD) : (dats m 0 c).arrAt 5 cfg0.N
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (dats m 0 c).arrAt_eq_of_cover 5 _ (fun t _ => flushed m c t) covered

end Kernel

section Reference
open Cert.Reference9Ideal Cert.Reference9Ideal.Read

variable (h : (⟨S32768x2048, .bf16⟩ : BufTy).Contents (Elt Ideal)) (w : (⟨S2048x1024, .bf16⟩ : BufTy).Contents (Elt Ideal))
  (s : (⟨S1x1024, .f32⟩ : BufTy).Contents (Elt Ideal)) (ct st : (⟨S32768x128, .f32⟩ : BufTy).Contents (Elt Ideal))

/-- The scaled product. -/
theorem reference_scaled (i : S32768x1024.Idx) : val_main_v2 (F := Ideal) h w s i = scaled h w s (i 0) (i 1) := by
  have d : val_main_v0 (F := Ideal) h w i = dot h w (i 0) (i 1) := by
    rw [val_main_v0_apply]
    exact Finset.sum_congr rfl fun k _ => congrArg₂ (· * ·) (congrArg h (Shape.idx_ext₂ rfl rfl)) (congrArg w (Shape.idx_ext₂ rfl rfl))
  rw [val_main_v2_apply, val_main_v1_apply, d]
  exact congrArg (dot h w (i 0) (i 1) * ·) (congrArg s (Shape.idx_ext₂ rfl rfl))

/-- Two arrays side by side along the last axis, read in the first and in the second. -/
theorem side_first (a b : S32768x16x32.Idx → EReal) (i : S32768x16x64.Idx) (j : S32768x16x32.Idx)
    (h0 : (j 0).val = (i 0).val) (h1 : (j 1).val = (i 1).val) (h2 : (j 2).val = (i 2).val) :
    concatenate S32768x16x64 2 [⟨S32768x16x32, a⟩, ⟨S32768x16x32, b⟩] Gen.concatenates_S32768x16x32_S32768x16x32_S32768x16x64_d2 i = a j := by
  refine concatenate_apply_piece (t := S32768x16x64) 2 [⟨S32768x16x32, a⟩, ⟨S32768x16x32, b⟩]
    Gen.concatenates_S32768x16x32_S32768x16x32_S32768x16x64_d2 i 0 (show 0 < 2 by omega) S32768x16x32 a rfl rfl 0 rfl j (fun d hd => ?_) ?_
  · match d with
    | ⟨0, _⟩ => exact h0
    | ⟨1, _⟩ => exact h1
    | ⟨2, _⟩ => exact absurd rfl hd
  · show 0 + (j 2).val = (i 2).val
    omega

theorem side_second (a b : S32768x16x32.Idx → EReal) (i : S32768x16x64.Idx) (j : S32768x16x32.Idx)
    (h0 : (j 0).val = (i 0).val) (h1 : (j 1).val = (i 1).val) (h2 : (i 2).val = 32 + (j 2).val) :
    concatenate S32768x16x64 2 [⟨S32768x16x32, a⟩, ⟨S32768x16x32, b⟩] Gen.concatenates_S32768x16x32_S32768x16x32_S32768x16x64_d2 i = b j := by
  refine concatenate_apply_piece (t := S32768x16x64) 2 [⟨S32768x16x32, a⟩, ⟨S32768x16x32, b⟩]
    Gen.concatenates_S32768x16x32_S32768x16x32_S32768x16x64_d2 i 1 (show 1 < 2 by omega) S32768x16x32 b rfl rfl 32 rfl j (fun d hd => ?_) ?_
  · match d with
    | ⟨0, _⟩ => exact h0
    | ⟨1, _⟩ => exact h1
    | ⟨2, _⟩ => exact absurd rfl hd
  · show 32 + (j 2).val = (i 2).val
    omega

/-- An index of three coordinates. -/
def ix (r : Fin 32768) (n : Fin 16) (k : Fin 64) : S32768x16x64.Idx := fun a => match a with
  | ⟨0, _⟩ => r
  | ⟨1, _⟩ => n
  | ⟨2, _⟩ => k

/-- The heads of the scaled product. -/
theorem heads (r : Fin 32768) (n : Fin 16) (k : Fin 64) (i : S32768x16x64.Idx) (h0 : (i 0).val = r.val) (h1 : (i 1).val = n.val) (h2 : (i 2).val = k.val)
    (c : Fin 1024) (hc : c.val = 64 * n.val + k.val) : val_main_v3 (F := Ideal) h w s i = scaled h w s r c := by
  have hn := n.isLt
  have hk := k.isLt
  have hr := r.isLt
  rw [val_main_v3_apply, reference_scaled]
  have e0 : (idx_main_v3 i) 0 = r := Fin.ext (by show (((i 0).val * 16 + (i 1).val) * 64 + (i 2).val) / 1024 = r.val; rw [h0, h1, h2]; omega)
  have e1 : (idx_main_v3 i) 1 = c := Fin.ext (by show (((i 0).val * 16 + (i 1).val) * 64 + (i 2).val) % 1024 = c.val; rw [h0, h1, h2]; omega)
  exact congrArg₂ (scaled h w s) e0 e1

/-- The halves exchanged. -/
theorem swapped (r : Fin 32768) (n : Fin 16) (k : Fin 64) (c : Fin 1024) (hc : c.val = 64 * n.val + k.val) :
    val_main_v6 (F := Ideal) h w s (ix r n k) = scaled h w s r (partner c) := by
  have hn := n.isLt
  have hk := k.isLt
  have hp : (partner c).val = if k.val < 32 then 64 * n.val + (k.val + 32) else 64 * n.val + (k.val - 32) := by
    show (if c.val % 64 < 32 then c.val + 32 else c.val - 32) = _
    have hm : c.val % 64 = k.val := by omega
    rw [hm]
    split <;> omega
  unfold val_main_v6
  by_cases hlt : k.val < 32
  · rw [if_pos hlt] at hp
    refine (side_first _ _ (ix r n k) (fun a => match a with
      | ⟨0, _⟩ => r
      | ⟨1, _⟩ => n
      | ⟨2, _⟩ => (⟨k.val, hlt⟩ : Fin 32)) rfl rfl rfl).trans ?_
    rw [val_main_v4_apply]
    exact heads h w s r n ⟨32 + k.val, by omega⟩ _ rfl rfl rfl (partner c) (by rw [hp]; show _ = 64 * n.val + (32 + k.val); omega)
  · rw [if_neg hlt] at hp
    refine (side_second _ _ (ix r n k) (fun a => match a with
      | ⟨0, _⟩ => r
      | ⟨1, _⟩ => n
      | ⟨2, _⟩ => (⟨k.val - 32, by omega⟩ : Fin 32)) rfl rfl (by show k.val = 32 + (k.val - 32); omega)).trans ?_
    rw [val_main_v5_apply]
    exact heads h w s r n ⟨k.val - 32, by omega⟩ _ rfl rfl rfl (partner c) (by rw [hp])

/-- The tables repeated over the heads. -/
theorem cosines (r : Fin 32768) (n : Fin 16) (k : Fin 64) (c : Fin 1024) (hc : c.val = 64 * n.val + k.val) :
    val_main_v10 (F := Ideal) ct (ix r n k) = ct (ix2 r (lane c)) := by
  have hn := n.isLt
  have hk := k.isLt
  have hr := r.isLt
  rw [val_main_v10_apply, val_main_v9_apply, val_main_v8_apply, val_main_v7_apply]
  have e1 : ((idx_main_v10 (ix r n k)) 1).val = c.val := by show ((r.val * 16 + n.val) * 64 + k.val) % 1024 = c.val; omega
  have e0 : ((idx_main_v10 (ix r n k)) 0).val = r.val := by show ((r.val * 16 + n.val) * 64 + k.val) / 1024 = r.val; omega
  generalize idx_main_v10 (ix r n k) = i at e0 e1
  have f1 : ((idx_main_v9 i) 1).val = r.val := by show ((i 0).val * 1024 + (i 1).val) / 1024 % 32768 = r.val; rw [e0, e1]; omega
  have f3 : ((idx_main_v9 i) 3).val = c.val % 128 := by show ((i 0).val * 1024 + (i 1).val) % 128 = c.val % 128; rw [e0, e1]; omega
  generalize idx_main_v9 i = j at f1 f3
  refine congrArg ct (Shape.idx_ext₂ ?_ ?_)
  · show (((0 * 32768 + (j 1).val) * 1 + 0) * 128 + (j 3).val) / 128 = r.val
    rw [f1, f3]; omega
  · show (((0 * 32768 + (j 1).val) * 1 + 0) * 128 + (j 3).val) % 128 = c.val % 128
    rw [f1, f3]; omega

theorem sines (r : Fin 32768) (n : Fin 16) (k : Fin 64) (c : Fin 1024) (hc : c.val = 64 * n.val + k.val) :
    val_main_v14 (F := Ideal) st (ix r n k) = st (ix2 r (lane c)) := by
  have hn := n.isLt
  have hk := k.isLt
  have hr := r.isLt
  rw [val_main_v14_apply, val_main_v13_apply, val_main_v12_apply, val_main_v11_apply]
  have e1 : ((idx_main_v14 (ix r n k)) 1).val = c.val := by show ((r.val * 16 + n.val) * 64 + k.val) % 1024 = c.val; omega
  have e0 : ((idx_main_v14 (ix r n k)) 0).val = r.val := by show ((r.val * 16 + n.val) * 64 + k.val) / 1024 = r.val; omega
  generalize idx_main_v14 (ix r n k) = i at e0 e1
  have f1 : ((idx_main_v13 i) 1).val = r.val := by show ((i 0).val * 1024 + (i 1).val) / 1024 % 32768 = r.val; rw [e0, e1]; omega
  have f3 : ((idx_main_v13 i) 3).val = c.val % 128 := by show ((i 0).val * 1024 + (i 1).val) % 128 = c.val % 128; rw [e0, e1]; omega
  generalize idx_main_v13 i = j at f1 f3
  refine congrArg st (Shape.idx_ext₂ ?_ ?_)
  · show (((0 * 32768 + (j 1).val) * 1 + 0) * 128 + (j 3).val) / 128 = r.val
    rw [f1, f3]; omega
  · show (((0 * 32768 + (j 1).val) * 1 + 0) * 128 + (j 3).val) % 128 = c.val % 128
    rw [f1, f3]; omega

/-- The reference's result. -/
theorem reference : val_main_v19 (F := Ideal) h w s ct st = result h w s ct st := by
  funext i
  obtain ⟨r, c, rfl⟩ : ∃ (r : Fin 32768) (c : Fin 1024), i = ix2 r c := ⟨i 0, i 1, Shape.idx_ext₂ rfl rfl⟩
  have hr := r.isLt
  have hc := c.isLt
  rw [val_main_v19_apply, val_main_v18_apply, val_main_v17_apply, val_main_v15_apply, val_main_v16_apply]
  have e : idx_main_v18 (ix2 r c) = ix r ⟨c.val / 64, by omega⟩ ⟨c.val % 64, by omega⟩ := by
    funext a; apply Fin.ext
    match a with
    | ⟨0, _⟩ => show (r.val * 1024 + c.val) / 1024 = r.val; omega
    | ⟨1, _⟩ => show (r.val * 1024 + c.val) / 64 % 16 = c.val / 64; omega
    | ⟨2, _⟩ => show (r.val * 1024 + c.val) % 64 = c.val % 64; omega
  have hs : c.val = 64 * (c.val / 64) + c.val % 64 := by omega
  rw [e, heads h w s r ⟨c.val / 64, by omega⟩ ⟨c.val % 64, by omega⟩ _ rfl rfl rfl c hs, swapped h w s r _ _ c hs, cosines ct r _ _ c hs, sines st r _ _ c hs]
  rfl

end Reference

end Cert.Proof.InProjRope
-- ==== Proof.MemoryKv.lean ====
module

public import proofs.«01_k».proof.Proof.FfnDownLast
public import proofs.«01_k».proof.Proof.Gen.Kernel10Ideal.Value
public import proofs.«01_k».proof.Proof.Gen.Kernel10Ideal.Points
public import proofs.«01_k».proof.Proof.Gen.Reference10Ideal.Run
public import proofs.«01_k».proof.Proof.Gen.Reference10Ideal.Read
public import Idealize.ShloMosaic.Lib.Claim
public import Idealize.ShloMosaic.Lib.MatmulPlain
public import Idealize.ShloMosaic.Lib.Pipeline.Value

/-!
The memory's keys and values: the array the kernel leaves, and the reference's, are the product of the memory's normalized rows with the weights.
-/

@[expose] public section
set_option maxRecDepth 16384
noncomputable section
namespace Cert.Proof.MemoryKv
open Cert.Proof.Layer
open Cert.Proof.FfnDown (asRow)
open Idealize.ShloMosaic Idealize.ShloMosaic.TcCoe Idealize.ShloMosaic.ValueIdx Idealize.SL Idealize.SL.Sem
open Idealize.ShloMosaic.Pipeline (Dat)
open scoped BigOperators

/-- The result as a function of the three arguments. -/
def result (x : (⟨2, ![4096, 2048]⟩ : Shape).Idx → EReal) (g : (⟨1, ![2048]⟩ : Shape).Idx → EReal) (w : (⟨2, ![2048, 1024]⟩ : Shape).Idx → EReal) :
    (⟨2, ![4096, 1024]⟩ : Shape).Idx → EReal :=
  fun i => ∑ k : Fin 2048, rms (fun k => x (ix2 (i 0) k)) (g (ix1 k)) k * w (ix2 k (i 1))

section Kernel
open Cert.Kernel10Ideal Cert.Kernel10Ideal.Gen

theorem zz : (![0, 0] : Fin 2 → ℕ) = fun _ => 0 := by funext a; fin_cases a <;> rfl

/-- What the body computes of its blocks, at an index. -/
theorem pay_apply (x : Vec Ideal S512x2048 .f32) (g : Vec Ideal S1x2048 .f32) (w : Vec Ideal S2048x1024 .bf16) (r : Fin 512) (c : Fin 1024) :
    k0_pay1 (F := Ideal) x g w (ix2 r c)
      = ∑ k : Fin 2048, rms (fun k => x (ix2 r k)) (g (ix2 (0 : Fin 1) k)) k * w (ix2 k c) := by
  have e : k0_pay1 (F := Ideal) x g w = truncf .bf16 (matmul (F := Ideal) (φ₁ := .bf16) (φ₂ := .bf16) dot_S512x2048_S2048x1024_S512x1024_1_0_0_1_n_n none
      (truncf .bf16 (FfnDownLast.norm x g) bitsLt_bf16_f32) w (constant S512x1024 .f32 0x00000000#32)) bitsLt_bf16_f32 := by
    unfold k0_pay1
    simp only [shapeCast_self]
    rfl
  rw [e, truncf_apply]
  refine (Ideal.matmul_plain_apply (M := 512) (K := 2048) (N := 1024) none _ _ _ r c).trans ?_
  rw [constant_apply, Ideal.ofBits_zero_f32, zero_add]
  refine Finset.sum_congr rfl fun k _ => ?_
  rw [truncf_apply, FfnDownLast.norm_apply]

variable (m : (ℓ : Loc nD τ sig) → Buf (Elt Ideal) ℓ)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem count : cfg0.N = 8 := by decide +kernel

/-! The blocks a grid point reads, as entries of the arguments. -/

theorem read0 (c : Dev nD) (t : Fin cfg0.N) (r : Fin 512) (k : Fin 2048) (R : Fin 4096) (hR : R.val = 512 * t.val + r.val) :
    (iblk m c 0 t : Vec Ideal S512x2048 .f32) (ix2 r k) = m ((c.tc : Thread nD τ).loc main_arg0) (ix2 R k) := by
  obtain ⟨e0, e1⟩ := at0 t
  show V m c main_arg0 (((cfg0.win 0).blk t).view.emb (ix2 r k)) = _
  rw [V_main_arg0]
  refine congrArg _ (funext fun i => Fin.ext ?_)
  match i with
  | ⟨0, _⟩ => show win0_0.index t (0 : Fin 2) * 512 + 1 * r.val = R.val; omega
  | ⟨1, _⟩ => show win0_0.index t (1 : Fin 2) * 2048 + 1 * k.val = k.val; omega

theorem read1 (c : Dev nD) (t : Fin cfg0.N) (q : Fin 2048) :
    (iblk m c 1 t : Vec Ideal S1x2048 .f32) (ix2 (0 : Fin 1) q) = m ((c.tc : Thread nD τ).loc main_arg1) (ix1 q) := by
  obtain ⟨e0, e1⟩ := at1 t
  show V m c main_v0 (((cfg0.win 1).blk t).view.emb (ix2 (0 : Fin 1) q)) = _
  have e : ((cfg0.win 1).blk t).view.emb (ix2 (0 : Fin 1) q) = (ix2 (0 : Fin 1) q : S1x2048.Idx) := by
    funext i; apply Fin.ext
    match i with
    | ⟨0, _⟩ => show win0_1.index t (0 : Fin 2) * 1 + 1 * 0 = 0; omega
    | ⟨1, _⟩ => show win0_1.index t (1 : Fin 2) * 2048 + 1 * q.val = q.val; omega
  rw [e]
  entry_read
  exact asRow _ _ q

theorem read2 (c : Dev nD) (t : Fin cfg0.N) (k : Fin 2048) (q : Fin 1024) :
    (iblk m c 2 t : Vec Ideal S2048x1024 .bf16) (ix2 k q) = m ((c.tc : Thread nD τ).loc main_arg2) (ix2 k q) := by
  obtain ⟨e0, e1⟩ := at2 t
  show V m c main_arg2 (((cfg0.win 2).blk t).view.emb (ix2 k q)) = _
  rw [V_main_arg2]
  refine congrArg _ (funext fun i => Fin.ext ?_)
  match i with
  | ⟨0, _⟩ => show win0_2.index t (0 : Fin 2) * 2048 + 1 * k.val = k.val; omega
  | ⟨1, _⟩ => show win0_2.index t (1 : Fin 2) * 1024 + 1 * q.val = q.val; omega

/-- What a grid point writes back is its block of the result. -/
theorem flushed (c : Dev nD) (t : Fin cfg0.N) :
    (dats m 0 c).flushed 3 t = ((cfg0.win 3).blk t).view.read (Elt Ideal)
      (result (m ((c.tc : Thread nD τ).loc main_arg0)) (m ((c.tc : Thread nD τ).loc main_arg1)) (m ((c.tc : Thread nD τ).loc main_arg2))
        : Buf (Elt Ideal) ((c.tc : Thread nD τ).loc main_v1)) := by
  obtain ⟨d0, d1⟩ := at3 t
  have ht : t.val < 8 := count ▸ t.isLt
  rw [Value.flushed3]
  unfold out0_3
  rw [View.canon_unit_zero zz, View.ld_unit_zero (S := S512x2048) zz, View.ld_unit_zero (S := S1x2048) zz, View.ld_unit_zero (S := S2048x1024) zz]
  refine funext fun (y : S512x1024.Idx) => ?_
  obtain ⟨r, q, rfl⟩ : ∃ (r : Fin 512) (q : Fin 1024), y = ix2 r q := ⟨y 0, y 1, Shape.idx_ext₂ rfl rfl⟩
  have h0 := r.isLt
  show k0_pay1 (F := Ideal) (iblk m c 0 t) (iblk m c 1 t) (iblk m c 2 t) (ix2 r q) = result _ _ _ (((cfg0.win 3).blk t).view.emb (ix2 r q))
  have e : ((cfg0.win 3).blk t).view.emb (ix2 r q) = (ix2 (⟨512 * t.val + r.val, by omega⟩ : Fin 4096) q : S4096x1024.Idx) := by
    funext i; apply Fin.ext
    match i with
    | ⟨0, _⟩ => show win0_3.index t (0 : Fin 2) * 512 + 1 * r.val = 512 * t.val + r.val; omega
    | ⟨1, _⟩ => show win0_3.index t (1 : Fin 2) * 1024 + 1 * q.val = q.val; omega
  rw [e, pay_apply]
  have ex : (fun k => (iblk m c 0 t : Vec Ideal S512x2048 .f32) (ix2 r k))
      = fun k => m ((c.tc : Thread nD τ).loc main_arg0) (ix2 (⟨512 * t.val + r.val, by omega⟩ : Fin 4096) k) :=
    funext fun k => read0 m c t r k _ rfl
  rw [ex]
  refine Finset.sum_congr rfl fun k _ => ?_
  rw [read1 m c t k, read2 m c t k q]

/-- Every entry of the result is written by some grid point. -/
theorem covered (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hN := count
  obtain ⟨t, ht⟩ : ∃ t : Fin cfg0.N, t.val = (i 0).val / 512 := ⟨⟨(i 0).val / 512, by omega⟩, rfl⟩
  refine ⟨t, flush0_3 t, ?_⟩
  obtain ⟨e0, e1⟩ := at3 t
  show i ∈ ((View.whole main_v1).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The result array after the run. -/
theorem final (c : Dev nD) : (dats m 0 c).arrAt 3 cfg0.N
    = result (m ((c.tc : Thread nD τ).loc main_arg0)) (m ((c.tc : Thread nD τ).loc main_arg1)) (m ((c.tc : Thread nD τ).loc main_arg2)) :=
  (dats m 0 c).arrAt_eq_of_cover 3 _ (fun t _ => flushed m c t) covered

end Kernel

section Reference
open Cert.Reference10Ideal Cert.Reference10Ideal.Read

variable (x : (⟨S4096x2048, .f32⟩ : BufTy).Contents (Elt Ideal)) (g : (⟨S2048, .f32⟩ : BufTy).Contents (Elt Ideal))

/-- The reference's normalized rows. -/
theorem reference_norm (i : S4096x2048.Idx) : val_main_v13 (F := Ideal) x g i = rms (fun k => x (ix2 (i 0) k)) (g (ix1 (i 1))) (i 1) := by
  rw [val_main_v13_apply, val_main_v12_apply, val_main_v11_apply, val_main_v10_apply, val_main_v9_apply, val_main_v8_apply,
    val_main_v7_apply, val_main_v6_apply, val_main_v5_apply, val_main_cst_1_apply, val_main_v4_apply, val_main_v3_apply,
    val_main_cst_0_apply, val_main_v2_apply, val_main_v1_apply, val_main_cst_apply]
  have e : ∑ k : Fin 2048, val_main_v0 (F := Ideal) x (idx_main_v1 (idx_main_v2 (idx_main_v8 i)) k)
      = ∑ k : Fin 2048, x (ix2 (i 0) k) * x (ix2 (i 0) k) :=
    Finset.sum_congr rfl fun k _ => by
      rw [val_main_v0_apply]
      exact congrArg₂ (· * ·) (congrArg x (Shape.idx_ext₂ rfl rfl)) (congrArg x (Shape.idx_ext₂ rfl rfl))
  rw [e]
  show x i * Ideal.rsqrt (Ideal.div (Ideal.ofBits .f32 0x00000000#32 + _) _ + _) * g _ = _
  rw [Ideal.ofBits_zero_f32, zero_add]
  have eg : (idx_main_v10 (idx_main_v11 i)) = (ix1 (i 1) : S2048.Idx) := by
    funext j; apply Fin.ext
    match j with
    | ⟨0, _⟩ => rfl
  have ex : x i = x (ix2 (i 0) (i 1)) := congrArg x (Shape.idx_ext₂ rfl rfl)
  rw [eg, ex]
  rfl

/-- The reference's result. -/
theorem reference (w : (⟨S2048x1024, .bf16⟩ : BufTy).Contents (Elt Ideal)) : val_main_v15 (F := Ideal) x g w = result x g w := by
  funext i
  rw [val_main_v15_apply, val_main_v14_apply]
  refine Finset.sum_congr rfl fun k _ => ?_
  rw [reference_norm]
  exact congrArg₂ (· * ·) rfl (congrArg w (Shape.idx_ext₂ rfl rfl))

end Reference

end Cert.Proof.MemoryKv
-- ==== Proof.Prenorm.lean ====
module

public import proofs.«01_k».proof.Proof.FfnDownLast
public import proofs.«01_k».proof.Proof.Gen.Kernel11Ideal.Value
public import proofs.«01_k».proof.Proof.Gen.Kernel11Ideal.Points
public import proofs.«01_k».proof.Proof.Gen.Reference11Ideal.Run
public import proofs.«01_k».proof.Proof.Gen.Reference11Ideal.Read
public import Idealize.ShloMosaic.Lib.Claim
public import Idealize.ShloMosaic.Lib.MatmulPlain
public import Idealize.ShloMosaic.Lib.Pipeline.Value

/-!
The first layer's normalized input: the array the kernel leaves, and the reference's, are the rows scaled to unit root mean square, times the gain.
-/

@[expose] public section
set_option maxRecDepth 16384
noncomputable section
namespace Cert.Proof.Prenorm
open Cert.Proof.Layer
open Cert.Proof.FfnDown (asRow)
open Idealize.ShloMosaic Idealize.ShloMosaic.TcCoe Idealize.ShloMosaic.ValueIdx Idealize.SL Idealize.SL.Sem
open Idealize.ShloMosaic.Pipeline (Dat)
open scoped BigOperators

/-- The result as a function of the two arguments. -/
def result (x : (⟨2, ![32768, 2048]⟩ : Shape).Idx → EReal) (g : (⟨1, ![2048]⟩ : Shape).Idx → EReal) : (⟨2, ![32768, 2048]⟩ : Shape).Idx → EReal :=
  fun i => rms (fun k => x (ix2 (i 0) k)) (g (ix1 (i 1))) (i 1)

section Kernel
open Cert.Kernel11Ideal Cert.Kernel11Ideal.Gen

theorem zz : (![0, 0] : Fin 2 → ℕ) = fun _ => 0 := by funext a; fin_cases a <;> rfl

/-- What the body computes of its blocks, at an index. -/
theorem pay_apply (x : Vec Ideal S512x2048 .f32) (g : Vec Ideal S1x2048 .f32) (r : Fin 512) (c : Fin 2048) :
    k0_pay1 (F := Ideal) x g (ix2 r c) = rms (fun k => x (ix2 r k)) (g (ix2 (0 : Fin 1) c)) c := by
  have e : k0_pay1 (F := Ideal) x g = truncf .bf16 (FfnDownLast.norm x g) bitsLt_bf16_f32 := by
    unfold k0_pay1
    simp only [shapeCast_self]
    rfl
  rw [e, truncf_apply, FfnDownLast.norm_apply]

variable (m : (ℓ : Loc nD τ sig) → Buf (Elt Ideal) ℓ)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem count : cfg0.N = 64 := by decide +kernel

/-! The blocks a grid point reads, as entries of the arguments. -/

theorem read0 (c : Dev nD) (t : Fin cfg0.N) (r : Fin 512) (k : Fin 2048) (R : Fin 32768) (hR : R.val = 512 * t.val + r.val) :
    (iblk m c 0 t : Vec Ideal S512x2048 .f32) (ix2 r k) = m ((c.tc : Thread nD τ).loc main_arg0) (ix2 R k) := by
  obtain ⟨e0, e1⟩ := at0 t
  show V m c main_arg0 (((cfg0.win 0).blk t).view.emb (ix2 r k)) = _
  rw [V_main_arg0]
  refine congrArg _ (funext fun i => Fin.ext ?_)
  match i with
  | ⟨0, _⟩ => show win0_0.index t (0 : Fin 2) * 512 + 1 * r.val = R.val; omega
  | ⟨1, _⟩ => show win0_0.index t (1 : Fin 2) * 2048 + 1 * k.val = k.val; omega

theorem read1 (c : Dev nD) (t : Fin cfg0.N) (q : Fin 2048) :
    (iblk m c 1 t : Vec Ideal S1x2048 .f32) (ix2 (0 : Fin 1) q) = m ((c.tc : Thread nD τ).loc main_arg1) (ix1 q) := by
  obtain ⟨e0, e1⟩ := at1 t
  show V m c main_v0 (((cfg0.win 1).blk t).view.emb (ix2 (0 : Fin 1) q)) = _
  have e : ((cfg0.win 1).blk t).view.emb (ix2 (0 : Fin 1) q) = (ix2 (0 : Fin 1) q : S1x2048.Idx) := by
    funext i; apply Fin.ext
    match i with
    | ⟨0, _⟩ => show win0_1.index t (0 : Fin 2) * 1 + 1 * 0 = 0; omega
    | ⟨1, _⟩ => show win0_1.index t (1 : Fin 2) * 2048 + 1 * q.val = q.val; omega
  rw [e]
  entry_read
  exact asRow _ _ q

/-- What a grid point writes back is its block of the result. -/
theorem flushed (c : Dev nD) (t : Fin cfg0.N) :
    (dats m 0 c).flushed 2 t = ((cfg0.win 2).blk t).view.read (Elt Ideal)
      (result (m ((c.tc : Thread nD τ).loc main_arg0)) (m ((c.tc : Thread nD τ).loc main_arg1))
        : Buf (Elt Ideal) ((c.tc : Thread nD τ).loc main_v1)) := by
  obtain ⟨d0, d1⟩ := at2 t
  have ht : t.val < 64 := count ▸ t.isLt
  rw [Value.flushed2]
  unfold out0_2
  rw [View.canon_unit_zero zz, View.ld_unit_zero (S := S512x2048) zz, View.ld_unit_zero (S := S1x2048) zz]
  refine funext fun (y : S512x2048.Idx) => ?_
  obtain ⟨r, q, rfl⟩ : ∃ (r : Fin 512) (q : Fin 2048), y = ix2 r q := ⟨y 0, y 1, Shape.idx_ext₂ rfl rfl⟩
  have h0 := r.isLt
  show k0_pay1 (F := Ideal) (iblk m c 0 t) (iblk m c 1 t) (ix2 r q) = result _ _ (((cfg0.win 2).blk t).view.emb (ix2 r q))
  have e : ((cfg0.win 2).blk t).view.emb (ix2 r q) = (ix2 (⟨512 * t.val + r.val, by omega⟩ : Fin 32768) q : S32768x2048.Idx) := by
    funext i; apply Fin.ext
    match i with
    | ⟨0, _⟩ => show win0_2.index t (0 : Fin 2) * 512 + 1 * r.val = 512 * t.val + r.val; omega
    | ⟨1, _⟩ => show win0_2.index t (1 : Fin 2) * 2048 + 1 * q.val = q.val; omega
  rw [e, pay_apply]
  rw [read1 m c t q]
  have ex : (fun k => (iblk m c 0 t : Vec Ideal S512x2048 .f32) (ix2 r k))
      = fun k => m ((c.tc : Thread nD τ).loc main_arg0) (ix2 (⟨512 * t.val + r.val, by omega⟩ : Fin 32768) k) :=
    funext fun k => read0 m c t r k _ rfl
  rw [ex]
  rfl

/-- Every entry of the result is written by some grid point. -/
theorem covered (i : S32768x2048.Idx) : ∃ t : Fin cfg0.N, (cfg0.win 2).flush t = true ∧ i ∈ ((cfg0.win 2).blk t).view.set := by
  have h0 : (i 0).val < 32768 := (i 0).isLt
  have h1 : (i 1).val < 2048 := (i 1).isLt
  have hN := count
  obtain ⟨t, ht⟩ : ∃ t : Fin cfg0.N, t.val = (i 0).val / 512 := ⟨⟨(i 0).val / 512, by omega⟩, rfl⟩
  refine ⟨t, flush0_2 t, ?_⟩
  obtain ⟨e0, e1⟩ := at2 t
  show i ∈ ((View.whole main_v1).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- The result array after the run. -/
theorem final (c : Dev nD) : (dats m 0 c).arrAt 2 cfg0.N
    = result (m ((c.tc : Thread nD τ).loc main_arg0)) (m ((c.tc : Thread nD τ).loc main_arg1)) :=
  (dats m 0 c).arrAt_eq_of_cover 2 _ (fun t _ => flushed m c t) covered

end Kernel

section Reference
open Cert.Reference11Ideal Cert.Reference11Ideal.Read

variable (x : (⟨S32768x2048, .f32⟩ : BufTy).Contents (Elt Ideal)) (g : (⟨S2048, .f32⟩ : BufTy).Contents (Elt Ideal))

/-- The reference's normalized rows. -/
theorem reference_norm (i : S32768x2048.Idx) : val_main_v13 (F := Ideal) x g i = rms (fun k => x (ix2 (i 0) k)) (g (ix1 (i 1))) (i 1) := by
  rw [val_main_v13_apply, val_main_v12_apply, val_main_v11_apply, val_main_v10_apply, val_main_v9_apply, val_main_v8_apply,
    val_main_v7_apply, val_main_v6_apply, val_main_v5_apply, val_main_cst_1_apply, val_main_v4_apply, val_main_v3_apply,
    val_main_cst_0_apply, val_main_v2_apply, val_main_v1_apply, val_main_cst_apply]
  have e : ∑ k : Fin 2048, val_main_v0 (F := Ideal) x (idx_main_v1 (idx_main_v2 (idx_main_v8 i)) k)
      = ∑ k : Fin 2048, x (ix2 (i 0) k) * x (ix2 (i 0) k) :=
    Finset.sum_congr rfl fun k _ => by
      rw [val_main_v0_apply]
      exact congrArg₂ (· * ·) (congrArg x (Shape.idx_ext₂ rfl rfl)) (congrArg x (Shape.idx_ext₂ rfl rfl))
  rw [e]
  show x i * Ideal.rsqrt (Ideal.div (Ideal.ofBits .f32 0x00000000#32 + _) _ + _) * g _ = _
  rw [Ideal.ofBits_zero_f32, zero_add]
  have eg : (idx_main_v10 (idx_main_v11 i)) = (ix1 (i 1) : S2048.Idx) := by
    funext j; apply Fin.ext
    match j with
    | ⟨0, _⟩ => rfl
  have ex : x i = x (ix2 (i 0) (i 1)) := congrArg x (Shape.idx_ext₂ rfl rfl)
  rw [eg, ex]
  rfl

/-- The reference's result. -/
theorem reference : val_main_v13 (F := Ideal) x g = result x g := funext fun i => reference_norm x g i

end Reference

end Cert.Proof.Prenorm
-- ==== Proof.lean ====
/-
The attention kernel, its idealization, and the plain reference: every program runs to its end and leaves its arguments
alone, the idealization only names a constant, and over the extended reals the kernel's result is the reference's.
-/
module

public import proofs.«01_k».proof.Defs
public import proofs.«01_k».proof.Proof.Kernel.Run
public import proofs.«01_k».proof.Proof.KernelIdeal.Run
public import proofs.«01_k».proof.Proof.KernelIdeal.Result
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.Pre_finite_scores
public import proofs.«01_k».proof.Proof.Gen.ReferenceIdeal.Run
public import proofs.«01_k».proof.Proof.Gen.ReferenceIdeal.Read
public import proofs.«01_k».proof.Proof.FfnUp
public import proofs.«01_k».proof.Proof.InProj
public import proofs.«01_k».proof.Proof.InProjVt
public import proofs.«01_k».proof.Proof.FfnDown
public import proofs.«01_k».proof.Proof.FfnDownLast
public import proofs.«01_k».proof.Proof.MixOut
public import proofs.«01_k».proof.Proof.CrossAttention
public import proofs.«01_k».proof.Proof.InProjRope
public import proofs.«01_k».proof.Proof.MemoryKv
public import proofs.«01_k».proof.Proof.Prenorm
public import proofs.«01_k».proof.Proof.Gen.Kernel2
public import proofs.«01_k».proof.Proof.Gen.Kernel2Ideal
public import proofs.«01_k».proof.Proof.Gen.Kernel2.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_finite_cross
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.ValueIdx Idealize.SL.Sem

/-- The kernel runs to its end from any memory, its arguments unchanged. -/
theorem frame_p : Cert.quiescent_Kernel := fun m ρ _ => Kernel.frame m ρ

/-- So does its idealization. -/
theorem frame_pi : Cert.quiescent_KernelIdeal := fun m ρ _ => KernelIdeal.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one change the idealization makes: the printed constant is named `-1 / log 2`. -/
theorem preserves : Cert.preserves_Kernel_KernelIdeal :=
  IdealRules.named_const.statement Cert.KernelIdeal.κ "neg_log2e" .f32 0xBFB8AA3B#32 ((-((Real.log 2)⁻¹) : ℝ) : EReal) rfl

/-- `finite_scores` says of the array of queries and keys that every query and key entry is a real number. -/
theorem finite_of_pre [h : Cert.Pre_finite_scores.Facts] (x0 : FVec Ideal Cert.Pre_finite_scores.S32768x3072 .bf16)
    (x1 : FVec Ideal Cert.Pre_finite_scores.S128x2048x256 .bf16) (hpre : Cert.Pre_finite_scores.fn (F := Ideal) x0 x1 = fun _ => 1#1) :
    Math.Finite x0 := by
  intro r c hc
  have hr := congrFun hpre (ix2 r (⟨c.val, hc⟩ : Fin 1536))
  have e : Cert.Pre_finite_scores.fn (F := Ideal) x0 x1 (ix2 r (⟨c.val, hc⟩ : Fin 1536))
      = BitVec.ofBool (decide (max (x0 (ix2 r c)) (-(x0 (ix2 r c))) < (⊤ : EReal))) := by
    have es : extractStridedSlice Cert.Pre_finite_scores.S32768x1536 ![0, 0] x0 h.slices_S32768x3072_S32768x1536_0_0
        (ix2 r (⟨c.val, hc⟩ : Fin 1536)) = x0 (ix2 r c) := by
      refine congrArg x0 (Shape.idx_ext₂ ?_ ?_)
      · show 0 + r.val = r.val; omega
      · show 0 + c.val = c.val; omega
    have ec : Ideal.ofBits .bf16 0x7F80#16 = ⊤ := by simp [Ideal.ofBits, Ideal.ieee]
    show BitVec.ofBool (decide (max (extractStridedSlice Cert.Pre_finite_scores.S32768x1536 ![0, 0] x0 _ (ix2 r (⟨c.val, hc⟩ : Fin 1536)))
      (-(extractStridedSlice Cert.Pre_finite_scores.S32768x1536 ![0, 0] x0 _ (ix2 r (⟨c.val, hc⟩ : Fin 1536)))) < Ideal.ofBits .bf16 0x7F80#16)) = _
    rw [es, ec]
  rw [e] at hr
  have hlt : max (x0 (ix2 r c)) (-(x0 (ix2 r c))) < (⊤ : EReal) := by
    by_contra hn
    rw [decide_eq_false hn] at hr
    exact absurd hr (by decide)
  unfold Math.entry
  have ei : (ix2 (Fin.ofNat 32768 r.val) (Fin.ofNat 3072 c.val)) = ix2 r c :=
    Shape.idx_ext₂ (Nat.mod_eq_of_lt r.isLt) (Nat.mod_eq_of_lt c.isLt)
  rw [ei]
  refine (EReal.coe_toReal (fun ht => ?_) (fun hb => ?_)).symm
  · rw [ht] at hlt; simp at hlt
  · rw [hb] at hlt; simp at hlt

/-- Over the extended reals the kernel and the reference both compute the stick-breaking attention. -/
theorem algebraic [Cert.Pre_finite_scores.Facts] : Cert.algebraic_KernelIdeal_ReferenceIdeal_pre_finite_scores := by
  intro m ρ m' ρ' hpre hagree
  have hx := fun c => finite_of_pre _ _ (hpre c)
  refine ⟨_, KernelIdeal.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2]
  funext y
  exact Reference.result _ _ (hx c) y

/-! The gated up projection. -/

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Over the extended reals the gated up projection and its reference compute the same array. -/
theorem algebraic2 : Cert.algebraic_Kernel2Ideal_Reference2Ideal := by
  intro m ρ m' ρ' _ hagree
  refine ⟨_, (θ_run Cert.Kernel2Ideal.defs _ _).mono (fun _ h c => ⟨(h c).1.trans (FfnUp.final m c), (h c).2⟩)
    (Cert.Kernel2Ideal.Value.run_blocks m ρ), ?_⟩
  refine (θ_run Cert.Reference2Ideal.defs _ _).mono (fun _ h c => ⟨(h c).1.trans ?_, (h c).2⟩)
    (Cert.Reference2Ideal.Value.run (F := Ideal) m' ρ')
  rw [Cert.Reference2Ideal.Read.val_main_v4_eq, (hagree c).1, (hagree c).2.1, (hagree c).2.2]
  exact FfnUp.reference _ _ _

/-! The input projection. -/

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Over the extended reals the input projection and its reference compute the same array. -/
theorem algebraic3 : Cert.algebraic_Kernel3Ideal_Reference3Ideal := by
  intro m ρ m' ρ' _ hagree
  refine ⟨_, (θ_run Cert.Kernel3Ideal.defs _ _).mono (fun _ h c => ⟨(h c).1.trans (InProj.final m c), (h c).2⟩)
    (Cert.Kernel3Ideal.Value.run_blocks m ρ), ?_⟩
  refine (θ_run Cert.Reference3Ideal.defs _ _).mono (fun _ h c => ⟨(h c).1.trans ?_, (h c).2⟩)
    (Cert.Reference3Ideal.Value.run (F := Ideal) m' ρ')
  rw [Cert.Reference3Ideal.Read.val_main_v3_eq, (hagree c).1, (hagree c).2.1, (hagree c).2.2]
  exact InProj.reference _ _ _

/-! The value projection. -/

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Over the extended reals the value projection and its reference compute the same array. -/
theorem algebraic4 : Cert.algebraic_Kernel4Ideal_Reference4Ideal := by
  intro m ρ m' ρ' _ hagree
  refine ⟨_, (θ_run Cert.Kernel4Ideal.defs _ _).mono (fun _ h c => ⟨(h c).1.trans (InProjVt.final m c), (h c).2⟩)
    (Cert.Kernel4Ideal.Value.run_blocks m ρ), ?_⟩
  refine (θ_run Cert.Reference4Ideal.defs _ _).mono (fun _ h c => ⟨(h c).1.trans ?_, (h c).2⟩)
    (Cert.Reference4Ideal.Value.run (F := Ideal) m' ρ')
  rw [Cert.Reference4Ideal.Read.val_main_v4_eq, (hagree c).1, (hagree c).2]
  exact InProjVt.reference _ _

/-! The down projection. -/

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- Over the extended reals the down projection and its reference compute the same two arrays. -/
theorem algebraic5 : Cert.algebraic_Kernel5Ideal_Reference5Ideal := by
  intro m ρ m' ρ' _ hagree
  refine ⟨_, _, (θ_run Cert.Kernel5Ideal.defs _ _).mono
    (fun _ h c => ⟨(h c).1.trans (FfnDown.final_stream m c), (h c).2.1.trans (FfnDown.final_next m c), (h c).2.2⟩)
    (Cert.Kernel5Ideal.Value.run_blocks m ρ), ?_⟩
  refine (θ_run Cert.Reference5Ideal.defs _ _).mono (fun _ h c => ⟨(h c).1.trans ?_, (h c).2.1.trans ?_, (h c).2.2⟩)
    (Cert.Reference5Ideal.Value.run (F := Ideal) m' ρ')
  · rw [Cert.Reference5Ideal.Read.val_main_v14_eq, (hagree c).1, (hagree c).2.1, (hagree c).2.2.1, (hagree c).2.2.2.1]
    exact FfnDown.reference_stream _ _ _ _
  · rw [Cert.Reference5Ideal.Read.val_main_v28_eq, (hagree c).1, (hagree c).2.1, (hagree c).2.2.1, (hagree c).2.2.2.1, (hagree c).2.2.2.2]
    exact FfnDown.reference_next _ _ _ _ _

/-! The down projection of the last layer. -/

theorem frame_p6 : Cert.quiescent_Kernel6 := fun m ρ _ => Cert.Kernel6.Gen.frame m ρ

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- Over the extended reals the last layer's down projection and its reference compute the same array. -/
theorem algebraic6 : Cert.algebraic_Kernel6Ideal_Reference6Ideal := by
  intro m ρ m' ρ' _ hagree
  refine ⟨_, (θ_run Cert.Kernel6Ideal.defs _ _).mono (fun _ h c => ⟨(h c).1.trans (FfnDownLast.final_stream m c), (h c).2⟩)
    (Cert.Kernel6Ideal.Value.run_blocks m ρ), ?_⟩
  refine (θ_run Cert.Reference6Ideal.defs _ _).mono (fun _ h c => ⟨(h c).1.trans ?_, (h c).2⟩)
    (Cert.Reference6Ideal.Value.run (F := Ideal) m' ρ')
  rw [Cert.Reference6Ideal.Read.val_main_v14_eq, (hagree c).1, (hagree c).2.1, (hagree c).2.2.1, (hagree c).2.2.2]
  exact FfnDownLast.reference_stream _ _ _ _

/-! The mixer's output projection. -/

theorem frame_p7 : Cert.quiescent_Kernel7 := fun m ρ _ => Cert.Kernel7.Gen.frame m ρ

theorem frame_pi7 : Cert.quiescent_Kernel7Ideal := fun m ρ _ => Cert.Kernel7Ideal.Gen.frame m ρ

theorem frame_ri7 : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- Over the extended reals the mixer's output projection and its reference compute the same two arrays. -/
theorem algebraic7 : Cert.algebraic_Kernel7Ideal_Reference7Ideal := by
  intro m ρ m' ρ' _ hagree
  refine ⟨_, _, (θ_run Cert.Kernel7Ideal.defs _ _).mono
    (fun _ h c => ⟨(h c).1.trans (MixOut.final_stream m c), (h c).2.1.trans (MixOut.final_next m c), (h c).2.2⟩)
    (Cert.Kernel7Ideal.Value.run_blocks m ρ), ?_⟩
  refine (θ_run Cert.Reference7Ideal.defs _ _).mono (fun _ h c => ⟨(h c).1.trans ?_, (h c).2.1.trans ?_, (h c).2.2⟩)
    (Cert.Reference7Ideal.Value.run (F := Ideal) m' ρ')
  · obtain ⟨e0, e1, e2, e3, e4, e5, e6, e7, -⟩ := hagree c
    rw [Cert.Reference7Ideal.Read.val_main_v45_eq, e0, e1, e2, e3, e4, e5, e6, e7]
    exact MixOut.reference_stream _ _ _ _ _ _ _ _
  · obtain ⟨e0, e1, e2, e3, e4, e5, e6, e7, e8⟩ := hagree c
    rw [Cert.Reference7Ideal.Read.val_main_v59_eq, e0, e1, e2, e3, e4, e5, e6, e7, e8]
    exact MixOut.reference_next _ _ _ _ _ _ _ _ _

/-! The cross attention. -/

theorem frame_p8 : Cert.quiescent_Kernel8 := fun m ρ _ => Cert.Kernel8.Gen.frame m ρ

theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

/-- An extended real whose magnitude compares below infinity is a real number. -/
theorem real_of_bit (x : EReal) (h : BitVec.ofBool (decide (max x (-x) < Ideal.ofBits .bf16 0x7F80#16)) = 1#1) : CrossAttention.Real x := by
  have ec : Ideal.ofBits .bf16 0x7F80#16 = ⊤ := by simp [Ideal.ofBits, Ideal.ieee]
  rw [ec] at h
  have hlt : max x (-x) < (⊤ : EReal) := by
    by_contra hn
    rw [decide_eq_false hn] at h
    exact absurd h (by decide)
  refine ⟨x.toReal, (EReal.coe_toReal (fun ht => ?_) (fun hb => ?_)).symm⟩
  · rw [ht] at hlt; simp at hlt
  · rw [hb] at hlt; simp at hlt

section FiniteCross
variable [f : Cert.Pre_finite_cross.Facts] (x0 : FVec Ideal Cert.Pre_finite_cross.S32768x2048 .bf16) (x1 : FVec Ideal Cert.Pre_finite_cross.S32768x2048 .f32)
  (x2 : FVec Ideal Cert.Pre_finite_cross.S4096x1024 .bf16) (x3 : FVec Ideal Cert.Pre_finite_cross.S2048x512 .bf16)
  (x4 : FVec Ideal Cert.Pre_finite_cross.S512x2048 .bf16) (x5 x6 : FVec Ideal Cert.Pre_finite_cross.S2048 .f32)

theorem finite_input (hp : (Cert.Pre_finite_cross.fn (F := Ideal) x0 x1 x2 x3 x4 x5 x6).1 = fun _ => 1#1) (i : Cert.Pre_finite_cross.S32768x2048.Idx) :
    CrossAttention.Real (x0 i) := real_of_bit _ (congrFun hp i)

theorem finite_weights (hp : (Cert.Pre_finite_cross.fn (F := Ideal) x0 x1 x2 x3 x4 x5 x6).2.1 = fun _ => 1#1) (i : Cert.Pre_finite_cross.S2048x512.Idx) :
    CrossAttention.Real (x3 i) := real_of_bit _ (congrFun hp i)

theorem finite_keys (hp : (Cert.Pre_finite_cross.fn (F := Ideal) x0 x1 x2 x3 x4 x5 x6).2.2 = fun _ => 1#1) (r : Fin 4096) (k : Fin 1024)
    (hk : k.val < 512) : CrossAttention.Real (x2 (ix2 r k)) := by
  have hb := congrFun hp (ix2 r (⟨k.val, hk⟩ : Fin 512))
  have e : extractStridedSlice Cert.Pre_finite_cross.S4096x512 ![0, 0] x2 f.slices_S4096x1024_S4096x512_0_0 (ix2 r (⟨k.val, hk⟩ : Fin 512))
      = x2 (ix2 r k) := by
    refine congrArg x2 (Shape.idx_ext₂ ?_ ?_)
    · show 0 + r.val = r.val; omega
    · show 0 + k.val = k.val; omega
  have h : CrossAttention.Real (extractStridedSlice Cert.Pre_finite_cross.S4096x512 ![0, 0] x2 f.slices_S4096x1024_S4096x512_0_0
      (ix2 r (⟨k.val, hk⟩ : Fin 512))) := real_of_bit _ hb
  rwa [e] at h

end FiniteCross

/-- Over the extended reals the cross attention and its reference compute the same two arrays. -/
theorem algebraic8 [Cert.Pre_finite_cross.Facts] : Cert.algebraic_Kernel8Ideal_Reference8Ideal_pre_finite_cross := by
  intro m ρ m' ρ' hpre hagree
  refine ⟨_, _, (θ_run Cert.Kernel8Ideal.defs _ _).mono
    (fun _ h c => ⟨(h c).1.trans (CrossAttention.final_stream m c), (h c).2.1.trans (CrossAttention.final_next m c), (h c).2.2⟩)
    (Cert.Kernel8Ideal.Value.run_blocks m ρ), ?_⟩
  refine (θ_run Cert.Reference8Ideal.defs _ _).mono (fun _ h c => ⟨(h c).1.trans ?_, (h c).2.1.trans ?_, (h c).2.2⟩)
    (Cert.Reference8Ideal.Value.run (F := Ideal) m' ρ')
  · obtain ⟨e0, e1, e2, e3, e4, e5, -⟩ := hagree c
    obtain ⟨p0, p1, p2⟩ := hpre c
    rw [Cert.Reference8Ideal.Read.val_main_v38_eq, e0, e1, e2, e3, e4, e5]
    exact CrossAttention.reference_stream _ _ _ _ _ _ (finite_input _ _ _ _ _ _ _ p0) (finite_weights _ _ _ _ _ _ _ p1) (finite_keys _ _ _ _ _ _ _ p2)
  · obtain ⟨e0, e1, e2, e3, e4, e5, e6⟩ := hagree c
    obtain ⟨p0, p1, p2⟩ := hpre c
    rw [Cert.Reference8Ideal.Read.val_main_v52_eq, e0, e1, e2, e3, e4, e5, e6]
    exact CrossAttention.reference_next _ _ _ _ _ _ _ (finite_input _ _ _ _ _ _ _ p0) (finite_weights _ _ _ _ _ _ _ p1) (finite_keys _ _ _ _ _ _ _ p2)

theorem frame_p9 : Cert.quiescent_Kernel9 := fun m ρ _ => Cert.Kernel9.Gen.frame m ρ

theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem algebraic9 : Cert.algebraic_Kernel9Ideal_Reference9Ideal := by
  intro m ρ m' ρ' _ hagree
  refine ⟨_, (θ_run Cert.Kernel9Ideal.defs _ _).mono (fun _ h c => ⟨(h c).1.trans (InProjRope.final m c), (h c).2⟩)
    (Cert.Kernel9Ideal.Value.run_blocks m ρ), ?_⟩
  refine (θ_run Cert.Reference9Ideal.defs _ _).mono (fun _ h c => ⟨(h c).1.trans ?_, (h c).2⟩)
    (Cert.Reference9Ideal.Value.run (F := Ideal) m' ρ')
  rw [Cert.Reference9Ideal.Read.val_main_v19_eq, (hagree c).1, (hagree c).2.1, (hagree c).2.2.1, (hagree c).2.2.2.1, (hagree c).2.2.2.2]
  exact InProjRope.reference _ _ _ _ _

theorem frame_p10 : Cert.quiescent_Kernel10 := fun m ρ _ => Cert.Kernel10.Gen.frame m ρ

theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem algebraic10 : Cert.algebraic_Kernel10Ideal_Reference10Ideal := by
  intro m ρ m' ρ' _ hagree
  refine ⟨_, (θ_run Cert.Kernel10Ideal.defs _ _).mono (fun _ h c => ⟨(h c).1.trans (MemoryKv.final m c), (h c).2⟩)
    (Cert.Kernel10Ideal.Value.run_blocks m ρ), ?_⟩
  refine (θ_run Cert.Reference10Ideal.defs _ _).mono (fun _ h c => ⟨(h c).1.trans ?_, (h c).2⟩)
    (Cert.Reference10Ideal.Value.run (F := Ideal) m' ρ')
  rw [Cert.Reference10Ideal.Read.val_main_v15_eq, (hagree c).1, (hagree c).2.1, (hagree c).2.2]
  exact MemoryKv.reference _ _ _

theorem frame_p11 : Cert.quiescent_Kernel11 := fun m ρ _ => Cert.Kernel11.Gen.frame m ρ

theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem algebraic11 : Cert.algebraic_Kernel11Ideal_Reference11Ideal := by
  intro m ρ m' ρ' _ hagree
  refine ⟨_, (θ_run Cert.Kernel11Ideal.defs _ _).mono (fun _ h c => ⟨(h c).1.trans (Prenorm.final m c), (h c).2⟩)
    (Cert.Kernel11Ideal.Value.run_blocks m ρ), ?_⟩
  refine (θ_run Cert.Reference11Ideal.defs _ _).mono (fun _ h c => ⟨(h c).1.trans ?_, (h c).2⟩)
    (Cert.Reference11Ideal.Value.run (F := Ideal) m' ρ')
  rw [Cert.Reference11Ideal.Read.val_main_v13_eq, (hagree c).1, (hagree c).2]
  exact Prenorm.reference _ _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_finite_scores.Gen.facts, Cert.Pre_finite_cross.Gen.facts,
    frame_p, frame_pi, fun m ρ _ => frame_pi m ρ trivial, frame_ri, fun m ρ _ => frame_ri m ρ trivial,
    frame_p2, frame_pi2, frame_ri2,
    frame_p3, frame_pi3, frame_ri3,
    frame_p4, frame_pi4, frame_ri4,
    frame_p5, frame_pi5, frame_ri5,
    frame_p6, frame_pi6, frame_ri6,
    frame_p7, frame_pi7, frame_ri7,
    frame_p8, frame_pi8, fun m ρ _ => frame_pi8 m ρ trivial, frame_ri8, fun m ρ _ => frame_ri8 m ρ trivial,
    frame_p9, frame_pi9, frame_ri9,
    frame_p10, frame_pi10, frame_ri10,
    frame_p11, frame_pi11, frame_ri11,
    preserves, algebraic, trivial, algebraic2, trivial, algebraic3, trivial, algebraic4, trivial, algebraic5, trivial, algebraic6, trivial, algebraic7, trivial, algebraic8,
    trivial, algebraic9, trivial, algebraic10, trivial, algebraic11⟩

end Cert.Proof

end
